-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite [hPre_finite : Cert.Pre_finite.Facts] (m : (ℓ : Loc Cert.GqaIdeal.nD Cert.GqaIdeal.τ Cert.GqaIdeal.sig) → Buf (Elt Ideal) ℓ) : Prop :=
  ∀ c : Dev Cert.GqaIdeal.nD,
    (Cert.Pre_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite [hPre_finite : Cert.Pre_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AdaLn (m : (ℓ : Loc Cert.AdaLn.nD Cert.AdaLn.τ Cert.AdaLn.sig) → Buf (Elt Bits) ℓ) : Prop :=
  True

def Pre_AdaLnIdeal (m : (ℓ : Loc Cert.AdaLnIdeal.nD Cert.AdaLnIdeal.τ Cert.AdaLnIdeal.sig) → Buf (Elt Ideal) ℓ) : Prop :=
  True

def Pre_AdaLnRefIdeal (m : (ℓ : Loc Cert.AdaLnRefIdeal.nD Cert.AdaLnRefIdeal.τ Cert.AdaLnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaIdeal_pre_finite [hGqaIdeal : Cert.GqaIdeal.Facts] [hPre_finite : Cert.Pre_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_GqaRefIdeal_pre_finite [hGqaRefIdeal : Cert.GqaRefIdeal.Facts] [hPre_finite : Cert.Pre_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5)
      ∧ r.2.mem ((c.tc : Thread Cert.FfnFirst.nD Cert.FfnFirst.τ).loc Cert.FfnFirst.main_arg6) = m ((c.tc : Thread Cert.FfnFirst.nD Cert.FfnFirst.τ).loc Cert.FfnFirst.main_arg6)
      ∧ r.2.mem ((c.tc : Thread Cert.FfnFirst.nD Cert.FfnFirst.τ).loc Cert.FfnFirst.main_arg7) = m ((c.tc : Thread Cert.FfnFirst.nD Cert.FfnFirst.τ).loc Cert.FfnFirst.main_arg7)
      ∧ r.2.mem ((c.tc : Thread Cert.FfnFirst.nD Cert.FfnFirst.τ).loc Cert.FfnFirst.main_arg8) = m ((c.tc : Thread Cert.FfnFirst.nD Cert.FfnFirst.τ).loc Cert.FfnFirst.main_arg8)
      ∧ r.2.mem ((c.tc : Thread Cert.FfnFirst.nD Cert.FfnFirst.τ).loc Cert.FfnFirst.main_arg9) = m ((c.tc : Thread Cert.FfnFirst.nD Cert.FfnFirst.τ).loc Cert.FfnFirst.main_arg9))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
      ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
      ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7)
      ∧ r.2.mem ((c.tc : Thread Cert.FfnFirstIdeal.nD Cert.FfnFirstIdeal.τ).loc Cert.FfnFirstIdeal.main_arg8) = m ((c.tc : Thread Cert.FfnFirstIdeal.nD Cert.FfnFirstIdeal.τ).loc Cert.FfnFirstIdeal.main_arg8)
      ∧ r.2.mem ((c.tc : Thread Cert.FfnFirstIdeal.nD Cert.FfnFirstIdeal.τ).loc Cert.FfnFirstIdeal.main_arg9) = m ((c.tc : Thread Cert.FfnFirstIdeal.nD Cert.FfnFirstIdeal.τ).loc Cert.FfnFirstIdeal.main_arg9))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5)
      ∧ r.2.mem ((c.tc : Thread Cert.FfnFirstRefIdeal.nD Cert.FfnFirstRefIdeal.τ).loc Cert.FfnFirstRefIdeal.main_arg6) = m ((c.tc : Thread Cert.FfnFirstRefIdeal.nD Cert.FfnFirstRefIdeal.τ).loc Cert.FfnFirstRefIdeal.main_arg6)
      ∧ r.2.mem ((c.tc : Thread Cert.FfnFirstRefIdeal.nD Cert.FfnFirstRefIdeal.τ).loc Cert.FfnFirstRefIdeal.main_arg7) = m ((c.tc : Thread Cert.FfnFirstRefIdeal.nD Cert.FfnFirstRefIdeal.τ).loc Cert.FfnFirstRefIdeal.main_arg7)
      ∧ r.2.mem ((c.tc : Thread Cert.FfnFirstRefIdeal.nD Cert.FfnFirstRefIdeal.τ).loc Cert.FfnFirstRefIdeal.main_arg8) = m ((c.tc : Thread Cert.FfnFirstRefIdeal.nD Cert.FfnFirstRefIdeal.τ).loc Cert.FfnFirstRefIdeal.main_arg8)
      ∧ r.2.mem ((c.tc : Thread Cert.FfnFirstRefIdeal.nD Cert.FfnFirstRefIdeal.τ).loc Cert.FfnFirstRefIdeal.main_arg9) = m ((c.tc : Thread Cert.FfnFirstRefIdeal.nD Cert.FfnFirstRefIdeal.τ).loc Cert.FfnFirstRefIdeal.main_arg9))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_AdaLn [hAdaLn : Cert.AdaLn.Facts] : Prop :=
  ∀ (m : (ℓ : Loc Cert.AdaLn.nD Cert.AdaLn.τ Cert.AdaLn.sig) → Buf (Elt Bits) ℓ) (g : Dev Cert.AdaLn.nD → PrngReg), Pre_AdaLn m →
    θ_run (Cert.AdaLn.defs (F := Bits)) (onTc (τ := Cert.AdaLn.τ) (Cert.AdaLn.main (F := Bits))) ⟨m, fun _ => 0, g⟩ (fun r => (∀ c : Dev Cert.AdaLn.nD,
      r.2.mem ((c.tc : Thread Cert.AdaLn.nD Cert.AdaLn.τ).loc Cert.AdaLn.main_arg0) = m ((c.tc : Thread Cert.AdaLn.nD Cert.AdaLn.τ).loc Cert.AdaLn.main_arg0)
      ∧ r.2.mem ((c.tc : Thread Cert.AdaLn.nD Cert.AdaLn.τ).loc Cert.AdaLn.main_arg1) = m ((c.tc : Thread Cert.AdaLn.nD Cert.AdaLn.τ).loc Cert.AdaLn.main_arg1)
      ∧ r.2.mem ((c.tc : Thread Cert.AdaLn.nD Cert.AdaLn.τ).loc Cert.AdaLn.main_arg2) = m ((c.tc : Thread Cert.AdaLn.nD Cert.AdaLn.τ).loc Cert.AdaLn.main_arg2))
      ∧ r.2.sem = fun _ => 0)

def quiescent_AdaLnIdeal [hAdaLnIdeal : Cert.AdaLnIdeal.Facts] : Prop :=
  ∀ (m : (ℓ : Loc Cert.AdaLnIdeal.nD Cert.AdaLnIdeal.τ Cert.AdaLnIdeal.sig) → Buf (Elt Ideal) ℓ) (g : Dev Cert.AdaLnIdeal.nD → PrngReg), Pre_AdaLnIdeal m →
    θ_run (Cert.AdaLnIdeal.defs (F := Ideal)) (onTc (τ := Cert.AdaLnIdeal.τ) (Cert.AdaLnIdeal.main (F := Ideal))) ⟨m, fun _ => 0, g⟩ (fun r => (∀ c : Dev Cert.AdaLnIdeal.nD,
      r.2.mem ((c.tc : Thread Cert.AdaLnIdeal.nD Cert.AdaLnIdeal.τ).loc Cert.AdaLnIdeal.main_arg0) = m ((c.tc : Thread Cert.AdaLnIdeal.nD Cert.AdaLnIdeal.τ).loc Cert.AdaLnIdeal.main_arg0)
      ∧ r.2.mem ((c.tc : Thread Cert.AdaLnIdeal.nD Cert.AdaLnIdeal.τ).loc Cert.AdaLnIdeal.main_arg1) = m ((c.tc : Thread Cert.AdaLnIdeal.nD Cert.AdaLnIdeal.τ).loc Cert.AdaLnIdeal.main_arg1)
      ∧ r.2.mem ((c.tc : Thread Cert.AdaLnIdeal.nD Cert.AdaLnIdeal.τ).loc Cert.AdaLnIdeal.main_arg2) = m ((c.tc : Thread Cert.AdaLnIdeal.nD Cert.AdaLnIdeal.τ).loc Cert.AdaLnIdeal.main_arg2))
      ∧ r.2.sem = fun _ => 0)

def quiescent_AdaLnRefIdeal [hAdaLnRefIdeal : Cert.AdaLnRefIdeal.Facts] : Prop :=
  ∀ (m : (ℓ : Loc Cert.AdaLnRefIdeal.nD Cert.AdaLnRefIdeal.τ Cert.AdaLnRefIdeal.sig) → Buf (Elt Ideal) ℓ) (g : Dev Cert.AdaLnRefIdeal.nD → PrngReg), Pre_AdaLnRefIdeal m →
    θ_run (Cert.AdaLnRefIdeal.defs (F := Ideal)) (onTc (τ := Cert.AdaLnRefIdeal.τ) (Cert.AdaLnRefIdeal.main (F := Ideal))) ⟨m, fun _ => 0, g⟩ (fun r => (∀ c : Dev Cert.AdaLnRefIdeal.nD,
      r.2.mem ((c.tc : Thread Cert.AdaLnRefIdeal.nD Cert.AdaLnRefIdeal.τ).loc Cert.AdaLnRefIdeal.main_arg0) = m ((c.tc : Thread Cert.AdaLnRefIdeal.nD Cert.AdaLnRefIdeal.τ).loc Cert.AdaLnRefIdeal.main_arg0)
      ∧ r.2.mem ((c.tc : Thread Cert.AdaLnRefIdeal.nD Cert.AdaLnRefIdeal.τ).loc Cert.AdaLnRefIdeal.main_arg1) = m ((c.tc : Thread Cert.AdaLnRefIdeal.nD Cert.AdaLnRefIdeal.τ).loc Cert.AdaLnRefIdeal.main_arg1)
      ∧ r.2.mem ((c.tc : Thread Cert.AdaLnRefIdeal.nD Cert.AdaLnRefIdeal.τ).loc Cert.AdaLnRefIdeal.main_arg2) = m ((c.tc : Thread Cert.AdaLnRefIdeal.nD Cert.AdaLnRefIdeal.τ).loc Cert.AdaLnRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def preserves_Gqa_GqaIdeal : Prop :=
  True

def algebraic_GqaIdeal_GqaRefIdeal_pre_finite [hGqaIdeal : Cert.GqaIdeal.Facts] [hGqaRefIdeal : Cert.GqaRefIdeal.Facts] [hPre_finite : Cert.Pre_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v28) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v64) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)
      ∧ m' ((c.tc : Thread Cert.FfnFirstRefIdeal.nD Cert.FfnFirstRefIdeal.τ).loc Cert.FfnFirstRefIdeal.main_arg6) = m ((c.tc : Thread Cert.FfnFirstIdeal.nD Cert.FfnFirstIdeal.τ).loc Cert.FfnFirstIdeal.main_arg6)
      ∧ m' ((c.tc : Thread Cert.FfnFirstRefIdeal.nD Cert.FfnFirstRefIdeal.τ).loc Cert.FfnFirstRefIdeal.main_arg7) = m ((c.tc : Thread Cert.FfnFirstIdeal.nD Cert.FfnFirstIdeal.τ).loc Cert.FfnFirstIdeal.main_arg7)
      ∧ m' ((c.tc : Thread Cert.FfnFirstRefIdeal.nD Cert.FfnFirstRefIdeal.τ).loc Cert.FfnFirstRefIdeal.main_arg8) = m ((c.tc : Thread Cert.FfnFirstIdeal.nD Cert.FfnFirstIdeal.τ).loc Cert.FfnFirstIdeal.main_arg8)
      ∧ m' ((c.tc : Thread Cert.FfnFirstRefIdeal.nD Cert.FfnFirstRefIdeal.τ).loc Cert.FfnFirstRefIdeal.main_arg9) = m ((c.tc : Thread Cert.FfnFirstIdeal.nD Cert.FfnFirstIdeal.τ).loc Cert.FfnFirstIdeal.main_arg9)) →
    ∃ (v0 : (c : Dev Cert.FfnFirstIdeal.nD) → Buf (Elt Ideal) ((c.tc : Thread Cert.FfnFirstIdeal.nD Cert.FfnFirstIdeal.τ).loc Cert.FfnFirstIdeal.main_v5)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v5) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
          ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
          ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7)
          ∧ r.2.mem ((c.tc : Thread Cert.FfnFirstIdeal.nD Cert.FfnFirstIdeal.τ).loc Cert.FfnFirstIdeal.main_arg8) = m ((c.tc : Thread Cert.FfnFirstIdeal.nD Cert.FfnFirstIdeal.τ).loc Cert.FfnFirstIdeal.main_arg8)
          ∧ r.2.mem ((c.tc : Thread Cert.FfnFirstIdeal.nD Cert.FfnFirstIdeal.τ).loc Cert.FfnFirstIdeal.main_arg9) = m ((c.tc : Thread Cert.FfnFirstIdeal.nD Cert.FfnFirstIdeal.τ).loc Cert.FfnFirstIdeal.main_arg9))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v51) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5)
          ∧ r.2.mem ((c.tc : Thread Cert.FfnFirstRefIdeal.nD Cert.FfnFirstRefIdeal.τ).loc Cert.FfnFirstRefIdeal.main_arg6) = m' ((c.tc : Thread Cert.FfnFirstRefIdeal.nD Cert.FfnFirstRefIdeal.τ).loc Cert.FfnFirstRefIdeal.main_arg6)
          ∧ r.2.mem ((c.tc : Thread Cert.FfnFirstRefIdeal.nD Cert.FfnFirstRefIdeal.τ).loc Cert.FfnFirstRefIdeal.main_arg7) = m' ((c.tc : Thread Cert.FfnFirstRefIdeal.nD Cert.FfnFirstRefIdeal.τ).loc Cert.FfnFirstRefIdeal.main_arg7)
          ∧ r.2.mem ((c.tc : Thread Cert.FfnFirstRefIdeal.nD Cert.FfnFirstRefIdeal.τ).loc Cert.FfnFirstRefIdeal.main_arg8) = m' ((c.tc : Thread Cert.FfnFirstRefIdeal.nD Cert.FfnFirstRefIdeal.τ).loc Cert.FfnFirstRefIdeal.main_arg8)
          ∧ r.2.mem ((c.tc : Thread Cert.FfnFirstRefIdeal.nD Cert.FfnFirstRefIdeal.τ).loc Cert.FfnFirstRefIdeal.main_arg9) = m' ((c.tc : Thread Cert.FfnFirstRefIdeal.nD Cert.FfnFirstRefIdeal.τ).loc Cert.FfnFirstRefIdeal.main_arg9))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_AdaLn_AdaLnIdeal : Prop :=
  True

def algebraic_AdaLnIdeal_AdaLnRefIdeal [hAdaLnIdeal : Cert.AdaLnIdeal.Facts] [hAdaLnRefIdeal : Cert.AdaLnRefIdeal.Facts] : Prop :=
  ∀ (m : (ℓ : Loc Cert.AdaLnIdeal.nD Cert.AdaLnIdeal.τ Cert.AdaLnIdeal.sig) → Buf (Elt Ideal) ℓ) (g : Dev Cert.AdaLnIdeal.nD → PrngReg)
    (m' : (ℓ : Loc Cert.AdaLnRefIdeal.nD Cert.AdaLnRefIdeal.τ Cert.AdaLnRefIdeal.sig) → Buf (Elt Ideal) ℓ) (g' : Dev Cert.AdaLnRefIdeal.nD → PrngReg), Pre_AdaLnIdeal m →
    (∀ c : Dev Cert.AdaLnIdeal.nD,
      m' ((c.tc : Thread Cert.AdaLnRefIdeal.nD Cert.AdaLnRefIdeal.τ).loc Cert.AdaLnRefIdeal.main_arg0) = m ((c.tc : Thread Cert.AdaLnIdeal.nD Cert.AdaLnIdeal.τ).loc Cert.AdaLnIdeal.main_arg0)
      ∧ m' ((c.tc : Thread Cert.AdaLnRefIdeal.nD Cert.AdaLnRefIdeal.τ).loc Cert.AdaLnRefIdeal.main_arg1) = m ((c.tc : Thread Cert.AdaLnIdeal.nD Cert.AdaLnIdeal.τ).loc Cert.AdaLnIdeal.main_arg1)
      ∧ m' ((c.tc : Thread Cert.AdaLnRefIdeal.nD Cert.AdaLnRefIdeal.τ).loc Cert.AdaLnRefIdeal.main_arg2) = m ((c.tc : Thread Cert.AdaLnIdeal.nD Cert.AdaLnIdeal.τ).loc Cert.AdaLnIdeal.main_arg2)) →
    ∃ (v0 : (c : Dev Cert.AdaLnIdeal.nD) → Buf (Elt Ideal) ((c.tc : Thread Cert.AdaLnIdeal.nD Cert.AdaLnIdeal.τ).loc Cert.AdaLnIdeal.main_v1)),
      θ_run (Cert.AdaLnIdeal.defs (F := Ideal)) (onTc (τ := Cert.AdaLnIdeal.τ) (Cert.AdaLnIdeal.main (F := Ideal))) ⟨m, fun _ => 0, g⟩ (fun r => ∀ c : Dev Cert.AdaLnIdeal.nD,
          r.2.mem ((c.tc : Thread Cert.AdaLnIdeal.nD Cert.AdaLnIdeal.τ).loc Cert.AdaLnIdeal.main_v1) = v0 c
          ∧ r.2.mem ((c.tc : Thread Cert.AdaLnIdeal.nD Cert.AdaLnIdeal.τ).loc Cert.AdaLnIdeal.main_arg0) = m ((c.tc : Thread Cert.AdaLnIdeal.nD Cert.AdaLnIdeal.τ).loc Cert.AdaLnIdeal.main_arg0)
          ∧ r.2.mem ((c.tc : Thread Cert.AdaLnIdeal.nD Cert.AdaLnIdeal.τ).loc Cert.AdaLnIdeal.main_arg1) = m ((c.tc : Thread Cert.AdaLnIdeal.nD Cert.AdaLnIdeal.τ).loc Cert.AdaLnIdeal.main_arg1)
          ∧ r.2.mem ((c.tc : Thread Cert.AdaLnIdeal.nD Cert.AdaLnIdeal.τ).loc Cert.AdaLnIdeal.main_arg2) = m ((c.tc : Thread Cert.AdaLnIdeal.nD Cert.AdaLnIdeal.τ).loc Cert.AdaLnIdeal.main_arg2))
      ∧ θ_run (Cert.AdaLnRefIdeal.defs (F := Ideal)) (onTc (τ := Cert.AdaLnRefIdeal.τ) (Cert.AdaLnRefIdeal.main (F := Ideal))) ⟨m', fun _ => 0, g'⟩ (fun r => ∀ c : Dev Cert.AdaLnRefIdeal.nD,
          r.2.mem ((c.tc : Thread Cert.AdaLnRefIdeal.nD Cert.AdaLnRefIdeal.τ).loc Cert.AdaLnRefIdeal.main_v5) = v0 c
          ∧ r.2.mem ((c.tc : Thread Cert.AdaLnRefIdeal.nD Cert.AdaLnRefIdeal.τ).loc Cert.AdaLnRefIdeal.main_arg0) = m' ((c.tc : Thread Cert.AdaLnRefIdeal.nD Cert.AdaLnRefIdeal.τ).loc Cert.AdaLnRefIdeal.main_arg0)
          ∧ r.2.mem ((c.tc : Thread Cert.AdaLnRefIdeal.nD Cert.AdaLnRefIdeal.τ).loc Cert.AdaLnRefIdeal.main_arg1) = m' ((c.tc : Thread Cert.AdaLnRefIdeal.nD Cert.AdaLnRefIdeal.τ).loc Cert.AdaLnRefIdeal.main_arg1)
          ∧ r.2.mem ((c.tc : Thread Cert.AdaLnRefIdeal.nD Cert.AdaLnRefIdeal.τ).loc Cert.AdaLnRefIdeal.main_arg2) = m' ((c.tc : Thread Cert.AdaLnRefIdeal.nD Cert.AdaLnRefIdeal.τ).loc Cert.AdaLnRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v22_0)) (v1 : (c : Dev Cert.ProjIdeal.nD) → Buf (Elt Ideal) ((c.tc : Thread Cert.ProjIdeal.nD Cert.ProjIdeal.τ).loc Cert.ProjIdeal.main_v22_1)) (v2 : (c : Dev Cert.ProjIdeal.nD) → Buf (Elt Ideal) ((c.tc : Thread Cert.ProjIdeal.nD Cert.ProjIdeal.τ).loc Cert.ProjIdeal.main_v22_2)) (v3 : (c : Dev Cert.ProjIdeal.nD) → Buf (Elt Ideal) ((c.tc : Thread Cert.ProjIdeal.nD Cert.ProjIdeal.τ).loc Cert.ProjIdeal.main_v22_3)) (v4 : (c : Dev Cert.ProjIdeal.nD) → Buf (Elt Ideal) ((c.tc : Thread Cert.ProjIdeal.nD Cert.ProjIdeal.τ).loc Cert.ProjIdeal.main_v22_4)) (v5 : (c : Dev Cert.ProjIdeal.nD) → Buf (Elt Ideal) ((c.tc : Thread Cert.ProjIdeal.nD Cert.ProjIdeal.τ).loc Cert.ProjIdeal.main_v22_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v22_0) = v0 c
          ∧ r.2.mem ((c.tc : Thread Cert.ProjIdeal.nD Cert.ProjIdeal.τ).loc Cert.ProjIdeal.main_v22_1) = v1 c
          ∧ r.2.mem ((c.tc : Thread Cert.ProjIdeal.nD Cert.ProjIdeal.τ).loc Cert.ProjIdeal.main_v22_2) = v2 c
          ∧ r.2.mem ((c.tc : Thread Cert.ProjIdeal.nD Cert.ProjIdeal.τ).loc Cert.ProjIdeal.main_v22_3) = v3 c
          ∧ r.2.mem ((c.tc : Thread Cert.ProjIdeal.nD Cert.ProjIdeal.τ).loc Cert.ProjIdeal.main_v22_4) = v4 c
          ∧ r.2.mem ((c.tc : Thread Cert.ProjIdeal.nD Cert.ProjIdeal.τ).loc Cert.ProjIdeal.main_v22_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v112) = v0 c
          ∧ r.2.mem ((c.tc : Thread Cert.ProjRefIdeal.nD Cert.ProjRefIdeal.τ).loc Cert.ProjRefIdeal.main_v113) = v1 c
          ∧ r.2.mem ((c.tc : Thread Cert.ProjRefIdeal.nD Cert.ProjRefIdeal.τ).loc Cert.ProjRefIdeal.main_v114) = v2 c
          ∧ r.2.mem ((c.tc : Thread Cert.ProjRefIdeal.nD Cert.ProjRefIdeal.τ).loc Cert.ProjRefIdeal.main_v115) = v3 c
          ∧ r.2.mem ((c.tc : Thread Cert.ProjRefIdeal.nD Cert.ProjRefIdeal.τ).loc Cert.ProjRefIdeal.main_v116) = v4 c
          ∧ r.2.mem ((c.tc : Thread Cert.ProjRefIdeal.nD Cert.ProjRefIdeal.τ).loc Cert.ProjRefIdeal.main_v117) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def Claim : Prop :=
  ∃ (hGqa : Cert.Gqa.Facts) (hGqaIdeal : Cert.GqaIdeal.Facts) (hGqaRefIdeal : Cert.GqaRefIdeal.Facts) (hFfn : Cert.Ffn.Facts) (hFfnIdeal : Cert.FfnIdeal.Facts) (hFfnRefIdeal : Cert.FfnRefIdeal.Facts) (hFfnFirst : Cert.FfnFirst.Facts) (hFfnFirstIdeal : Cert.FfnFirstIdeal.Facts) (hFfnFirstRefIdeal : Cert.FfnFirstRefIdeal.Facts) (hOutProj : Cert.OutProj.Facts) (hOutProjIdeal : Cert.OutProjIdeal.Facts) (hOutProjRefIdeal : Cert.OutProjRefIdeal.Facts) (hAdaLn : Cert.AdaLn.Facts) (hAdaLnIdeal : Cert.AdaLnIdeal.Facts) (hAdaLnRefIdeal : Cert.AdaLnRefIdeal.Facts) (hProj : Cert.Proj.Facts) (hProjIdeal : Cert.ProjIdeal.Facts) (hProjRefIdeal : Cert.ProjRefIdeal.Facts) (hPre_finite : Cert.Pre_finite.Facts),
    quiescent_Gqa (hGqa := hGqa)
    ∧ quiescent_GqaIdeal (hGqaIdeal := hGqaIdeal)
    ∧ quiescent_GqaIdeal_pre_finite (hGqaIdeal := hGqaIdeal) (hPre_finite := hPre_finite)
    ∧ quiescent_GqaRefIdeal (hGqaRefIdeal := hGqaRefIdeal)
    ∧ quiescent_GqaRefIdeal_pre_finite (hGqaRefIdeal := hGqaRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AdaLn (hAdaLn := hAdaLn)
    ∧ quiescent_AdaLnIdeal (hAdaLnIdeal := hAdaLnIdeal)
    ∧ quiescent_AdaLnRefIdeal (hAdaLnRefIdeal := hAdaLnRefIdeal)
    ∧ quiescent_Proj (hProj := hProj)
    ∧ quiescent_ProjIdeal (hProjIdeal := hProjIdeal)
    ∧ quiescent_ProjRefIdeal (hProjRefIdeal := hProjRefIdeal)
    ∧ preserves_Gqa_GqaIdeal
    ∧ algebraic_GqaIdeal_GqaRefIdeal_pre_finite (hGqaIdeal := hGqaIdeal) (hGqaRefIdeal := hGqaRefIdeal) (hPre_finite := hPre_finite)
    ∧ preserves_Ffn_FfnIdeal
    ∧ algebraic_FfnIdeal_FfnRefIdeal (hFfnIdeal := hFfnIdeal) (hFfnRefIdeal := hFfnRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_OutProj_OutProjIdeal
    ∧ algebraic_OutProjIdeal_OutProjRefIdeal (hOutProjIdeal := hOutProjIdeal) (hOutProjRefIdeal := hOutProjRefIdeal)
    ∧ preserves_AdaLn_AdaLnIdeal
    ∧ algebraic_AdaLnIdeal_AdaLnRefIdeal (hAdaLnIdeal := hAdaLnIdeal) (hAdaLnRefIdeal := hAdaLnRefIdeal)
    ∧ preserves_Proj_ProjIdeal
    ∧ algebraic_ProjIdeal_ProjRefIdeal (hProjIdeal := hProjIdeal) (hProjRefIdeal := hProjRefIdeal)
-- ==== Pre_finite.lean ====
abbrev S4x4096x512 : Shape := ⟨3, ![4, 4096, 512]⟩
abbrev S4x4096x256 : Shape := ⟨3, ![4, 4096, 256]⟩
abbrev S4x256x256 : Shape := ⟨3, ![4, 256, 256]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x4096x256 : S_.BroadcastsInDim S4x4096x256 (![] : Fin 0 → Fin S4x4096x256.rank)
  reducesTo_S4x4096x256_S_d0_1_2 : S4x4096x256.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_

variable [Facts]

def fn {F : FTy → Type} [FloatOps F] (main_arg0 : FVec F S4x4096x512 .bf16) (main_arg1 : FVec F S4x4096x256 .bf16) (main_arg2 : FVec F S4x4096x256 .bf16) (main_arg3 : FVec F S4x256x256 .bf16) (main_arg4 : FVec F S4x256x256 .bf16) : IVec S_ 1 :=
  let main_v0 : FVec F S4x4096x512 .bf16 := Host.absf main_arg0
  let main_cst : FVec F S_ .bf16 := constant S_ .bf16 0x7F80#16
  let main_v1 : FVec F S4x4096x512 .bf16 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x256 .bf16 := Host.absf main_arg1
  let main_cst_0 : FVec F S_ .bf16 := constant S_ .bf16 0x7F80#16
  let main_v5 : FVec F S4x4096x256 .bf16 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x256x256 .bf16 := Host.absf main_arg3
  let main_cst_2 : FVec F S_ .bf16 := constant S_ .bf16 0x7F80#16
  let main_v10 : FVec F S4x256x256 .bf16 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  main_v13
-- ==== Gqa.lean ====
abbrev S4x4096x512 : Shape := ⟨3, ![4, 4096, 512]⟩
abbrev S4x4096x256 : Shape := ⟨3, ![4, 4096, 256]⟩
abbrev S4x256x256 : Shape := ⟨3, ![4, 256, 256]⟩
abbrev S1x256x256 : Shape := ⟨3, ![1, 256, 256]⟩
abbrev S1x4096x128 : Shape := ⟨3, ![1, 4096, 128]⟩
abbrev S1x256x128 : Shape := ⟨3, ![1, 256, 128]⟩
abbrev S512x1 : Shape := ⟨2, ![512, 1]⟩
abbrev S512x128 : Shape := ⟨2, ![512, 128]⟩
abbrev S256x256 : Shape := ⟨2, ![256, 256]⟩
abbrev S256x128 : Shape := ⟨2, ![256, 128]⟩
abbrev S1x512x128 : Shape := ⟨3, ![1, 512, 128]⟩
abbrev S512x512 : Shape := ⟨2, ![512, 512]⟩
abbrev S512 : Shape := ⟨1, ![512]⟩
abbrev S512x256 : Shape := ⟨2, ![512, 256]⟩

abbrev nBuf : Space → Nat
  | .hbm => 6
  | .vmem => 15
  | .smem => 0
  | _ => 0

abbrev bufTy : (tb : Table) → Fin (tcTables nBuf tb) → BufTy
  | .hbm, ⟨0, _⟩ => ⟨S4x4096x512, .bf16⟩
  | .hbm, ⟨1, _⟩ => ⟨S4x4096x256, .bf16⟩
  | .hbm, ⟨2, _⟩ => ⟨S4x4096x256, .bf16⟩
  | .hbm, ⟨3, _⟩ => ⟨S4x256x256, .bf16⟩
  | .hbm, ⟨4, _⟩ => ⟨S4x256x256, .bf16⟩
  | .hbm, ⟨5, _⟩ => ⟨S4x4096x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x256, .bf16⟩
  | .local _ .vmem, ⟨11, _⟩ => ⟨S1x256x256, .bf16⟩
  | .local _ .vmem, ⟨12, _⟩ => ⟨S512x1, .f32⟩
  | .local _ .vmem, ⟨13, _⟩ => ⟨S512x1, .f32⟩
  | .local _ .vmem, ⟨14, _⟩ => ⟨S512x128, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

@[reducible] def k0_t1_loop : Scf.Loop 32 :=
  let c0_i32 : BitVec 32 := 0#32
  let c8_i32 : BitVec 32 := 8#32
  let v17 : BitVec 32 := Scalar.addi c0_i32 c8_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v63 : BitVec 32 := Scalar.muli arg12 c512_i32
  v63
def k0_off1 (k0_t1 : Fin k0_t1_loop.trips) : Fin 3 → Nat :=
  let c0_40 : Index := 0#32
  let c0_i32 : BitVec 32 := 0#32
  let c1_i32 : BitVec 32 := 1#32
  let arg12 : BitVec 32 := Scf.iv c0_i32 c1_i32 k0_t1
  let c512_i32 : BitVec 32 := 512#32
  let v63 : BitVec 32 := Scalar.muli arg12 c512_i32
  let v64 : BitVec 32 := v63
  let v65 : Index := Scalar.indexCast v64
  let c0_41 : Index := 0#32
  ![0, v65.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GqaRefIdeal.lean ====
abbrev S4x4096x512 : Shape := ⟨3, ![4, 4096, 512]⟩
abbrev S4x4096x256 : Shape := ⟨3, ![4, 4096, 256]⟩
abbrev S4x256x256 : Shape := ⟨3, ![4, 256, 256]⟩
abbrev S4x4096x2x128 : Shape := ⟨4, ![4, 4096, 2, 128]⟩
abbrev S4x256x2x128 : Shape := ⟨4, ![4, 256, 2, 128]⟩
abbrev S4x4352x2x128 : Shape := ⟨4, ![4, 4352, 2, 128]⟩
abbrev S4x4096x2x2x128 : Shape := ⟨5, ![4, 4096, 2, 2, 128]⟩
abbrev S4x2x4352x4096x2 : Shape := ⟨5, ![4, 2, 4352, 4096, 2]⟩
abbrev S4x2x2x4096x4352 : Shape := ⟨5, ![4, 2, 2, 4096, 4352]⟩
abbrev S_ : Shape := ⟨0, ![]⟩
abbrev S4x2x2x4096 : Shape := ⟨4, ![4, 2, 2, 4096]⟩
abbrev S4x2x2x4096x1 : Shape := ⟨5, ![4, 2, 2, 4096, 1]⟩
abbrev S4x2x128x2x4096 : Shape := ⟨5, ![4, 2, 128, 2, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x256, .bf16⟩
  | .hbm, ⟨2, _⟩ => ⟨S4x4096x256, .bf16⟩
  | .hbm, ⟨3, _⟩ => ⟨S4x256x256, .bf16⟩
  | .hbm, ⟨4, _⟩ => ⟨S4x256x256, .bf16⟩
  | .hbm, ⟨5, _⟩ => ⟨S4x4096x256, .f32⟩
  | .hbm, ⟨6, _⟩ => ⟨S4x4096x2x128, .f32⟩
  | .hbm, ⟨7, _⟩ => ⟨S4x256x256, .f32⟩
  | .hbm, ⟨8, _⟩ => ⟨S4x256x2x128, .f32⟩
  | .hbm, ⟨9, _⟩ => ⟨S4x4352x2x128, .f32⟩
  | .hbm, ⟨10, _⟩ => ⟨S4x4096x256, .f32⟩
  | .hbm, ⟨11, _⟩ => ⟨S4x4096x2x128, .f32⟩
  | .hbm, ⟨12, _⟩ => ⟨S4x256x256, .f32⟩
  | .hbm, ⟨13, _⟩ => ⟨S4x256x2x128, .f32⟩
  | .hbm, ⟨14, _⟩ => ⟨S4x4352x2x128, .f32⟩
  | .hbm, ⟨15, _⟩ => ⟨S4x4096x512, .f32⟩
  | .hbm, ⟨16, _⟩ => ⟨S4x4096x2x2x128, .f32⟩
  | .hbm, ⟨17, _⟩ => ⟨S4x2x4352x4096x2, .f32⟩
  | .hbm, ⟨18, _⟩ => ⟨S4x2x2x4096x4352, .f32⟩
  | .hbm, ⟨19, _⟩ => ⟨S_, .f32⟩
  | .hbm, ⟨20, _⟩ => ⟨S4x2x2x4096, .f32⟩
  | .hbm, ⟨21, _⟩ => ⟨S_, .f32⟩
  | .hbm, ⟨22, _⟩ => ⟨S4x2x2x4096, .f32⟩
  | .hbm, ⟨23, _⟩ => ⟨S4x2x2x4096, .f32⟩
  | .hbm, ⟨24, _⟩ => ⟨S4x2x2x4096x1, .f32⟩
  | .hbm, ⟨25, _⟩ => ⟨S4x2x2x4096x4352, .f32⟩
  | .hbm, ⟨26, _⟩ => ⟨S4x2x2x4096x4352, .f32⟩
  | .hbm, ⟨27, _⟩ => ⟨S4x2x2x4096x4352, .f32⟩
  | .hbm, ⟨28, _⟩ => ⟨S_, .f32⟩
  | .hbm, ⟨29, _⟩ => ⟨S4x2x2x4096, .f32⟩
  | .hbm, ⟨30, _⟩ => ⟨S4x2x2x4096x1, .f32⟩
  | .hbm, ⟨31, _⟩ => ⟨S4x2x2x4096x4352, .f32⟩
  | .hbm, ⟨32, _⟩ => ⟨S4x2x2x4096x4352, .f32⟩
  | .hbm, ⟨33, _⟩ => ⟨S4x2x128x2x4096, .f32⟩
  | .hbm, ⟨34, _⟩ => ⟨S4x4096x2x2x128, .f32⟩
  | .hbm, ⟨35, _⟩ => ⟨S4x4096x512, .f32⟩
  | .hbm, ⟨36, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Ffn.lean ====
abbrev S4x4096x1024 : Shape := ⟨3, ![4, 4096, 1024]⟩
abbrev S4x1x1024 : Shape := ⟨3, ![4, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S1x1x1024 : Shape := ⟨3, ![1, 1, 1024]⟩
abbrev S528x256 : Shape := ⟨2, ![528, 256]⟩
abbrev S512x1024 : Shape := ⟨2, ![512, 1024]⟩
abbrev S8x1024 : Shape := ⟨2, ![8, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S528x1024 : Shape := ⟨2, ![528, 1024]⟩
abbrev S1024x256 : Shape := ⟨2, ![1024, 256]⟩
abbrev S3x256 : Shape := ⟨2, ![3, 256]⟩
abbrev S512x256 : Shape := ⟨2, ![512, 256]⟩
abbrev S1x256 : Shape := ⟨2, ![1, 256]⟩
abbrev S256x1024 : Shape := ⟨2, ![256, 1024]⟩

abbrev nBuf : Space → Nat
  | .hbm => 16
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x5632, .f32⟩
  | .hbm, ⟨15, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x5632, .bf16⟩
  | .local _ .vmem, ⟨14, _⟩ => ⟨S3x5632, .f32⟩
  | .local _ .vmem, ⟨15, _⟩ => ⟨S1x5632, .f32⟩
  | .local _ .vmem, ⟨16, _⟩ => ⟨S2816x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S528x256, .f32⟩
  | .local _ .vmem, ⟨21, _⟩ => ⟨S528x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FfnRefIdeal.lean ====
abbrev S4x4096x1024 : Shape := ⟨3, ![4, 4096, 1024]⟩
abbrev S4x1x1024 : Shape := ⟨3, ![4, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x5632, .f32⟩
  | .hbm, ⟨34, _⟩ => ⟨S_, .i32⟩
  | .hbm, ⟨35, _⟩ => ⟨S_, .f32⟩
  | .hbm, ⟨36, _⟩ => ⟨S4x4098x5632, .f32⟩
  | .hbm, ⟨37, _⟩ => ⟨S4x4096x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S4x4096x5632, .f32⟩
  | .hbm, ⟨48, _⟩ => ⟨S4x4096x5632, .f32⟩
  | .hbm, ⟨49, _⟩ => ⟨S4x4096x5632, .f32⟩
  | .hbm, ⟨50, _⟩ => ⟨S4x4096x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S4x4096x5632, .f32⟩
  | .hbm, ⟨55, _⟩ => ⟨S4x4096x5632, .f32⟩
  | .hbm, ⟨56, _⟩ => ⟨S4x4096x5632, .f32⟩
  | .hbm, ⟨57, _⟩ => ⟨S1x1x5632, .f32⟩
  | .hbm, ⟨58, _⟩ => ⟨S4x4096x5632, .f32⟩
  | .hbm, ⟨59, _⟩ => ⟨S4x4096x5632, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S_, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S_, .f32⟩
  | .hbm, ⟨78, _⟩ => ⟨S4x4096, .f32⟩
  | .hbm, ⟨79, _⟩ => ⟨S4x4096x1, .f32⟩
  | .hbm, ⟨80, _⟩ => ⟨S_, .f32⟩
  | .hbm, ⟨81, _⟩ => ⟨S4x4096x1, .f32⟩
  | .hbm, ⟨82, _⟩ => ⟨S4x4096x1, .f32⟩
  | .hbm, ⟨83, _⟩ => ⟨S_, .f32⟩
  | .hbm, ⟨84, _⟩ => ⟨S4x4096x1, .f32⟩
  | .hbm, ⟨85, _⟩ => ⟨S4x4096x1, .f32⟩
  | .hbm, ⟨86, _⟩ => ⟨S4x4096x1, .f32⟩
  | .hbm, ⟨87, _⟩ => ⟨S4x4096x1024, .f32⟩
  | .hbm, ⟨88, _⟩ => ⟨S4x4096x1024, .f32⟩
  | .hbm, ⟨89, _⟩ => ⟨S1x1x1024, .f32⟩
  | .hbm, ⟨90, _⟩ => ⟨S4x4096x1024, .f32⟩
  | .hbm, ⟨91, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_v54 : Ref sig .tc := ⟨.hbm, 79, rfl⟩
abbrev main_cst_4 : Ref sig .tc := ⟨.hbm, 80, rfl⟩
abbrev main_v55 : Ref sig .tc := ⟨.hbm, 81, rfl⟩
abbrev main_v56 : Ref sig .tc := ⟨.hbm, 82, rfl⟩
abbrev main_cst_5 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== FfnFirst.lean ====
abbrev S4x4096x1024 : Shape := ⟨3, ![4, 4096, 1024]⟩
abbrev S4x1x1024 : Shape := ⟨3, ![4, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S1x1x1024 : Shape := ⟨3, ![1, 1, 1024]⟩
abbrev S528x256 : Shape := ⟨2, ![528, 256]⟩
abbrev S512x1024 : Shape := ⟨2, ![512, 1024]⟩
abbrev S8x1024 : Shape := ⟨2, ![8, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S528x1024 : Shape := ⟨2, ![528, 1024]⟩
abbrev S1024x256 : Shape := ⟨2, ![1024, 256]⟩
abbrev S3x256 : Shape := ⟨2, ![3, 256]⟩
abbrev S512x256 : Shape := ⟨2, ![512, 256]⟩
abbrev S1x256 : Shape := ⟨2, ![1, 256]⟩
abbrev S256x1024 : Shape := ⟨2, ![256, 1024]⟩

abbrev nBuf : Space → Nat
  | .hbm => 16
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S1x5632, .f32⟩
  | .hbm, ⟨15, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x5632, .bf16⟩
  | .local _ .vmem, ⟨14, _⟩ => ⟨S3x5632, .f32⟩
  | .local _ .vmem, ⟨15, _⟩ => ⟨S1x5632, .f32⟩
  | .local _ .vmem, ⟨16, _⟩ => ⟨S2816x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S528x256, .f32⟩
  | .local _ .vmem, ⟨21, _⟩ => ⟨S528x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FfnFirstRefIdeal.lean ====
abbrev S4x4096x1024 : Shape := ⟨3, ![4, 4096, 1024]⟩
abbrev S4x1x1024 : Shape := ⟨3, ![4, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩

abbrev nBuf : Space → Nat
  | .hbm => 76
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x5632, .f32⟩
  | .hbm, ⟨34, _⟩ => ⟨S_, .i32⟩
  | .hbm, ⟨35, _⟩ => ⟨S_, .f32⟩
  | .hbm, ⟨36, _⟩ => ⟨S4x4098x5632, .f32⟩
  | .hbm, ⟨37, _⟩ => ⟨S4x4096x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S4x4096x5632, .f32⟩
  | .hbm, ⟨42, _⟩ => ⟨S4x4096x5632, .f32⟩
  | .hbm, ⟨43, _⟩ => ⟨S4x4096x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S4x4096x5632, .f32⟩
  | .hbm, ⟨48, _⟩ => ⟨S4x4096x5632, .f32⟩
  | .hbm, ⟨49, _⟩ => ⟨S4x4096x5632, .f32⟩
  | .hbm, ⟨50, _⟩ => ⟨S4x4096x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S4x4096x5632, .f32⟩
  | .hbm, ⟨55, _⟩ => ⟨S4x4096x5632, .f32⟩
  | .hbm, ⟨56, _⟩ => ⟨S4x4096x5632, .f32⟩
  | .hbm, ⟨57, _⟩ => ⟨S1x1x5632, .f32⟩
  | .hbm, ⟨58, _⟩ => ⟨S4x4096x5632, .f32⟩
  | .hbm, ⟨59, _⟩ => ⟨S4x4096x5632, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S_, .f32⟩
  | .hbm, ⟨65, _⟩ => ⟨S4x4096x2816, .f32⟩
  | .hbm, ⟨66, _⟩ => ⟨S4x4096x2816, .f32⟩
  | .hbm, ⟨67, _⟩ => ⟨S_, .f32⟩
  | .hbm, ⟨68, _⟩ => ⟨S4x4096x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== OutProj.lean ====
abbrev S4x4096x1024 : Shape := ⟨3, ![4, 4096, 1024]⟩
abbrev S4x4096x512 : Shape := ⟨3, ![4, 4096, 512]⟩
abbrev S1024x1024 : Shape := ⟨2, ![1024, 1024]⟩
abbrev S4x1x1024 : Shape := ⟨3, ![4, 1, 1024]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S1024x512 : Shape := ⟨2, ![1024, 512]⟩
abbrev S512x1024 : Shape := ⟨2, ![512, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1024x1024, .f32⟩
  | .hbm, ⟨4, _⟩ => ⟨S4x1x1024, .f32⟩
  | .hbm, ⟨5, _⟩ => ⟨S1024x1024, .bf16⟩
  | .hbm, ⟨6, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S4x4096x1024 : Shape := ⟨3, ![4, 4096, 1024]⟩
abbrev S4x4096x512 : Shape := ⟨3, ![4, 4096, 512]⟩
abbrev S1024x1024 : Shape := ⟨2, ![1024, 1024]⟩
abbrev S4x1x1024 : Shape := ⟨3, ![4, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S1024x1024, .f32⟩
  | .hbm, ⟨4, _⟩ => ⟨S4x1x1024, .f32⟩
  | .hbm, ⟨5, _⟩ => ⟨S4x4096x512, .f32⟩
  | .hbm, ⟨6, _⟩ => ⟨S4x4096x512, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== AdaLn.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaLnRefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proj.lean ====
abbrev S4x4096x1024 : Shape := ⟨3, ![4, 4096, 1024]⟩
abbrev S4x1x1024 : Shape := ⟨3, ![4, 1, 1024]⟩
abbrev S1024 : Shape := ⟨1, ![1024]⟩
abbrev S1024x2560 : Shape := ⟨2, ![1024, 2560]⟩
abbrev S4096x64 : Shape := ⟨2, ![4096, 64]⟩
abbrev S128 : Shape := ⟨1, ![128]⟩
abbrev S2560 : Shape := ⟨1, ![2560]⟩
abbrev S_ : Shape := ⟨0, ![]⟩
abbrev S2560x1 : Shape := ⟨2, ![2560, 1]⟩
abbrev S128x1 : Shape := ⟨2, ![128, 1]⟩
abbrev S1x128 : Shape := ⟨2, ![1, 128]⟩
abbrev S4096x128 : Shape := ⟨2, ![4096, 128]⟩
abbrev S1x1024 : Shape := ⟨2, ![1, 1024]⟩
abbrev S4x4096x512 : Shape := ⟨3, ![4, 4096, 512]⟩
abbrev S4x4096x256 : Shape := ⟨3, ![4, 4096, 256]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x128 : Shape := ⟨3, ![1, 512, 128]⟩
abbrev S1024x256 : Shape := ⟨2, ![1024, 256]⟩
abbrev S512x256 : Shape := ⟨2, ![512, 256]⟩

abbrev nBuf : Space → Nat
  | .hbm => 45
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x2560, .f32⟩
  | .hbm, ⟨5, _⟩ => ⟨S4096x64, .f32⟩
  | .hbm, ⟨6, _⟩ => ⟨S4096x64, .f32⟩
  | .hbm, ⟨7, _⟩ => ⟨S128, .f32⟩
  | .hbm, ⟨8, _⟩ => ⟨S128, .f32⟩
  | .hbm, ⟨9, _⟩ => ⟨S2560, .i32⟩
  | .hbm, ⟨10, _⟩ => ⟨S2560, .i1⟩
  | .hbm, ⟨11, _⟩ => ⟨S128, .i32⟩
  | .hbm, ⟨12, _⟩ => ⟨S128, .i1⟩
  | .hbm, ⟨13, _⟩ => ⟨S128, .i1⟩
  | .hbm, ⟨14, _⟩ => ⟨S_, .i32⟩
  | .hbm, ⟨15, _⟩ => ⟨S2560, .i32⟩
  | .hbm, ⟨16, _⟩ => ⟨S2560, .i32⟩
  | .hbm, ⟨17, _⟩ => ⟨S2560, .i32⟩
  | .hbm, ⟨18, _⟩ => ⟨S2560x1, .i32⟩
  | .hbm, ⟨19, _⟩ => ⟨S1024x2560, .f32⟩
  | .hbm, ⟨20, _⟩ => ⟨S1024x2560, .bf16⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S128, .f32⟩
  | .hbm, ⟨27, _⟩ => ⟨S1x128, .f32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S128x1, .i32⟩
  | .hbm, ⟨33, _⟩ => ⟨S128, .f32⟩
  | .hbm, ⟨34, _⟩ => ⟨S1x128, .f32⟩
  | .hbm, ⟨35, _⟩ => ⟨S4096x128, .f32⟩
  | .hbm, ⟨36, _⟩ => ⟨S4096x64, .f32⟩
  | .hbm, ⟨37, _⟩ => ⟨S4096x128, .f32⟩
  | .hbm, ⟨38, _⟩ => ⟨S1x1024, .f32⟩
  | .hbm, ⟨39, _⟩ => ⟨S4x4096x512, .bf16⟩
  | .hbm, ⟨40, _⟩ => ⟨S4x4096x512, .bf16⟩
  | .hbm, ⟨41, _⟩ => ⟨S4x4096x256, .bf16⟩
  | .hbm, ⟨42, _⟩ => ⟨S4x4096x256, .bf16⟩
  | .hbm, ⟨43, _⟩ => ⟨S4x4096x512, .bf16⟩
  | .hbm, ⟨44, _⟩ => ⟨S4x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2560, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x128, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_6 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev main_v22_3 : Ref sig .tc := ⟨.hbm, 42, rfl⟩
abbrev main_v22_4 : Ref sig .tc := ⟨.hbm, 43, rfl⟩
abbrev main_v22_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjRefIdeal.lean ====
abbrev S4x4096x1024 : Shape := ⟨3, ![4, 4096, 1024]⟩
abbrev S4x1x1024 : Shape := ⟨3, ![4, 1, 1024]⟩
abbrev S1024 : Shape := ⟨1, ![1024]⟩
abbrev S1024x2560 : Shape := ⟨2, ![1024, 2560]⟩
abbrev S4096x64 : Shape := ⟨2, ![4096, 64]⟩
abbrev S128 : Shape := ⟨1, ![128]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4096x1x64 : Shape := ⟨3, ![4096, 1, 64]⟩
abbrev S4x4096x2560 : Shape := ⟨3, ![4, 4096, 2560]⟩
abbrev S4x4096x512 : Shape := ⟨3, ![4, 4096, 512]⟩
abbrev S4x4096x256 : Shape := ⟨3, ![4, 4096, 256]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4096x4x64x2 : Shape := ⟨5, ![4, 4096, 4, 64, 2]⟩
abbrev S4x4096x4x64x1 : Shape := ⟨5, ![4, 4096, 4, 64, 1]⟩
abbrev S4x4096x4x64 : Shape := ⟨4, ![4, 4096, 4, 64]⟩
abbrev S1x4096x1x64 : Shape := ⟨4, ![1, 4096, 1, 64]⟩
abbrev S4x4096x2x128 : Shape := ⟨4, ![4, 4096, 2, 128]⟩
abbrev S4x4096x2 : Shape := ⟨3, ![4, 4096, 2]⟩
abbrev S4x4096x2x1 : Shape := ⟨4, ![4, 4096, 2, 1]⟩
abbrev S4x4096x2x64x2 : Shape := ⟨5, ![4, 4096, 2, 64, 2]⟩
abbrev S4x4096x2x64x1 : Shape := ⟨5, ![4, 4096, 2, 64, 1]⟩
abbrev S4x4096x2x64 : Shape := ⟨4, ![4, 4096, 2, 64]⟩
abbrev S4x4096x4x2x64 : Shape := ⟨5, ![4, 4096, 4, 2, 64]⟩
abbrev S4x4096x2x2x64 : Shape := ⟨5, ![4, 4096, 2, 2, 64]⟩

abbrev nBuf : Space → Nat
  | .hbm => 139
  | .vmem => 0
  | .smem => 0
  | _ => 0

abbrev hbmTy0_0 (i : Nat) : BufTy := match i % 128 with
  | 0 => ⟨S4x4096x1024, .f32⟩
  | 1 => ⟨S4x1x1024, .f32⟩
  | 2 => ⟨S4x1x1024, .f32⟩
  | 3 => ⟨S1024, .f32⟩
  | 4 => ⟨S1024x2560, .f32⟩
  | 5 => ⟨S4096x64, .f32⟩
  | 6 => ⟨S4096x64, .f32⟩
  | 7 => ⟨S128, .f32⟩
  | 8 => ⟨S128, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S_, .f32⟩
  | 26 => ⟨S4x1x1024, .f32⟩
  | 27 => ⟨S4x1x1024, .f32⟩
  | 28 => ⟨S4x4096x1024, .f32⟩
  | 29 => ⟨S4x4096x1024, .f32⟩
  | 30 => ⟨S4x4096x1024, .f32⟩
  | 31 => ⟨S4x4096x1024, .f32⟩
  | 32 => ⟨S4096x1x64, .f32⟩
  | 33 => ⟨S4096x1x64, .f32⟩
  | 34 => ⟨S4x4096x2560, .f32⟩
  | 35 => ⟨S4x4096x512, .f32⟩
  | 36 => ⟨S4x4096x512, .f32⟩
  | 37 => ⟨S4x4096x256, .f32⟩
  | 38 => ⟨S4x4096x256, .f32⟩
  | 39 => ⟨S4x4096x512, .f32⟩
  | 40 => ⟨S4x4096x512, .f32⟩
  | 41 => ⟨S4x4096x4x128, .f32⟩
  | 42 => ⟨S4x4096x4x128, .f32⟩
  | 43 => ⟨S_, .f32⟩
  | 44 => ⟨S4x4096x4, .f32⟩
  | 45 => ⟨S4x4096x4x1, .f32⟩
  | 46 => ⟨S_, .f32⟩
  | 47 => ⟨S4x4096x4x1, .f32⟩
  | 48 => ⟨S4x4096x4x1, .f32⟩
  | 49 => ⟨S_, .f32⟩
  | 50 => ⟨S4x4096x4x1, .f32⟩
  | 51 => ⟨S4x4096x4x1, .f32⟩
  | 52 => ⟨S4x4096x4x1, .f32⟩
  | 53 => ⟨S4x4096x4x128, .f32⟩
  | 54 => ⟨S4x4096x4x128, .f32⟩
  | 55 => ⟨S1x1x1x128, .f32⟩
  | 56 => ⟨S4x4096x4x128, .f32⟩
  | 57 => ⟨S4x4096x4x128, .f32⟩
  | 58 => ⟨S4x4096x4x64x2, .f32⟩
  | 59 => ⟨S4x4096x4x64x1, .f32⟩
  | 60 => ⟨S4x4096x4x64, .f32⟩
  | 61 => ⟨S4x4096x4x64x1, .f32⟩
  | 62 => ⟨S4x4096x4x64, .f32⟩
  | 63 => ⟨S1x4096x1x64, .f32⟩
  | 64 => ⟨S4x4096x4x64, .f32⟩
  | 65 => ⟨S4x4096x4x64, .f32⟩
  | 66 => ⟨S1x4096x1x64, .f32⟩
  | 67 => ⟨S4x4096x4x64, .f32⟩
  | 68 => ⟨S4x4096x4x64, .f32⟩
  | 69 => ⟨S4x4096x4x64, .f32⟩
  | 70 => ⟨S1x4096x1x64, .f32⟩
  | 71 => ⟨S4x4096x4x64, .f32⟩
  | 72 => ⟨S4x4096x4x64, .f32⟩
  | 73 => ⟨S1x4096x1x64, .f32⟩
  | 74 => ⟨S4x4096x4x64, .f32⟩
  | 75 => ⟨S4x4096x4x64, .f32⟩
  | 76 => ⟨S4x4096x4x64, .f32⟩
  | 77 => ⟨S4x4096x4x64x1, .f32⟩
  | 78 => ⟨S4x4096x4x64x1, .f32⟩
  | 79 => ⟨S4x4096x4x64x2, .f32⟩
  | 80 => ⟨S4x4096x4x128, .f32⟩
  | 81 => ⟨S_, .f32⟩
  | 82 => ⟨S4x4096x4x128, .f32⟩
  | 83 => ⟨S4x4096x4x128, .f32⟩
  | 84 => ⟨S4x4096x2x128, .f32⟩
  | 85 => ⟨S4x4096x2x128, .f32⟩
  | 86 => ⟨S_, .f32⟩
  | 87 => ⟨S4x4096x2, .f32⟩
  | 88 => ⟨S4x4096x2x1, .f32⟩
  | 89 => ⟨S_, .f32⟩
  | 90 => ⟨S4x4096x2x1, .f32⟩
  | 91 => ⟨S4x4096x2x1, .f32⟩
  | 92 => ⟨S_, .f32⟩
  | 93 => ⟨S4x4096x2x1, .f32⟩
  | 94 => ⟨S4x4096x2x1, .f32⟩
  | 95 => ⟨S4x4096x2x1, .f32⟩
  | 96 => ⟨S4x4096x2x128, .f32⟩
  | 97 => ⟨S4x4096x2x128, .f32⟩
  | 98 => ⟨S1x1x1x128, .f32⟩
  | 99 => ⟨S4x4096x2x128, .f32⟩
  | 100 => ⟨S4x4096x2x128, .f32⟩
  | 101 => ⟨S4x4096x2x64x2, .f32⟩
  | 102 => ⟨S4x4096x2x64x1, .f32⟩
  | 103 => ⟨S4x4096x2x64, .f32⟩
  | 104 => ⟨S4x4096x2x64x1, .f32⟩
  | 105 => ⟨S4x4096x2x64, .f32⟩
  | 106 => ⟨S1x4096x1x64, .f32⟩
  | 107 => ⟨S4x4096x2x64, .f32⟩
  | 108 => ⟨S4x4096x2x64, .f32⟩
  | 109 => ⟨S1x4096x1x64, .f32⟩
  | 110 => ⟨S4x4096x2x64, .f32⟩
  | 111 => ⟨S4x4096x2x64, .f32⟩
  | 112 => ⟨S4x4096x2x64, .f32⟩
  | 113 => ⟨S1x4096x1x64, .f32⟩
  | 114 => ⟨S4x4096x2x64, .f32⟩
  | 115 => ⟨S4x4096x2x64, .f32⟩
  | 116 => ⟨S1x4096x1x64, .f32⟩
  | 117 => ⟨S4x4096x2x64, .f32⟩
  | 118 => ⟨S4x4096x2x64, .f32⟩
  | 119 => ⟨S4x4096x2x64, .f32⟩
  | 120 => ⟨S4x4096x2x64x1, .f32⟩
  | 121 => ⟨S4x4096x2x64x1, .f32⟩
  | 122 => ⟨S4x4096x2x64x2, .f32⟩
  | 123 => ⟨S4x4096x2x128, .f32⟩
  | 124 => ⟨S4x4096x4x64x2, .f32⟩
  | 125 => ⟨S4x4096x4x2x64, .f32⟩
  | 126 => ⟨S4x4096x512, .f32⟩
  | 127 => ⟨S_, .f32⟩
  | _ => ⟨S4x4096x1024, .f32⟩

abbrev hbmTy0_1 (i : Nat) : BufTy := match i % 128 with
  | 0 => ⟨S4x4096x512, .f32⟩
  | 1 => ⟨S4x4096x512, .f32⟩
  | 2 => ⟨S4x4096x2x64x2, .f32⟩
  | 3 => ⟨S4x4096x2x2x64, .f32⟩
  | 4 => ⟨S4x4096x256, .f32⟩
  | 5 => ⟨S4x4096x512, .bf16⟩
  | 6 => ⟨S4x4096x512, .bf16⟩
  | 7 => ⟨S4x4096x256, .bf16⟩
  | 8 => ⟨S4x4096x256, .bf16⟩
  | 9 => ⟨S4x4096x512, .bf16⟩
  | 10 => ⟨S4x4096x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_6 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_10 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩

abbrev nD : Nat := 1
abbrev τ : Topo := Topo.v7x

variable {F : FTy → Type} [FloatOps F]
-- ==== Proof.Gqa.Body.lean ====
/-
  One grid point's block, read out of the launch's run: what the body leaves in the output window is the last
  payload over the state (running maximum, normalizer, weighted sum) that the initial fill, the eight trips of the
  loop over the key tiles and the closing context block leave in the three scratch buffers.
-/
module

public import proofs.«01_k».proof.Proof.Gen.GqaIdeal.Value
public import Idealize.ShloMosaic.Lib.Tactic
public import Idealize.ShloMosaic.Lib.VecWindow
public import Idealize.ShloMosaic.Lib.Pointwise.Index

@[expose] public section

set_option maxRecDepth 16384

noncomputable section

open Idealize.ShloMosaic Idealize.ShloMosaic.TcCoe Idealize.SL.Sem

namespace Cert.GqaIdeal.Val

open Cert.GqaIdeal Cert.GqaIdeal.Gen

variable {F : FTy → Type} [FloatOps F]

/-- Rows `512 k` to `512 k + 511` of a window's keys or values. -/
def tile (x : Vec F S1x4096x128 .bf16) (k : ℕ) : Vec F S1x512x128 .bf16 := fun y =>
  x (ix3 (0 : Fin 1) (⟨(512 * k + (y 1).val) % 4096, Nat.mod_lt _ (by omega)⟩ : Fin 4096) (y 2))

/-- The scratch state: running maximum, normalizer, weighted sum. -/
abbrev St (F : FTy → Type) : Type := Vec F S512x1 .f32 × Vec F S512x1 .f32 × Vec F S512x128 .f32

/-- One trip of the loop on the state, at a tile of keys and a tile of values. -/
def step (q : FVec F S512x128 .bf16) (kt vt : Vec F S1x512x128 .bf16) (s : St F) : St F :=
  (k0_pay11 (k0_pay2 q kt s.1), k0_pay5 q kt s.1 s.2.1, k0_pay6 q kt vt s.1 s.2.2)

/-- The state after `k` trips. -/
def st (q : FVec F S512x128 .bf16) (x1 x2 : Vec F S1x4096x128 .bf16) : ℕ → St F
  | 0 => (k0_pay8, k0_pay9, k0_pay10)
  | k + 1 => step q (tile x1 k) (tile x2 k) (st q x1 x2 k)

/-- The loop makes eight trips. -/
theorem trips_eq : k0_t1_loop.trips = 8 := by decide

/-- The offset of trip `k`'s tile. -/
theorem off_eq : ∀ k : Fin k0_t1_loop.trips, k0_off1 k = ![0, 512 * k.val, 0] := by decide

/-- A trip's load of a window's rows is the tile. -/
theorem load_tile {m : Memref sig .tc .vmem S1x4096x128 .bf16} (hm : m.IsWhole) (x : Vec F S1x4096x128 .bf16)
    (k : Fin k0_t1_loop.trips) :
    m.view.readAt (Elt F) (Rect.unit (s := S1x4096x128) (k0_off1 k) S1x512x128.size (k0_off1_inb k)).toLoadRect (hm.unread x)
      = tile x k.val := by
  rw [View.readAt_eq_ld, hm.read_unread]
  funext (y : S1x512x128.Idx)
  have hk : k.val < 8 := k.isLt
  have ho := off_eq k
  refine congrArg x (funext fun a => Fin.ext ?_)
  refine Eq.trans (congrArg (fun o : Fin 3 → ℕ => o a + 1 * (y a).val) ho) ?_
  match a with
  | ⟨0, _⟩ => have h0 : (y 0).val < 1 := (y 0).isLt; show 0 + 1 * (y 0).val = 0; omega
  | ⟨1, _⟩ =>
    have h1 : (y 1).val < 512 := (y 1).isLt
    show 512 * k.val + 1 * (y 1).val = (512 * k.val + (y 1).val) % 4096
    rw [Nat.mod_eq_of_lt (by omega), Nat.one_mul]
  | ⟨2, _⟩ => show 0 + 1 * (y 2).val = (y 2).val; omega

/-- One trip's stores are whole-buffer stores of the stepped state, whatever contents hold the state before it. -/
theorem trip_stores (𝒱 : Variants) (c : Dev nD) (bd : Option 𝒱.V) (i : grid0.Coords)
    (arg3 : Memref sig .tc .vmem S1x256x256 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x256x128 .bf16) (harg6 : arg6.IsWhole)
    (arg7 : Memref sig .tc .vmem S1x256x128 .bf16) (harg7 : arg7.IsWhole)
    (arg8 : Memref sig .tc .vmem S1x256x256 .bf16) (harg8 : arg8.IsWhole)
    (arg9 : Memref sig .tc .vmem S512x1 .f32) (harg9 : arg9.IsWhole)
    (arg10 : Memref sig .tc .vmem S512x1 .f32) (harg10 : arg10.IsWhole)
    (arg11 : Memref sig .tc .vmem S512x128 .f32) (harg11 : arg11.IsWhole)
    (v0 : Vec F S1x256x256 .bf16) (x1 x2 : Vec F S1x4096x128 .bf16) (k : Fin k0_t1_loop.trips)
    (f9 : BufTy.Contents (Elt F) arg9.view.ty) (f10 : BufTy.Contents (Elt F) arg10.view.ty) (f11 : BufTy.Contents (Elt F) arg11.view.ty)
    (s : St F) (h9 : arg9.view.read (Elt F) f9 = s.1) (h10 : arg10.view.read (Elt F) f10 = s.2.1)
    (h11 : arg11.view.read (Elt F) f11 = s.2.2) :
    tripL_k0_t1 (F := F) 𝒱 c bd i arg3 harg3 arg4 harg4 arg5 harg5 arg6 harg6 arg7 harg7 arg8 harg8 arg9 harg9 arg10 harg10 arg11 harg11 v0 (harg4.unread x1) (harg5.unread x2) k f9 f10 f11
      = ([⟨Rect.unit (s := S512x1) ![0, 0] S512x1.size inb_S512x1_S512x1_0_0, (step (k0_pay7 v0) (tile x1 k.val) (tile x2 k.val) s).1⟩],
         [⟨Rect.unit (s := S512x1) ![0, 0] S512x1.size inb_S512x1_S512x1_0_0, (step (k0_pay7 v0) (tile x1 k.val) (tile x2 k.val) s).2.1⟩],
         [⟨Rect.unit (s := S512x128) ![0, 0] S512x128.size inb_S512x128_S512x128_0_0, (step (k0_pay7 v0) (tile x1 k.val) (tile x2 k.val) s).2.2⟩]) := by
  have e9 : arg9.view.readAt (Elt F) (Rect.unit (s := S512x1) ![0, 0] S512x1.size inb_S512x1_S512x1_0_0).toLoadRect f9 = s.1 :=
    (View.readAt_full arg9.view f9 inb_S512x1_S512x1_0_0).trans h9
  have e10 : arg10.view.readAt (Elt F) (Rect.unit (s := S512x1) ![0, 0] S512x1.size inb_S512x1_S512x1_0_0).toLoadRect f10 = s.2.1 :=
    (View.readAt_full arg10.view f10 inb_S512x1_S512x1_0_0).trans h10
  have e11 : arg11.view.readAt (Elt F) (Rect.unit (s := S512x128) ![0, 0] S512x128.size inb_S512x128_S512x128_0_0).toLoadRect f11 = s.2.2 :=
    (View.readAt_full arg11.view f11 inb_S512x128_S512x128_0_0).trans h11
  have e4 := load_tile harg4 x1 k
  have e5 := load_tile harg5 x2 k
  unfold step
  rw [← e9, ← e10, ← e11, ← e4, ← e5]
  unfold tripL_k0_t1 trip_k0_t1
  rfl

/-- The pieces stored by the initial fill and the first `k` trips: the latest store into each scratch buffer is of the
whole buffer, and holds the state after `k` trips. -/
theorem stores_after (𝒱 : Variants) (c : Dev nD) (bd : Option 𝒱.V) (i : grid0.Coords)
    (arg3 : Memref sig .tc .vmem S1x256x256 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x256x128 .bf16) (harg6 : arg6.IsWhole)
    (arg7 : Memref sig .tc .vmem S1x256x128 .bf16) (harg7 : arg7.IsWhole)
    (arg8 : Memref sig .tc .vmem S1x256x256 .bf16) (harg8 : arg8.IsWhole)
    (arg9 : Memref sig .tc .vmem S512x1 .f32) (harg9 : arg9.IsWhole)
    (arg10 : Memref sig .tc .vmem S512x1 .f32) (harg10 : arg10.IsWhole)
    (arg11 : Memref sig .tc .vmem S512x128 .f32) (harg11 : arg11.IsWhole)
    (v0 : Vec F S1x256x256 .bf16) (x1 x2 : Vec F S1x4096x128 .bf16)
    (g9 : BufTy.Contents (Elt F) arg9.view.ty) (g10 : BufTy.Contents (Elt F) arg10.view.ty) (g11 : BufTy.Contents (Elt F) arg11.view.ty)
    (k : ℕ) (hk : k ≤ 8) :
    (∃ L, (pb_k0_t1 (F := F) 𝒱 c bd i arg3 harg3 arg4 harg4 arg5 harg5 arg6 harg6 arg7 harg7 arg8 harg8 arg9 harg9 arg10 harg10 arg11 harg11 v0 (harg4.unread x1) (harg5.unread x2)
        (arg9.view.writes (Elt F) g9 [⟨Rect.unit (s := S512x1) ![0, 0] S512x1.size inb_S512x1_S512x1_0_0, k0_pay8⟩])
        (arg10.view.writes (Elt F) g10 [⟨Rect.unit (s := S512x1) ![0, 0] S512x1.size inb_S512x1_S512x1_0_0, k0_pay9⟩])
        (arg11.view.writes (Elt F) g11 [⟨Rect.unit (s := S512x128) ![0, 0] S512x128.size inb_S512x128_S512x128_0_0, k0_pay10⟩]) k).1
          ++ [⟨Rect.unit (s := S512x1) ![0, 0] S512x1.size inb_S512x1_S512x1_0_0, k0_pay8⟩]
        = ⟨Rect.unit (s := S512x1) ![0, 0] S512x1.size inb_S512x1_S512x1_0_0, (st (k0_pay7 v0) x1 x2 k).1⟩ :: L)
    ∧ (∃ L, (pb_k0_t1 (F := F) 𝒱 c bd i arg3 harg3 arg4 harg4 arg5 harg5 arg6 harg6 arg7 harg7 arg8 harg8 arg9 harg9 arg10 harg10 arg11 harg11 v0 (harg4.unread x1) (harg5.unread x2)
        (arg9.view.writes (Elt F) g9 [⟨Rect.unit (s := S512x1) ![0, 0] S512x1.size inb_S512x1_S512x1_0_0, k0_pay8⟩])
        (arg10.view.writes (Elt F) g10 [⟨Rect.unit (s := S512x1) ![0, 0] S512x1.size inb_S512x1_S512x1_0_0, k0_pay9⟩])
        (arg11.view.writes (Elt F) g11 [⟨Rect.unit (s := S512x128) ![0, 0] S512x128.size inb_S512x128_S512x128_0_0, k0_pay10⟩]) k).2.1
          ++ [⟨Rect.unit (s := S512x1) ![0, 0] S512x1.size inb_S512x1_S512x1_0_0, k0_pay9⟩]
        = ⟨Rect.unit (s := S512x1) ![0, 0] S512x1.size inb_S512x1_S512x1_0_0, (st (k0_pay7 v0) x1 x2 k).2.1⟩ :: L)
    ∧ (∃ L, (pb_k0_t1 (F := F) 𝒱 c bd i arg3 harg3 arg4 harg4 arg5 harg5 arg6 harg6 arg7 harg7 arg8 harg8 arg9 harg9 arg10 harg10 arg11 harg11 v0 (harg4.unread x1) (harg5.unread x2)
        (arg9.view.writes (Elt F) g9 [⟨Rect.unit (s := S512x1) ![0, 0] S512x1.size inb_S512x1_S512x1_0_0, k0_pay8⟩])
        (arg10.view.writes (Elt F) g10 [⟨Rect.unit (s := S512x1) ![0, 0] S512x1.size inb_S512x1_S512x1_0_0, k0_pay9⟩])
        (arg11.view.writes (Elt F) g11 [⟨Rect.unit (s := S512x128) ![0, 0] S512x128.size inb_S512x128_S512x128_0_0, k0_pay10⟩]) k).2.2
          ++ [⟨Rect.unit (s := S512x128) ![0, 0] S512x128.size inb_S512x128_S512x128_0_0, k0_pay10⟩]
        = ⟨Rect.unit (s := S512x128) ![0, 0] S512x128.size inb_S512x128_S512x128_0_0, (st (k0_pay7 v0) x1 x2 k).2.2⟩ :: L) := by
  induction k with
  | zero => exact ⟨⟨[], rfl⟩, ⟨[], rfl⟩, ⟨[], rfl⟩⟩
  | succ k ih =>
    obtain ⟨⟨L9, h9⟩, ⟨L10, h10⟩, ⟨L11, h11⟩⟩ := ih (by omega)
    have hs := pb_k0_t1_succ (F := F) 𝒱 c bd i arg3 harg3 arg4 harg4 arg5 harg5 arg6 harg6 arg7 harg7 arg8 harg8 arg9 harg9 arg10 harg10 arg11 harg11 v0 (harg4.unread x1) (harg5.unread x2)
        (arg9.view.writes (Elt F) g9 [⟨Rect.unit (s := S512x1) ![0, 0] S512x1.size inb_S512x1_S512x1_0_0, k0_pay8⟩])
        (arg10.view.writes (Elt F) g10 [⟨Rect.unit (s := S512x1) ![0, 0] S512x1.size inb_S512x1_S512x1_0_0, k0_pay9⟩])
        (arg11.view.writes (Elt F) g11 [⟨Rect.unit (s := S512x128) ![0, 0] S512x128.size inb_S512x128_S512x128_0_0, k0_pay10⟩])
        ⟨k, by rw [trips_eq]; omega⟩
    rw [← View.writes_append, ← View.writes_append, ← View.writes_append] at hs
    rw [Fin.val_mk] at hs
    rw [h9, h10, h11, trip_stores 𝒱 c bd i arg3 harg3 arg4 harg4 arg5 harg5 arg6 harg6 arg7 harg7 arg8 harg8 arg9 harg9 arg10 harg10 arg11 harg11 v0 x1 x2 _ _ _ _ (st (k0_pay7 v0) x1 x2 k)
      (View.read_writes_full _ _ inb_S512x1_S512x1_0_0 _ _) (View.read_writes_full _ _ inb_S512x1_S512x1_0_0 _ _)
      (View.read_writes_full _ _ inb_S512x128_S512x128_0_0 _ _)] at hs
    exact ⟨⟨_, by rw [hs]; exact congrArg (List.cons _) h9⟩, ⟨_, by rw [hs]; exact congrArg (List.cons _) h10⟩,
      ⟨_, by rw [hs]; exact congrArg (List.cons _) h11⟩⟩

/-- The state after the loop and the closing context block, from the point's five input blocks. -/
def final (x0 : Vec F S1x256x256 .bf16) (x1 x2 : Vec F S1x4096x128 .bf16) (x3 x4 : Vec F S1x256x128 .bf16) : St F :=
  let s := st (k0_pay7 x0) x1 x2 8
  (k0_pay19 (k0_pay14 x0 x3 s.1), k0_pay17 (k0_pay13 x0 x3) s.1 (k0_pay14 x0 x3 s.1) s.2.1,
    k0_pay18 (k0_pay12 x4) (k0_pay13 x0 x3) s.1 (k0_pay14 x0 x3 s.1) s.2.2)

/-- The output block: the weighted sum divided by the normalizer, laid out by heads. -/
def block (x0 : Vec F S1x256x256 .bf16) (x1 x2 : Vec F S1x4096x128 .bf16) (x3 x4 : Vec F S1x256x128 .bf16) : Vec F S1x256x256 .bf16 :=
  k0_pay20 (final x0 x1 x2 x3 x4).2.2 (final x0 x1 x2 x3 x4).2.1

/-- ONE BLOCK COMPUTES: the output window after a grid point's body is `block` of its input blocks. -/
theorem out_eq (c : Dev nD) (i : grid0.Coords)
    (arg3 : Memref sig .tc .vmem S1x256x256 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x256x128 .bf16) (harg6 : arg6.IsWhole)
    (arg7 : Memref sig .tc .vmem S1x256x128 .bf16) (harg7 : arg7.IsWhole)
    (arg8 : Memref sig .tc .vmem S1x256x256 .bf16) (harg8 : arg8.IsWhole)
    (arg9 : Memref sig .tc .vmem S512x1 .f32) (harg9 : arg9.IsWhole)
    (arg10 : Memref sig .tc .vmem S512x1 .f32) (harg10 : arg10.IsWhole)
    (arg11 : Memref sig .tc .vmem S512x128 .f32) (harg11 : arg11.IsWhole)
    (x0 : Vec F S1x256x256 .bf16) (x1 x2 : Vec F S1x4096x128 .bf16) (x3 x4 : Vec F S1x256x128 .bf16) :
    out0_A_5 c i arg3 harg3 arg4 harg4 arg5 harg5 arg6 harg6 arg7 harg7 arg8 harg8 arg9 harg9 arg10 harg10 arg11 harg11 x0 x1 x2 x3 x4 = block x0 x1 x2 x3 x4 := by
  have e3 : View.readAt (Elt F) arg3.view (Rect.unit (s := S1x256x256) ![0, 0, 0] S1x256x256.size inb_S1x256x256_S1x256x256_0_0_0).toLoadRect
      (harg3.unread x0) = x0 := by rw [View.readAt_full, harg3.read_unread]
  have e6 : View.readAt (Elt F) arg6.view (Rect.unit (s := S1x256x128) ![0, 0, 0] S1x256x128.size inb_S1x256x128_S1x256x128_0_0_0).toLoadRect
      (harg6.unread x3) = x3 := by rw [View.readAt_full, harg6.read_unread]
  have e7 : View.readAt (Elt F) arg7.view (Rect.unit (s := S1x256x128) ![0, 0, 0] S1x256x128.size inb_S1x256x128_S1x256x128_0_0_0).toLoadRect
      (harg7.unread x4) = x4 := by rw [View.readAt_full, harg7.read_unread]
  obtain ⟨⟨L9, h9⟩, ⟨L10, h10⟩, ⟨L11, h11⟩⟩ := stores_after (F := F) Variants.none c none i arg3 harg3 arg4 harg4 arg5 harg5 arg6 harg6 arg7 harg7 arg8 harg8 arg9 harg9 arg10 harg10 arg11 harg11 x0 x1 x2
    arg9.view.junk arg10.view.junk arg11.view.junk 8 (by omega)
  have ht : Scf.trips k0_t1_loop.lb k0_t1_loop.ub k0_t1_loop.st = 8 := trips_eq
  unfold out0_A_5
  rw [View.read_writes_eq_canon _ _ _ (fun y => cover0_A_5 c i arg3 harg3 arg4 harg4 arg5 harg5 arg6 harg6 arg7 harg7 arg8 harg8 arg9 harg9 arg10 harg10 arg11 harg11 x0 x1 x2 x3 x4 y)]
  unfold kernelRun0_A
  dsimp only
  sl_unfold_words
  rw [ht, e3, e6, e7, h9, h10, h11]
  rw [View.readCov_full arg9.view inb_S512x1_S512x1_0_0, View.readCov_full arg10.view inb_S512x1_S512x1_0_0,
    View.readCov_full arg10.view inb_S512x1_S512x1_0_0, View.readCov_full arg11.view inb_S512x128_S512x128_0_0,
    View.readCov_full arg11.view inb_S512x128_S512x128_0_0]
  have hz : (![0, 0, 0] : Fin 3 → ℕ) = fun _ => 0 := by funext a; fin_cases a <;> rfl
  exact View.canon_cons_unit_zero (S := S1x256x256) hz inb_S1x256x256_S1x256x256_0_0_0 _ []

end Cert.GqaIdeal.Val

end
-- ==== Proof.Gqa.Softmax.lean ====
/-
  The mathematics of a softmax-weighted sum taken block by block: scores are real numbers, values are
  arbitrary extended reals. A running state (maximum, normalizer, weighted sum) that has met the first `N`
  keys holds, for SOME real shift `μ`, the sums of `exp (score - μ)` over those keys; one more block keeps
  that; and the quotient of the two sums does not depend on the shift, so it is the softmax average.
-/
module

public import Idealize.ShloMosaic.PureOps.Ideal.Laws

@[expose] public section

noncomputable section

open scoped BigOperators

namespace Cert.Softmax

open Idealize.ShloMosaic

/-- A finite sum times a nonnegative real is the sum of the products. -/
theorem mul_sum {ι : Type*} (S : Finset ι) (c : ℝ) (hc : 0 ≤ c) (f : ι → EReal) :
    (c : EReal) * ∑ j ∈ S, f j = ∑ j ∈ S, (c : EReal) * f j := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- A finite sum of reals, as an extended real. -/
theorem coe_sum {ι : Type*} (S : Finset ι) (f : ι → ℝ) :
    ∑ j ∈ S, ((f j : ℝ) : EReal) = ((∑ j ∈ S, f j : ℝ) : EReal) := by
  classical
  induction S using Finset.induction_on with
  | empty => simp
  | insert a S ha ih => rw [Finset.sum_insert ha, Finset.sum_insert ha, ih, EReal.coe_add]

/-- A product of finitely many real terms summed is a real number. -/
theorem dot_real {ι : Type*} (S : Finset ι) (x y : ι → EReal) (hx : ∀ j, ∃ r : ℝ, x j = r) (hy : ∀ j, ∃ r : ℝ, y j = r) :
    ∃ r : ℝ, ∑ j ∈ S, x j * y j = r := by
  choose a ha using hx
  choose b hb using hy
  refine ⟨∑ j ∈ S, a j * b j, ?_⟩
  rw [← coe_sum]
  exact Finset.sum_congr rfl fun j _ => by rw [ha, hb, EReal.coe_mul]

/-- The running maximum of a real number and finitely many real scores is a real number. -/
theorem max_fold_real {ι : Type*} (S : Finset ι) (μ : ℝ) (f : ι → EReal) (hf : ∀ j, ∃ r : ℝ, f j = r) :
    ∃ r : ℝ, max (μ : EReal) (S.fold max ⊥ f) = r := by
  classical
  induction S using Finset.induction_on with
  | empty => exact ⟨μ, by simp⟩
  | insert a S ha ih =>
    obtain ⟨r, hr⟩ := ih
    obtain ⟨q, hq⟩ := hf a
    refine ⟨max q r, ?_⟩
    rw [Finset.fold_insert ha, max_left_comm, hr, hq]
    exact (EReal.coe_strictMono.monotone.map_max).symm

/-- The maximum of finitely many real scores, of which there is at least one, is a real number. -/
theorem fold_real {n : ℕ} (f : Fin (n + 1) → EReal) (hf : ∀ j, ∃ r : ℝ, f j = r) :
    ∃ r : ℝ, (Finset.univ : Finset (Fin (n + 1))).fold max ⊥ f = r := by
  classical
  obtain ⟨q, hq⟩ := hf 0
  obtain ⟨r, hr⟩ := max_fold_real (Finset.univ.erase (0 : Fin (n + 1))) q f hf
  refine ⟨r, ?_⟩
  rw [← Finset.insert_erase (Finset.mem_univ (0 : Fin (n + 1))), Finset.fold_insert (Finset.notMem_erase _ _), hq, hr]

/-- The exponential of a difference of two reals. -/
theorem exp_sub (x y : ℝ) : Ideal.exp ((x : EReal) - (y : EReal)) = ((Real.exp (x - y) : ℝ) : EReal) := by
  rw [← EReal.coe_sub, Ideal.exp_coe]

/-- The weight of key `j` at shift `μ`. -/
def wt (s : ℕ → ℝ) (μ : ℝ) (j : ℕ) : ℝ := Real.exp (s j - μ)

/-- Moving the shift multiplies every weight by one factor. -/
theorem wt_shift (s : ℕ → ℝ) (μ ν : ℝ) (j : ℕ) : Real.exp (μ - ν) * wt s μ j = wt s ν j := by
  unfold wt; rw [← Real.exp_add]; congr 1; ring

/-- The state (maximum, normalizer, weighted sum) after the first `N` keys: for some real shift `μ` it is the shift,
the sum of the weights, and the sum of the weighted values. -/
def Holds (s : ℕ → ℝ) (v : ℕ → EReal) (N : ℕ) (m l a : EReal) : Prop :=
  ∃ μ : ℝ, m = μ ∧ l = ∑ j ∈ Finset.range N, (wt s μ j : EReal)
    ∧ a = ∑ j ∈ Finset.range N, (wt s μ j : EReal) * v j

/-- Before any key, any real maximum, with zero sums. -/
theorem holds_zero (s : ℕ → ℝ) (v : ℕ → EReal) (m : EReal) (hm : ∃ r : ℝ, m = r) : Holds s v 0 m 0 0 := by
  obtain ⟨r, rfl⟩ := hm
  exact ⟨r, rfl, by simp, by simp⟩

/-- One block of `n` keys: the maximum is raised by the block's scores, the sums are rescaled and the block's added. -/
theorem holds_step (s : ℕ → ℝ) (v : ℕ → EReal) (N n : ℕ) (m l a : EReal) (h : Holds s v N m l a)
    (sb vb : Fin n → EReal) (hs : ∀ i, sb i = (s (N + i.val) : ℝ)) (hv : ∀ i, vb i = v (N + i.val))
    (m' : EReal) (hm : m' = max m (Finset.univ.fold max ⊥ sb)) :
    Holds s v (N + n) m' (Ideal.exp (m - m') * l + ∑ i, Ideal.exp (sb i - m'))
      (Ideal.exp (m - m') * a + ∑ i, Ideal.exp (sb i - m') * vb i) := by
  obtain ⟨μ, rfl, rfl, rfl⟩ := h
  obtain ⟨ν, hν⟩ := max_fold_real Finset.univ μ sb fun i => ⟨_, hs i⟩
  rw [hν] at hm
  subst hm
  refine ⟨ν, rfl, ?_, ?_⟩
  · rw [Finset.sum_range_add, exp_sub, mul_sum _ _ (Real.exp_nonneg _), Finset.sum_range (fun x => ((wt s ν (N + x) : ℝ) : EReal))]
    refine congrArg₂ (· + ·) (Finset.sum_congr rfl fun j _ => ?_) (Finset.sum_congr rfl fun i _ => ?_)
    · rw [← EReal.coe_mul, wt_shift]
    · rw [hs, exp_sub]; rfl
  · rw [Finset.sum_range_add, exp_sub, mul_sum _ _ (Real.exp_nonneg _),
      Finset.sum_range (fun x => ((wt s ν (N + x) : ℝ) : EReal) * v (N + x))]
    refine congrArg₂ (· + ·) (Finset.sum_congr rfl fun j _ => ?_) (Finset.sum_congr rfl fun i _ => ?_)
    · rw [← mul_assoc, ← EReal.coe_mul, wt_shift]
    · rw [hs, hv, exp_sub]; rfl

/-- The state after all `n + 1` keys, divided, is the softmax average computed with any real maximum `M`: the sum
of `exp (score - M)` over its own normalizer, times the values. -/
theorem holds_div (s : ℕ → ℝ) (v : ℕ → EReal) (n : ℕ) (m l a : EReal) (h : Holds s v (n + 1) m l a) (M : ℝ)
    (sb vb : Fin (n + 1) → EReal) (hs : ∀ i, sb i = (s i.val : ℝ)) (hv : ∀ i, vb i = v i.val) :
    Ideal.div a l = ∑ i : Fin (n + 1), Ideal.div (Ideal.exp (sb i - M)) (∑ j : Fin (n + 1), Ideal.exp (sb j - M)) * vb i := by
  obtain ⟨μ, rfl, rfl, rfl⟩ := h
  have hsum : ∀ ρ : ℝ, 0 < ∑ j ∈ Finset.range (n + 1), wt s ρ j := fun ρ =>
    Finset.sum_pos (fun j _ => Real.exp_pos _) ⟨0, by simp⟩
  have hM : (∑ j : Fin (n + 1), Ideal.exp (sb j - M)) = ((∑ j ∈ Finset.range (n + 1), wt s M j : ℝ) : EReal) := by
    rw [← coe_sum, Finset.sum_range]
    exact Finset.sum_congr rfl fun j _ => by rw [hs, exp_sub]; rfl
  rw [hM, coe_sum, Ideal.div_coe (hsum μ).ne', mul_comm, mul_sum _ _ (by have := hsum μ; positivity), Finset.sum_range]
  refine Finset.sum_congr rfl fun i _ => ?_
  rw [hs, hv, exp_sub, Ideal.div_coe (hsum M).ne', ← EReal.coe_mul, ← mul_assoc, ← EReal.coe_mul]
  congr 2
  have hk : ∑ j ∈ Finset.range (n + 1), wt s M j = Real.exp (μ - M) * ∑ j ∈ Finset.range (n + 1), wt s μ j := by
    rw [Finset.mul_sum]; exact Finset.sum_congr rfl fun j _ => (wt_shift s μ M j).symm
  rw [hk, show Real.exp (s i.val - M) = Real.exp (μ - M) * wt s μ i.val from (wt_shift s μ M i.val).symm]
  have h1 := (hsum μ).ne'
  have h2 := (Real.exp_pos (μ - M)).ne'
  field_simp

end Cert.Softmax

end
-- ==== Proof.Gqa.Rows.lean ====
/-
  One row of one block, over the extended reals: each payload read at an index, the state after the loop as the running
  softmax sums over the keys met so far, and the block's entry as the softmax average of the values over all 4352 keys
  (the 4096 positions, then the 256 context rows).
-/
module

public import proofs.«01_k».proof.Proof.Gqa.Body
public import proofs.«01_k».proof.Proof.Gqa.Softmax
public import Idealize.ShloMosaic.Lib.Pointwise

@[expose] public section

noncomputable section

open scoped BigOperators
open Idealize.ShloMosaic Idealize.ShloMosaic.TcCoe Idealize.SL.Sem

namespace Cert.GqaIdeal.Val

open Cert.GqaIdeal Cert.GqaIdeal.Gen Cert.Softmax

/-! ## The payloads at an index -/

/-- A row of scores of the loop's tile. -/
theorem pay1_apply (q : FVec Ideal S512x128 .bf16) (kt : Vec Ideal S1x512x128 .bf16) (r j : Fin 512) :
    k0_pay1 q kt (ix2 r j) = ∑ x : Fin 128, q (ix2 r x) * kt (ix3 0 j x) := by
  pointwise [k0_pay1]

/-- The raised maximum. -/
theorem pay2_apply (q : FVec Ideal S512x128 .bf16) (kt : Vec Ideal S1x512x128 .bf16) (m : Vec Ideal S512x1 .f32) (r : Fin 512) :
    k0_pay2 q kt m (ix2 r 0) = max (m (ix2 r 0))
      ((Finset.univ : Finset (Fin 512)).fold max (Ideal.ofBits FTy.f32 0xFF800000#32) fun j => k0_pay1 q kt (ix2 r j)) := by
  pointwise [k0_pay2]

/-- The rescaled normalizer with the tile's weights added. -/
theorem pay5_apply (q : FVec Ideal S512x128 .bf16) (kt : Vec Ideal S1x512x128 .bf16) (m l : Vec Ideal S512x1 .f32) (r : Fin 512) :
    k0_pay5 q kt m l (ix2 r 0) = Ideal.exp (m (ix2 r 0) - k0_pay2 q kt m (ix2 r 0)) * l (ix2 r 0)
      + ∑ j : Fin 512, Ideal.exp (k0_pay1 q kt (ix2 r j) - k0_pay2 q kt m (ix2 r 0)) := by
  pointwise [k0_pay5, k0_pay3, k0_pay4]

/-- The rescaled weighted sum with the tile's weighted values added. -/
theorem pay6_apply (q : FVec Ideal S512x128 .bf16) (kt vt : Vec Ideal S1x512x128 .bf16) (m : Vec Ideal S512x1 .f32)
    (a : Vec Ideal S512x128 .f32) (r : Fin 512) (d : Fin 128) :
    k0_pay6 q kt vt m a (ix2 r d) = Ideal.exp (m (ix2 r 0) - k0_pay2 q kt m (ix2 r 0)) * a (ix2 r d)
      + ∑ j : Fin 512, Ideal.exp (k0_pay1 q kt (ix2 r j) - k0_pay2 q kt m (ix2 r 0)) * vt (ix3 0 j d) := by
  pointwise [k0_pay6, k0_pay3, k0_pay4]

/-- The stored maximum is the raised maximum. -/
theorem pay11_eq (m : FVec Ideal S512x1 .f32) : k0_pay11 m = m := by
  funext i; pointwise [k0_pay11]

/-- The block's query rows: the two heads of a group one under the other. -/
theorem pay7_apply (x0 : Vec Ideal S1x256x256 .bf16) (r : Fin 512) (d : Fin 128) :
    k0_pay7 x0 (ix2 r d) = if h : r.val < 256 then x0 (ix3 0 ⟨r.val, h⟩ ⟨d.val, by omega⟩)
      else x0 (ix3 0 ⟨r.val - 256, by omega⟩ ⟨128 + d.val, by omega⟩) := by
  pointwise [k0_pay7]

/-- The filled maximum is a real number. -/
theorem pay8_real (r : Fin 512) : ∃ c : ℝ, (k0_pay8 (F := Ideal)) (ix2 r 0) = c := by
  refine ⟨-1000000015047466219876688855040, ?_⟩
  pointwise [k0_pay8]
  simp [Ideal.ofBits, Ideal.ieee, -EReal.coe_mul, -EReal.coe_neg]
  norm_num

/-- The filled normalizer is zero. -/
theorem pay9_apply (r : Fin 512) : (k0_pay9 (F := Ideal)) (ix2 r 0) = 0 := by
  pointwise [k0_pay9]

/-- The filled weighted sum is zero. -/
theorem pay10_apply (r : Fin 512) (d : Fin 128) : (k0_pay10 (F := Ideal)) (ix2 r d) = 0 := by
  pointwise [k0_pay10]

/-- A row of scores of the context block. -/
theorem pay13_apply (x0 : Vec Ideal S1x256x256 .bf16) (x3 : Vec Ideal S1x256x128 .bf16) (r : Fin 512) (j : Fin 256) :
    k0_pay13 x0 x3 (ix2 r j) = ∑ x : Fin 128, k0_pay7 x0 (ix2 r x) * x3 (ix3 0 j x) := by
  pointwise [k0_pay13]

/-- The maximum raised by the context block. -/
theorem pay14_apply (x0 : Vec Ideal S1x256x256 .bf16) (x3 : Vec Ideal S1x256x128 .bf16) (m : Vec Ideal S512x1 .f32) (r : Fin 512) :
    k0_pay14 x0 x3 m (ix2 r 0) = max (m (ix2 r 0))
      ((Finset.univ : Finset (Fin 256)).fold max (Ideal.ofBits FTy.f32 0xFF800000#32) fun j => k0_pay13 x0 x3 (ix2 r j)) := by
  pointwise [k0_pay14]

/-- The normalizer after the context block. -/
theorem pay17_apply (s : FVec Ideal S512x256 .f32) (m m' l : Vec Ideal S512x1 .f32) (r : Fin 512) :
    k0_pay17 s m m' l (ix2 r 0) = Ideal.exp (m (ix2 r 0) - m' (ix2 r 0)) * l (ix2 r 0)
      + ∑ j : Fin 256, Ideal.exp (s (ix2 r j) - m' (ix2 r 0)) := by
  pointwise [k0_pay17, k0_pay15, k0_pay16]

/-- The weighted sum after the context block. -/
theorem pay18_apply (x4 : Vec Ideal S1x256x128 .bf16) (s : FVec Ideal S512x256 .f32) (m m' : Vec Ideal S512x1 .f32)
    (a : Vec Ideal S512x128 .f32) (r : Fin 512) (d : Fin 128) :
    k0_pay18 (k0_pay12 x4) s m m' a (ix2 r d) = Ideal.exp (m (ix2 r 0) - m' (ix2 r 0)) * a (ix2 r d)
      + ∑ j : Fin 256, Ideal.exp (s (ix2 r j) - m' (ix2 r 0)) * x4 (ix3 0 j d) := by
  pointwise [k0_pay18, k0_pay12, k0_pay15, k0_pay16]

/-- The maximum stored after the context block. -/
theorem pay19_eq (m : FVec Ideal S512x1 .f32) : k0_pay19 m = m := by
  funext i; pointwise [k0_pay19]

/-- The output block: column `e` is dimension `e mod 128` of head `e / 128`, the quotient of the two sums. -/
theorem pay20_apply (a : Vec Ideal S512x128 .f32) (l : Vec Ideal S512x1 .f32) (r e : Fin 256) :
    k0_pay20 a l (ix3 0 r e) = Ideal.div (a (ix2 ⟨256 * (e.val / 128) + r.val, by omega⟩ ⟨e.val % 128, by omega⟩))
      (l (ix2 ⟨256 * (e.val / 128) + r.val, by omega⟩ 0)) := by
  pointwise [k0_pay20]
  by_cases h : e.val < 128
  · have h1 : e.val / 128 = 0 := by omega
    have h2 : e.val % 128 = e.val := by omega
    simp only [h, dif_pos, h1, h2, Nat.mul_zero, Nat.zero_add]
  · have h1 : e.val / 128 = 1 := by omega
    have h2 : e.val % 128 = e.val - 128 := by omega
    simp only [h, dif_neg, not_false_eq_true, h1, h2, Nat.mul_one]

/-! ## A row of the state and of the block -/

/-- The keys (or values) a query meets, in order: the window's 4096 rows, then the 256 context rows. -/
def allRows (x : Vec Ideal S1x4096x128 .bf16) (y : Vec Ideal S1x256x128 .bf16) (j : Fin 4352) (d : Fin 128) : EReal :=
  if h : j.val < 4096 then x (ix3 (0 : Fin 1) (⟨j.val, h⟩ : Fin 4096) d) else y (ix3 (0 : Fin 1) (⟨j.val - 4096, by omega⟩ : Fin 256) d)

/-- The score of key `j` against row `r` of the queries. -/
def score (q : FVec Ideal S512x128 .bf16) (x : Vec Ideal S1x4096x128 .bf16) (y : Vec Ideal S1x256x128 .bf16) (r : Fin 512)
    (j : Fin 4352) : EReal :=
  ∑ d : Fin 128, q (ix2 r d) * allRows x y j d

/-- A tile's row is a row of the window. -/
theorem tile_apply (x : Vec Ideal S1x4096x128 .bf16) (y : Vec Ideal S1x256x128 .bf16) (k : ℕ) (hk : k < 8) (j : Fin 512) (d : Fin 128) :
    tile x k (ix3 0 j d) = allRows x y ⟨512 * k + j.val, by omega⟩ d := by
  have h : 512 * k + j.val < 4096 := by omega
  rw [allRows, dif_pos h]
  have e : (⟨(512 * k + j.val) % 4096, Nat.mod_lt _ (by omega)⟩ : Fin 4096) = ⟨512 * k + j.val, h⟩ := Fin.ext (Nat.mod_eq_of_lt h)
  exact congrArg (fun t : Fin 4096 => x (ix3 0 t d)) e

/-- A context row is a row past the window. -/
theorem ctx_apply (x : Vec Ideal S1x4096x128 .bf16) (y : Vec Ideal S1x256x128 .bf16) (j : Fin 256) (d : Fin 128) :
    y (ix3 0 j d) = allRows x y ⟨4096 + j.val, by omega⟩ d := by
  have h : ¬ 4096 + j.val < 4096 := by omega
  rw [allRows, dif_neg h]
  have e : j = (⟨4096 + j.val - 4096, by omega⟩ : Fin 256) := Fin.ext (by show j.val = 4096 + j.val - 4096; omega)
  exact congrArg (fun t : Fin 256 => y (ix3 0 t d)) e

/-- The word of minus infinity. -/
theorem negInf : Ideal.ofBits FTy.f32 0xFF800000#32 = ⊥ := by
  simp [Ideal.ofBits, Ideal.ieee]

/-- After `k` trips the state at row `r` holds the running softmax sums over the first `512 k` keys. -/
theorem st_holds (q : FVec Ideal S512x128 .bf16) (x1 x2 : Vec Ideal S1x4096x128 .bf16) (x3 x4 : Vec Ideal S1x256x128 .bf16)
    (r : Fin 512) (d : Fin 128) (s : ℕ → ℝ) (v : ℕ → EReal) (hs : ∀ j : Fin 4352, score q x1 x3 r j = (s j.val : ℝ))
    (hv : ∀ j : Fin 4352, allRows x2 x4 j d = v j.val) :
    ∀ k, k ≤ 8 → Holds s v (512 * k) ((st q x1 x2 k).1 (ix2 r 0)) ((st q x1 x2 k).2.1 (ix2 r 0)) ((st q x1 x2 k).2.2 (ix2 r d)) := by
  intro k
  induction k with
  | zero =>
    intro _
    have h9 : (st q x1 x2 0).2.1 (ix2 r 0) = 0 := pay9_apply r
    have h10 : (st q x1 x2 0).2.2 (ix2 r d) = 0 := pay10_apply r d
    rw [h9, h10]
    exact holds_zero s v _ (pay8_real r)
  | succ k ih =>
    intro hk
    have hm : (st q x1 x2 (k + 1)).1 (ix2 r 0) = k0_pay2 q (tile x1 k) (st q x1 x2 k).1 (ix2 r 0) :=
      congrFun (pay11_eq (k0_pay2 q (tile x1 k) (st q x1 x2 k).1)) (ix2 r 0)
    have hl : (st q x1 x2 (k + 1)).2.1 (ix2 r 0) = k0_pay5 q (tile x1 k) (st q x1 x2 k).1 (st q x1 x2 k).2.1 (ix2 r 0) := rfl
    have ha : (st q x1 x2 (k + 1)).2.2 (ix2 r d) = k0_pay6 q (tile x1 k) (tile x2 k) (st q x1 x2 k).1 (st q x1 x2 k).2.2 (ix2 r d) := rfl
    rw [hm, hl, ha, pay5_apply, pay6_apply, Nat.mul_succ]
    refine holds_step s v (512 * k) 512 _ _ _ (ih (by omega)) _ _ (fun j => ?_) (fun j => ?_) _ ?_
    · rw [pay1_apply, ← hs ⟨512 * k + j.val, by omega⟩, score]
      exact Finset.sum_congr rfl fun x _ => by rw [tile_apply x1 x3 k (by omega)]
    · rw [tile_apply x2 x4 k (by omega), hv]
    · rw [pay2_apply, negInf]

/-- The quotient of the closing sums at row `r` is the softmax average over all the keys, at any real shift. -/
theorem final_apply (x0 : Vec Ideal S1x256x256 .bf16) (x1 x2 : Vec Ideal S1x4096x128 .bf16) (x3 x4 : Vec Ideal S1x256x128 .bf16)
    (r : Fin 512) (d : Fin 128) (hs : ∀ j : Fin 4352, ∃ c : ℝ, score (k0_pay7 x0) x1 x3 r j = c) (M : ℝ) :
    Ideal.div ((final x0 x1 x2 x3 x4).2.2 (ix2 r d)) ((final x0 x1 x2 x3 x4).2.1 (ix2 r 0))
      = ∑ i : Fin 4352, Ideal.div (Ideal.exp (score (k0_pay7 x0) x1 x3 r i - M))
          (∑ j : Fin 4352, Ideal.exp (score (k0_pay7 x0) x1 x3 r j - M)) * allRows x2 x4 i d := by
  choose s' hs' using hs
  let s : ℕ → ℝ := fun j => if h : j < 4352 then s' ⟨j, h⟩ else 0
  let v : ℕ → EReal := fun j => if h : j < 4352 then allRows x2 x4 ⟨j, h⟩ d else 0
  have hs : ∀ j : Fin 4352, score (k0_pay7 x0) x1 x3 r j = (s j.val : ℝ) := fun j => by
    rw [hs']; simp only [s, j.isLt, dif_pos]
  have hv : ∀ j : Fin 4352, allRows x2 x4 j d = v j.val := fun j => by
    simp only [v, j.isLt, dif_pos]
  have h8 := st_holds (k0_pay7 x0) x1 x2 x3 x4 r d s v hs hv 8 (le_refl _)
  have key : Holds s v (4351 + 1) ((final x0 x1 x2 x3 x4).1 (ix2 r 0)) ((final x0 x1 x2 x3 x4).2.1 (ix2 r 0))
      ((final x0 x1 x2 x3 x4).2.2 (ix2 r d)) := by
    have hm : (final x0 x1 x2 x3 x4).1 (ix2 r 0) = k0_pay14 x0 x3 (st (k0_pay7 x0) x1 x2 8).1 (ix2 r 0) :=
      congrFun (pay19_eq (k0_pay14 x0 x3 (st (k0_pay7 x0) x1 x2 8).1)) (ix2 r 0)
    have hl : (final x0 x1 x2 x3 x4).2.1 (ix2 r 0) = k0_pay17 (k0_pay13 x0 x3) (st (k0_pay7 x0) x1 x2 8).1
        (k0_pay14 x0 x3 (st (k0_pay7 x0) x1 x2 8).1) (st (k0_pay7 x0) x1 x2 8).2.1 (ix2 r 0) := rfl
    have ha : (final x0 x1 x2 x3 x4).2.2 (ix2 r d) = k0_pay18 (k0_pay12 x4) (k0_pay13 x0 x3) (st (k0_pay7 x0) x1 x2 8).1
        (k0_pay14 x0 x3 (st (k0_pay7 x0) x1 x2 8).1) (st (k0_pay7 x0) x1 x2 8).2.2 (ix2 r d) := rfl
    rw [hm, hl, ha, pay17_apply, pay18_apply]
    refine holds_step s v (512 * 8) 256 _ _ _ h8 _ _ (fun j => ?_) (fun j => ?_) _ ?_
    · rw [pay13_apply, ← hs ⟨4096 + j.val, by omega⟩, score]
      exact Finset.sum_congr rfl fun x _ => by rw [ctx_apply x1 x3]
    · rw [ctx_apply x2 x4, hv]
    · rw [pay14_apply, negInf]
  exact holds_div s v 4351 _ _ _ key M _ _ hs hv

/-- The block's entry: column `e` of row `r` is the softmax average for head `e / 128` at dimension `e mod 128`. -/
theorem block_apply (x0 : Vec Ideal S1x256x256 .bf16) (x1 x2 : Vec Ideal S1x4096x128 .bf16) (x3 x4 : Vec Ideal S1x256x128 .bf16)
    (r e : Fin 256) (s : Fin 4352 → EReal)
    (hs : ∀ j : Fin 4352, s j = ∑ d : Fin 128, x0 (ix3 0 r ⟨128 * (e.val / 128) + d.val, by omega⟩) * allRows x1 x3 j d)
    (hr : ∀ j : Fin 4352, ∃ c : ℝ, s j = c) (M : ℝ) :
    block x0 x1 x2 x3 x4 (ix3 0 r e) = ∑ i : Fin 4352, Ideal.div (Ideal.exp (s i - M)) (∑ j : Fin 4352, Ideal.exp (s j - M))
      * allRows x2 x4 i ⟨e.val % 128, by omega⟩ := by
  have hq : ∀ d : Fin 128, k0_pay7 x0 (ix2 ⟨256 * (e.val / 128) + r.val, by omega⟩ d)
      = x0 (ix3 0 r ⟨128 * (e.val / 128) + d.val, by omega⟩) := fun d => by
    rw [pay7_apply]
    by_cases h : e.val < 128
    · have h1 : e.val / 128 = 0 := by omega
      simp only [h1, Nat.mul_zero, Nat.zero_add, r.isLt, dif_pos]
    · have h1 : e.val / 128 = 1 := by omega
      simp only [h1, Nat.mul_one, show ¬ (256 + r.val < 256) by omega, dif_neg, not_false_eq_true, Nat.add_sub_cancel_left]
  have hsc : ∀ j, score (k0_pay7 x0) x1 x3 ⟨256 * (e.val / 128) + r.val, by omega⟩ j = s j := fun j => by
    rw [hs, score]
    exact Finset.sum_congr rfl fun d _ => by rw [hq]
  rw [block, pay20_apply, final_apply x0 x1 x2 x3 x4 _ _ (fun j => by rw [hsc]; exact hr j) M]
  simp only [hsc]

end Cert.GqaIdeal.Val

end
-- ==== Proof.Gqa.Blocks.lean ====
/-
  The launch's blocks: where each window's block lies in its array at a grid point (the batch `t / 32`, the group
  `t / 16 mod 2`, the query tile `t mod 16`), and the blocks of the result covering it.
-/
module

public import proofs.«01_k».proof.Proof.Gen.GqaIdeal.Value
public import Idealize.ShloMosaic.Lib.Pointwise.Index

@[expose] public section

noncomputable section

open Idealize.ShloMosaic Idealize.ShloMosaic.TcCoe Idealize.SL.Sem

namespace Cert.GqaIdeal.Val

open Cert.GqaIdeal Cert.GqaIdeal.Gen

variable {F : FTy → Type} [FloatOps F]
variable (m : (ℓ : Loc nD τ sig) → Buf (Elt F) ℓ)

/-- The block indices of the queries' window and of the result's. -/
theorem index_q : ∀ t : Fin cfg0.N,
    (win0_0.index t 0 = t.val / 32 ∧ win0_0.index t 1 = t.val % 16 ∧ win0_0.index t 2 = t.val / 16 % 2)
    ∧ (win0_5.index t 0 = t.val / 32 ∧ win0_5.index t 1 = t.val % 16 ∧ win0_5.index t 2 = t.val / 16 % 2) :=
  (by decide +kernel : ∀ t : Fin grid0.N,
    (win0_0.index t 0 = t.val / 32 ∧ win0_0.index t 1 = t.val % 16 ∧ win0_0.index t 2 = t.val / 16 % 2)
    ∧ (win0_5.index t 0 = t.val / 32 ∧ win0_5.index t 1 = t.val % 16 ∧ win0_5.index t 2 = t.val / 16 % 2))

/-- The block indices of the keys' and values' windows. -/
theorem index_k : ∀ t : Fin cfg0.N,
    (win0_1.index t 0 = t.val / 32 ∧ win0_1.index t 1 = 0 ∧ win0_1.index t 2 = t.val / 16 % 2)
    ∧ (win0_2.index t 0 = t.val / 32 ∧ win0_2.index t 1 = 0 ∧ win0_2.index t 2 = t.val / 16 % 2)
    ∧ (win0_3.index t 0 = t.val / 32 ∧ win0_3.index t 1 = 0 ∧ win0_3.index t 2 = t.val / 16 % 2)
    ∧ (win0_4.index t 0 = t.val / 32 ∧ win0_4.index t 1 = 0 ∧ win0_4.index t 2 = t.val / 16 % 2) :=
  (by decide +kernel : ∀ t : Fin grid0.N,
    (win0_1.index t 0 = t.val / 32 ∧ win0_1.index t 1 = 0 ∧ win0_1.index t 2 = t.val / 16 % 2)
    ∧ (win0_2.index t 0 = t.val / 32 ∧ win0_2.index t 1 = 0 ∧ win0_2.index t 2 = t.val / 16 % 2)
    ∧ (win0_3.index t 0 = t.val / 32 ∧ win0_3.index t 1 = 0 ∧ win0_3.index t 2 = t.val / 16 % 2)
    ∧ (win0_4.index t 0 = t.val / 32 ∧ win0_4.index t 1 = 0 ∧ win0_4.index t 2 = t.val / 16 % 2))

/-- The grid has 128 points. -/
theorem point_lt (t : Fin cfg0.N) : t.val < 128 := lt_of_lt_of_eq t.isLt N_0

/-- The batch of a point, its group, and the rows of its query tile. -/
def bat (t : Fin cfg0.N) : Fin 4 := ⟨t.val / 32, by have := point_lt t; omega⟩
def row (t : Fin cfg0.N) (r : Fin 256) : Fin 4096 := ⟨t.val % 16 * 256 + r.val, by omega⟩
def col (t : Fin cfg0.N) (e : Fin 256) : Fin 512 := ⟨t.val / 16 % 2 * 256 + e.val, by omega⟩
def grp (t : Fin cfg0.N) (d : Fin 128) : Fin 256 := ⟨t.val / 16 % 2 * 128 + d.val, by omega⟩

/-- The queries' block. -/
theorem iblk_q (c : Dev nD) (t : Fin cfg0.N) (r e : Fin 256) :
    (iblk m c 0 t : Vec F S1x256x256 .bf16) (ix3 0 r e) = m ((c : Thread nD τ).loc main_arg0) (ix3 (bat t) (row t r) (col t e)) := by
  refine congrArg (m ((c : Thread nD τ).loc main_arg0)) (funext fun a => Fin.ext ?_)
  have h := (index_q t).1
  match a with
  | ⟨0, _⟩ => show win0_0.index t 0 * 1 + 1 * 0 = t.val / 32; rw [h.1]; omega
  | ⟨1, _⟩ => show win0_0.index t 1 * 256 + 1 * r.val = t.val % 16 * 256 + r.val; rw [h.2.1]; omega
  | ⟨2, _⟩ => show win0_0.index t 2 * 256 + 1 * e.val = t.val / 16 % 2 * 256 + e.val; rw [h.2.2]; omega

/-- The keys' block. -/
theorem iblk_k (c : Dev nD) (t : Fin cfg0.N) (j : Fin 4096) (d : Fin 128) :
    (iblk m c 1 t : Vec F S1x4096x128 .bf16) (ix3 0 j d) = m ((c : Thread nD τ).loc main_arg1) (ix3 (bat t) j (grp t d)) := by
  refine congrArg (m ((c : Thread nD τ).loc main_arg1)) (funext fun a => Fin.ext ?_)
  have h := (index_k t).1
  match a with
  | ⟨0, _⟩ => show win0_1.index t 0 * 1 + 1 * 0 = t.val / 32; rw [h.1]; omega
  | ⟨1, _⟩ => show win0_1.index t 1 * 4096 + 1 * j.val = j.val; rw [h.2.1]; omega
  | ⟨2, _⟩ => show win0_1.index t 2 * 128 + 1 * d.val = t.val / 16 % 2 * 128 + d.val; rw [h.2.2]; omega

/-- The values' block. -/
theorem iblk_v (c : Dev nD) (t : Fin cfg0.N) (j : Fin 4096) (d : Fin 128) :
    (iblk m c 2 t : Vec F S1x4096x128 .bf16) (ix3 0 j d) = m ((c : Thread nD τ).loc main_arg2) (ix3 (bat t) j (grp t d)) := by
  refine congrArg (m ((c : Thread nD τ).loc main_arg2)) (funext fun a => Fin.ext ?_)
  have h := (index_k t).2.1
  match a with
  | ⟨0, _⟩ => show win0_2.index t 0 * 1 + 1 * 0 = t.val / 32; rw [h.1]; omega
  | ⟨1, _⟩ => show win0_2.index t 1 * 4096 + 1 * j.val = j.val; rw [h.2.1]; omega
  | ⟨2, _⟩ => show win0_2.index t 2 * 128 + 1 * d.val = t.val / 16 % 2 * 128 + d.val; rw [h.2.2]; omega

/-- The context keys' block. -/
theorem iblk_ck (c : Dev nD) (t : Fin cfg0.N) (j : Fin 256) (d : Fin 128) :
    (iblk m c 3 t : Vec F S1x256x128 .bf16) (ix3 0 j d) = m ((c : Thread nD τ).loc main_arg3) (ix3 (bat t) j (grp t d)) := by
  refine congrArg (m ((c : Thread nD τ).loc main_arg3)) (funext fun a => Fin.ext ?_)
  have h := (index_k t).2.2.1
  match a with
  | ⟨0, _⟩ => show win0_3.index t 0 * 1 + 1 * 0 = t.val / 32; rw [h.1]; omega
  | ⟨1, _⟩ => show win0_3.index t 1 * 256 + 1 * j.val = j.val; rw [h.2.1]; omega
  | ⟨2, _⟩ => show win0_3.index t 2 * 128 + 1 * d.val = t.val / 16 % 2 * 128 + d.val; rw [h.2.2]; omega

/-- The context values' block. -/
theorem iblk_cv (c : Dev nD) (t : Fin cfg0.N) (j : Fin 256) (d : Fin 128) :
    (iblk m c 4 t : Vec F S1x256x128 .bf16) (ix3 0 j d) = m ((c : Thread nD τ).loc main_arg4) (ix3 (bat t) j (grp t d)) := by
  refine congrArg (m ((c : Thread nD τ).loc main_arg4)) (funext fun a => Fin.ext ?_)
  have h := (index_k t).2.2.2
  match a with
  | ⟨0, _⟩ => show win0_4.index t 0 * 1 + 1 * 0 = t.val / 32; rw [h.1]; omega
  | ⟨1, _⟩ => show win0_4.index t 1 * 256 + 1 * j.val = j.val; rw [h.2.1]; omega
  | ⟨2, _⟩ => show win0_4.index t 2 * 128 + 1 * d.val = t.val / 16 % 2 * 128 + d.val; rw [h.2.2]; omega

/-- The result's block read from an array. -/
theorem blk_out (A : FVec F S4x4096x512 .bf16) (t : Fin cfg0.N) (r e : Fin 256) :
    (((cfg0.win 5).blk t).view.read (Elt F) A : Vec F S1x256x256 .bf16) (ix3 0 r e) = A (ix3 (bat t) (row t r) (col t e)) := by
  refine congrArg A (funext fun a => Fin.ext ?_)
  have h := (index_q t).2
  match a with
  | ⟨0, _⟩ => show win0_5.index t 0 * 1 + 1 * 0 = t.val / 32; rw [h.1]; omega
  | ⟨1, _⟩ => show win0_5.index t 1 * 256 + 1 * r.val = t.val % 16 * 256 + r.val; rw [h.2.1]; omega
  | ⟨2, _⟩ => show win0_5.index t 2 * 256 + 1 * e.val = t.val / 16 % 2 * 256 + e.val; rw [h.2.2]; omega

/-- Every index of the result lies in a block that is written back. -/
theorem cover (i : S4x4096x512.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 512 := (i 2).isLt
  let t : Fin cfg0.N := ⟨(i 0).val * 32 + (i 2).val / 256 * 16 + (i 1).val / 256, by rw [show cfg0.N = 128 from N_0]; omega⟩
  have ht : t.val = (i 0).val * 32 + (i 2).val / 256 * 16 + (i 1).val / 256 := rfl
  have h := (index_q t).2
  refine ⟨t, flush0_5 t, ?_⟩
  show i ∈ ((View.whole main_v0).slice (win0_5.rect t)).set
  rw [View.set_slice_whole, Rect.mem_set_unit]
  intro a
  match a with
  | ⟨0, _⟩ => show win0_5.index t 0 * 1 ≤ (i 0).val ∧ (i 0).val < win0_5.index t 0 * 1 + 1; rw [h.1]; omega
  | ⟨1, _⟩ => show win0_5.index t 1 * 256 ≤ (i 1).val ∧ (i 1).val < win0_5.index t 1 * 256 + 256; rw [h.2.1]; omega
  | ⟨2, _⟩ => show win0_5.index t 2 * 256 ≤ (i 2).val ∧ (i 2).val < win0_5.index t 2 * 256 + 256; rw [h.2.2]; omega

end Cert.GqaIdeal.Val

end
-- ==== Proof.Gqa.Reference.lean ====
/-
  The reference program's result read at an index, over the extended reals: keys and values joined along the sequence,
  scores, and the softmax average.
-/
module

public import proofs.«01_k».proof.Proof.Gen.GqaRefIdeal.Run
public import Idealize.ShloMosaic.Lib.Pointwise

@[expose] public section

noncomputable section

open scoped BigOperators
open Idealize.ShloMosaic Idealize.ShloMosaic.TcCoe Idealize.SL.Sem

namespace Cert.GqaRefIdeal.Val

open Cert.GqaRefIdeal Cert.GqaRefIdeal.Gen Cert.GqaRefIdeal.Value

/-- The window's rows and the context rows of both groups, joined along the sequence. -/
def joined (x : FVec Ideal S4x4096x256 .bf16) (y : FVec Ideal S4x256x256 .bf16) : FVec Ideal S4x4352x2x128 .f32 :=
  concatenate S4x4352x2x128 1 [⟨S4x4096x2x128, (shapeCast _ (extf .f32 x bitsLt_bf16_f32) shapeCasts_S4x4096x256_S4x4096x2x128)⟩,
    ⟨S4x256x2x128, (shapeCast _ (extf .f32 y bitsLt_bf16_f32) shapeCasts_S4x256x256_S4x256x2x128)⟩] concatenates_S4x4096x2x128_S4x256x2x128_S4x4352x2x128_d1

/-- Every query's score against every key. -/
def scores (K : FVec Ideal S4x4352x2x128 .f32) (q : FVec Ideal S4x4096x512 .bf16) : FVec Ideal S4x2x2x4096x4352 .f32 :=
  transpose S4x2x2x4096x4352 [0, 1, 4, 3, 2] (Host.dotGeneral dot_S4x4352x2x128_S4x4096x2x2x128_S4x2x4352x4096x2_3_4_1_13_02_02 none K
    (shapeCast _ (extf .f32 q bitsLt_bf16_f32) shapeCasts_S4x4096x512_S4x4096x2x2x128)) transposes_S4x2x4352x4096x2_S4x2x2x4096x4352_0_1_4_3_2

/-- The largest score of each query. -/
def peak (S : FVec Ideal S4x2x2x4096x4352 .f32) : FVec Ideal S4x2x2x4096 .f32 :=
  maximumf (broadcastInDim S4x2x2x4096 ![] bcast_S_S4x2x2x4096 (constant S_ .f32 0xFF800000#32))
    (Host.reduce FloatOps.maximumf S (constant S_ .f32 0xFF800000#32) reducesTo_S4x2x2x4096x4352_S4x2x2x4096_d4 h_S_)

/-- The weights: exponentials of the scores less the peak. -/
def weights (S : FVec Ideal S4x2x2x4096x4352 .f32) (P : FVec Ideal S4x2x2x4096 .f32) : FVec Ideal S4x2x2x4096x4352 .f32 :=
  Host.exp (subf S (broadcastInDim S4x2x2x4096x4352 ![0, 1, 2, 3, 4] bcast_S4x2x2x4096x1_S4x2x2x4096x4352_0_1_2_3_4
    (broadcastInDim S4x2x2x4096x1 ![0, 1, 2, 3] bcast_S4x2x2x4096_S4x2x2x4096x1_0_1_2_3 P)))

/-- The weights divided by their sum over the keys. -/
def shares (W : FVec Ideal S4x2x2x4096x4352 .f32) : FVec Ideal S4x2x2x4096x4352 .f32 :=
  Host.divf W (broadcastInDim S4x2x2x4096x4352 ![0, 1, 2, 3, 4] bcast_S4x2x2x4096x1_S4x2x2x4096x4352_0_1_2_3_4
    (broadcastInDim S4x2x2x4096x1 ![0, 1, 2, 3] bcast_S4x2x2x4096_S4x2x2x4096x1_0_1_2_3
      (Host.reduceAdd W (constant S_ .f32 0x00000000#32) reducesTo_S4x2x2x4096x4352_S4x2x2x4096_d4 h_S_)))

/-- The averaged values, the heads side by side in a row. -/
def average (V : FVec Ideal S4x4352x2x128 .f32) (A : FVec Ideal S4x2x2x4096x4352 .f32) : FVec Ideal S4x4096x512 .bf16 :=
  truncf .bf16 (shapeCast _ (transpose S4x4096x2x2x128 [0, 4, 1, 3, 2]
    (Host.dotGeneral dot_S4x4352x2x128_S4x2x2x4096x4352_S4x2x128x2x4096_1_4_3_23_02_01 none V A)
    transposes_S4x2x128x2x4096_S4x4096x2x2x128_0_4_1_3_2) shapeCasts_S4x4096x2x2x128_S4x4096x512) bitsLt_bf16_f32

/-- A joined row: the window's while there are any, then the context's. -/
theorem joined_apply (x : FVec Ideal S4x4096x256 .bf16) (y : FVec Ideal S4x256x256 .bf16) (b : Fin 4) (j : Fin 4352) (g : Fin 2) (d : Fin 128) :
    joined x y (ix4 b j g d) = if h : j.val < 4096 then x (ix3 b ⟨j.val, h⟩ ⟨g.val * 128 + d.val, by omega⟩)
      else y (ix3 b ⟨j.val - 4096, by omega⟩ ⟨g.val * 128 + d.val, by omega⟩) := by
  pointwise [joined]

/-- A score is the inner product of key and query. -/
theorem scores_apply (K : FVec Ideal S4x4352x2x128 .f32) (q : FVec Ideal S4x4096x512 .bf16) (b : Fin 4) (g h : Fin 2) (n : Fin 4096) (j : Fin 4352) :
    scores K q (ix5 b g h n j) = ∑ x : Fin 128, K (ix4 b j g x) * q (ix3 b n ⟨g.val * 256 + h.val * 128 + x.val, by omega⟩) := by
  pointwise [scores]

/-- A maximum over the last of five axes, at any extents, is the fold over that axis. -/
theorem reduce_last {n0 n1 n2 n3 n4 : ℕ} {u : Shape} (x : FVec Ideal ⟨5, ![n0, n1, n2, n3, n4]⟩ .f32) (z : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf x z h hu (ix4 a b c d)
      = (Finset.univ : Finset (Fin n4)).fold max (z (Shape.Idx.first hu)) fun k => x (ix5 a b c d k) := by
  rw [Host.reduce_eq_fold, Shape.ReducesTo.fold_fiber_r5_a4]
  rfl

/-- The maximum of a broadcast scalar and an array. -/
theorem top_apply (z : FVec Ideal S_ .f32) (R : FVec Ideal S4x2x2x4096 .f32) (b : Fin 4) (g h : Fin 2) (n : Fin 4096) :
    maximumf (broadcastInDim S4x2x2x4096 ![] bcast_S_S4x2x2x4096 z) R (ix4 b g h n) = max (z (Shape.Idx.first h_S_)) (R (ix4 b g h n)) := by
  have e : broadcastInDim S4x2x2x4096 ![] bcast_S_S4x2x2x4096 z (ix4 b g h n) = z (Shape.Idx.first h_S_) := congrArg z (funext fun a => a.elim0)
  rw [← e]
  rfl

/-- The largest score over the keys. -/
theorem peak_apply (S : FVec Ideal S4x2x2x4096x4352 .f32) (b : Fin 4) (g h : Fin 2) (n : Fin 4096) :
    peak S (ix4 b g h n) = max ((constant (F := Ideal) S_ .f32 0xFF800000#32 (Shape.Idx.first h_S_)))
      ((Finset.univ : Finset (Fin 4352)).fold max ((constant (F := Ideal) S_ .f32 0xFF800000#32 (Shape.Idx.first h_S_))) fun j => S (ix5 b g h n j)) := by
  unfold peak
  rw [top_apply, reduce_last]

/-- A weight. -/
theorem weights_apply (S : FVec Ideal S4x2x2x4096x4352 .f32) (P : FVec Ideal S4x2x2x4096 .f32) (b : Fin 4) (g h : Fin 2) (n : Fin 4096) (j : Fin 4352) :
    weights S P (ix5 b g h n j) = Ideal.exp (S (ix5 b g h n j) - P (ix4 b g h n)) := by
  pointwise [weights]

/-- A share. -/
theorem shares_apply (W : FVec Ideal S4x2x2x4096x4352 .f32) (b : Fin 4) (g h : Fin 2) (n : Fin 4096) (j : Fin 4352) :
    shares W (ix5 b g h n j) = Ideal.div (W (ix5 b g h n j)) (∑ i : Fin 4352, W (ix5 b g h n i)) := by
  pointwise [shares]

/-- An averaged value. -/
theorem average_apply (V : FVec Ideal S4x4352x2x128 .f32) (A : FVec Ideal S4x2x2x4096x4352 .f32) (b : Fin 4) (n : Fin 4096) (e : Fin 512) :
    average V A (ix3 b n e) = ∑ j : Fin 4352, V (ix4 b j ⟨e.val / 256, by omega⟩ ⟨e.val % 128, by omega⟩)
      * A (ix5 b ⟨e.val / 256, by omega⟩ ⟨e.val / 128 % 2, by omega⟩ n j) := by
  pointwise [average]

/-- The whole: the softmax average of the joined values at the scores of the joined keys. -/
def attention (q : FVec Ideal S4x4096x512 .bf16) (k v : FVec Ideal S4x4096x256 .bf16) (ck cv : FVec Ideal S4x256x256 .bf16) :
    FVec Ideal S4x4096x512 .bf16 :=
  average (joined v cv) (shares (weights (scores (joined k ck) q) (peak (scores (joined k ck) q))))

/-- The program's result is the attention of its arguments. -/
theorem result_eq (m : (ℓ : Loc nD τ sig) → Buf (Elt Ideal) ℓ) (c : Dev nD) :
    res_out0 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  show res_main_v28 m c = _
  unfold res_main_v28
  rfl

/-- The attention at an index, given the scores of its row and their largest. -/
theorem attention_apply (q : FVec Ideal S4x4096x512 .bf16) (k v : FVec Ideal S4x4096x256 .bf16) (ck cv : FVec Ideal S4x256x256 .bf16)
    (b : Fin 4) (n : Fin 4096) (e : Fin 512) (s : Fin 4352 → EReal)
    (hs : ∀ j : Fin 4352, s j = ∑ x : Fin 128, joined k ck (ix4 b j ⟨e.val / 256, by omega⟩ x)
      * q (ix3 b n ⟨e.val / 256 * 256 + e.val / 128 % 2 * 128 + x.val, by omega⟩))
    (M : EReal) (hM : M = max ⊥ ((Finset.univ : Finset (Fin 4352)).fold max ⊥ s)) :
    attention q k v ck cv (ix3 b n e) = ∑ j : Fin 4352, joined v cv (ix4 b j ⟨e.val / 256, by omega⟩ ⟨e.val % 128, by omega⟩)
        * Ideal.div (Ideal.exp (s j - M)) (∑ i : Fin 4352, Ideal.exp (s i - M)) := by
  have hinf : constant (F := Ideal) S_ .f32 0xFF800000#32 (Shape.Idx.first h_S_) = (⊥ : EReal) := by
    show Ideal.ofBits FTy.f32 0xFF800000#32 = ⊥
    simp [Ideal.ofBits, Ideal.ieee]
  rw [attention]
  simp only [average_apply, shares_apply, weights_apply, peak_apply, scores_apply, hinf, ← hs, ← hM]

end Cert.GqaRefIdeal.Val

end
-- ==== Proof.Gqa.Equal.lean ====
/-
  The attention call's result array is the reference's attention of its arguments, where the queries and the keys are
  real numbers.
-/
module

public import proofs.«01_k».proof.Proof.Gqa.Rows
public import proofs.«01_k».proof.Proof.Gqa.Blocks
public import proofs.«01_k».proof.Proof.Gqa.Reference

@[expose] public section

noncomputable section

open scoped BigOperators
open Idealize.ShloMosaic Idealize.ShloMosaic.TcCoe Idealize.SL.Sem

namespace Cert.GqaIdeal.Val

open Cert.GqaIdeal Cert.GqaIdeal.Gen
open Cert.GqaRefIdeal.Val (attention joined)

variable (m : (ℓ : Loc nD τ sig) → Buf (Elt Ideal) ℓ)

/-- The attention of the arguments device `c` holds. -/
def target (c : Dev nD) : FVec Ideal S4x4096x512 .bf16 :=
  attention (m ((c : Thread nD τ).loc main_arg0)) (m ((c : Thread nD τ).loc main_arg1)) (m ((c : Thread nD τ).loc main_arg2))
    (m ((c : Thread nD τ).loc main_arg3)) (m ((c : Thread nD τ).loc main_arg4))

/-- The queries and the keys of device `c` are real numbers. -/
def Real (c : Dev nD) : Prop :=
  (∀ i, ∃ r : ℝ, (m ((c : Thread nD τ).loc main_arg0) : FVec Ideal S4x4096x512 .bf16) i = (r : EReal))
  ∧ (∀ i, ∃ r : ℝ, (m ((c : Thread nD τ).loc main_arg1) : FVec Ideal S4x4096x256 .bf16) i = (r : EReal))
  ∧ ∀ i, ∃ r : ℝ, (m ((c : Thread nD τ).loc main_arg3) : FVec Ideal S4x256x256 .bf16) i = (r : EReal)

/-- The keys a point meets are the joined keys of its batch and group. -/
theorem keys_eq (c : Dev nD) (t : Fin cfg0.N) (j : Fin 4352) (d : Fin 128) :
    allRows (iblk m c 1 t) (iblk m c 3 t) j d
      = joined (m ((c : Thread nD τ).loc main_arg1)) (m ((c : Thread nD τ).loc main_arg3)) (ix4 (bat t) j ⟨t.val / 16 % 2, by omega⟩ d) := by
  rw [Cert.GqaRefIdeal.Val.joined_apply, allRows]
  by_cases h : j.val < 4096
  · rw [dif_pos h, dif_pos h, iblk_k]; rfl
  · rw [dif_neg h, dif_neg h, iblk_ck]; rfl

/-- The values a point meets are the joined values of its batch and group. -/
theorem values_eq (c : Dev nD) (t : Fin cfg0.N) (j : Fin 4352) (d : Fin 128) :
    allRows (iblk m c 2 t) (iblk m c 4 t) j d
      = joined (m ((c : Thread nD τ).loc main_arg2)) (m ((c : Thread nD τ).loc main_arg4)) (ix4 (bat t) j ⟨t.val / 16 % 2, by omega⟩ d) := by
  rw [Cert.GqaRefIdeal.Val.joined_apply, allRows]
  by_cases h : j.val < 4096
  · rw [dif_pos h, dif_pos h, iblk_v]; rfl
  · rw [dif_neg h, dif_neg h, iblk_cv]; rfl

/-- A point's block, read at an index, is the attention there. -/
theorem block_eq (c : Dev nD) (hm : Real m c) (t : Fin cfg0.N) (r e : Fin 256) :
    block (F := Ideal) (iblk m c 0 t) (iblk m c 1 t) (iblk m c 2 t) (iblk m c 3 t) (iblk m c 4 t) (ix3 0 r e)
      = target m c (ix3 (bat t) (row t r) (col t e)) := by
  have hcol : (col t e).val = t.val / 16 % 2 * 256 + e.val := rfl
  have hg : (⟨(col t e).val / 256, by omega⟩ : Fin 2) = ⟨t.val / 16 % 2, by omega⟩ := Fin.ext (by show (col t e).val / 256 = t.val / 16 % 2; omega)
  have hd : (⟨(col t e).val % 128, by omega⟩ : Fin 128) = ⟨e.val % 128, by omega⟩ := Fin.ext (by show (col t e).val % 128 = e.val % 128; omega)
  let Q : Fin 128 → EReal := fun d => (iblk m c 0 t : Vec Ideal S1x256x256 .bf16) (ix3 0 r ⟨128 * (e.val / 128) + d.val, by omega⟩)
  let s : Fin 4352 → EReal := fun j => ∑ d : Fin 128, Q d * allRows (iblk m c 1 t) (iblk m c 3 t) j d
  have hq : ∀ x : Fin 128, Q x
      = m ((c : Thread nD τ).loc main_arg0) (ix3 (bat t) (row t r) ⟨(col t e).val / 256 * 256 + (col t e).val / 128 % 2 * 128 + x.val, by omega⟩) := fun x => by
    show (iblk m c 0 t : Vec Ideal S1x256x256 .bf16) (ix3 0 r ⟨128 * (e.val / 128) + x.val, by omega⟩) = _
    rw [iblk_q]
    have : col t ⟨128 * (e.val / 128) + x.val, by omega⟩ = ⟨(col t e).val / 256 * 256 + (col t e).val / 128 % 2 * 128 + x.val, by omega⟩ :=
      Fin.ext (by show t.val / 16 % 2 * 256 + (128 * (e.val / 128) + x.val) = (col t e).val / 256 * 256 + (col t e).val / 128 % 2 * 128 + x.val; omega)
    rw [this]
  have hreal : ∀ j, ∃ z : ℝ, s j = z := fun j =>
    Cert.Softmax.dot_real Finset.univ Q (fun d => allRows (iblk m c 1 t) (iblk m c 3 t) j d) (fun x => by rw [hq]; exact hm.1 _) (fun x => by
      rw [allRows]
      by_cases h : j.val < 4096
      · rw [dif_pos h, iblk_k]; exact hm.2.1 _
      · rw [dif_neg h, iblk_ck]; exact hm.2.2 _)
  obtain ⟨M, hM⟩ := Cert.Softmax.fold_real s hreal
  rw [block_apply _ _ _ _ _ r e s (fun j => rfl) hreal M, target,
    Cert.GqaRefIdeal.Val.attention_apply _ _ _ _ _ _ _ _ s (fun j => ?_) M (by rw [hM]; simp)]
  · refine Finset.sum_congr rfl fun j _ => ?_
    rw [values_eq, hg, hd, mul_comm]
  · refine Finset.sum_congr rfl fun x _ => ?_
    rw [hq, keys_eq, hg, mul_comm]

/-- The result array after the run is the attention of the arguments. -/
theorem final_eq (c : Dev nD) (hm : Real m c) : (dats m 0 c).arrAt 5 cfg0.N = target m c :=
  (dats m 0 c).arrAt_eq_of_cover 5 (target m c) (fun t _ => by
    rw [Value.flushed5_A, out_eq]
    funext (y : S1x256x256.Idx)
    have hy : y = ix3 (0 : Fin 1) (y 1) (y 2) := funext fun a => by
      match a with
      | ⟨0, _⟩ => exact Fin.ext (by have h : (y 0).val < 1 := (y 0).isLt; show (y 0).val = 0; omega)
      | ⟨1, _⟩ => rfl
      | ⟨2, _⟩ => rfl
    rw [hy]
    exact (block_eq m c hm t (y 1) (y 2)).trans (blk_out (target m c) t (y 1) (y 2)).symm) cover

end Cert.GqaIdeal.Val

end
-- ==== Proof.Gqa.Finite.lean ====
/-
  The precondition read: the queries and both sets of keys are real numbers.
-/
module

public import proofs.«01_k».proof.Pre_finite
public import Idealize.ShloMosaic.PureOps.Ideal
public import Idealize.ShloMosaic.Lib.ReduceAll
public import Idealize.ShloMosaic.Lib.Affine

@[expose] public section

noncomputable section

open Idealize.ShloMosaic

namespace Cert.Pre_finite

/-- The shapes' relations the predicate takes. -/
instance facts : Facts where
  bcast_S_S4x4096x512 := by decide
  reducesTo_S4x4096x512_S_d0_1_2 := by decide
  h_S_ := by decide
  bcast_S_S4x4096x256 := by decide
  reducesTo_S4x4096x256_S_d0_1_2 := by decide
  bcast_S_S4x256x256 := by decide
  reducesTo_S4x256x256_S_d0_1_2 := by decide

/-- There is one index of a scalar. -/
theorem scalar_sub : Subsingleton S_.Idx := ⟨fun _ _ => funext fun a => a.elim0⟩

/-- An extended real whose magnitude is below plus infinity is a real number. -/
theorem real_of_lt (x : EReal) (h : Ideal.cmp .olt (max x (-x)) (Ideal.ofBits FTy.bf16 0x7F80#16) = 1#1) : ∃ r : ℝ, x = r := by
  have hinf : Ideal.ofBits FTy.bf16 0x7F80#16 = ⊤ := by simp [Ideal.ofBits, Ideal.ieee]
  rw [hinf] at h
  induction x with
  | bot => simp [Ideal.cmp] at h
  | top => simp [Ideal.cmp] at h
  | coe r => exact ⟨r, rfl⟩

/-- Where the predicate holds, every query and every key is a real number. -/
theorem reals (q : FVec Ideal S4x4096x512 .bf16) (k v : FVec Ideal S4x4096x256 .bf16) (ck cv : FVec Ideal S4x256x256 .bf16)
    (h : fn (F := Ideal) q k v ck cv = fun _ => 1#1) :
    (∀ i, ∃ r : ℝ, q i = (r : EReal)) ∧ (∀ i, ∃ r : ℝ, k i = (r : EReal)) ∧ ∀ i, ∃ r : ℝ, ck i = (r : EReal) := by
  haveI := scalar_sub
  have h0 := congrFun h (fun a => a.elim0)
  obtain ⟨h1, h3⟩ := IntOp.andi_eq_one.1 h0
  obtain ⟨h1, h2⟩ := IntOp.andi_eq_one.1 h1
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

end Cert.Pre_finite

end
-- ==== Proof.Gqa.Claims.lean ====
module

public import proofs.«01_k».proof.Defs
public import proofs.«01_k».proof.Proof.Gen.Gqa.Frame
public import proofs.«01_k».proof.Proof.Gen.GqaIdeal.Frame
public import proofs.«01_k».proof.Proof.Gen.GqaIdeal.Value
public import proofs.«01_k».proof.Proof.Gen.GqaRefIdeal.Run
public import proofs.«01_k».proof.Proof.Gqa.Equal
public import proofs.«01_k».proof.Proof.Gqa.Finite
public import Idealize.ShloMosaic.Adequacy
public import Idealize.ShloMosaic.Init

@[expose] public section

/-!
# The attention call: its claims

The run of the kernel ends with the result array at the reference's attention of the arguments
(Proof/Gqa/Equal.lean `final_eq`), the run of the reference ends with its result at the same attention
(Proof/Gqa/Reference.lean `result_eq`), and the precondition says that the queries and the keys are real numbers
(Proof/Gqa/Finite.lean `reals`).
-/

noncomputable section

namespace Cert.GqaClaims

open Idealize Idealize.ShloMosaic

/-- The plain attention runs, keeps its arguments, and leaves every semaphore at zero. -/
theorem frame_ref : Cert.quiescent_GqaRefIdeal (hGqaRefIdeal := Cert.GqaRefIdeal.Gen.facts) := fun m ρ _ =>
  (θ_run Cert.GqaRefIdeal.defs _ _).mono
    (fun r h => ⟨fun c => (h c).2, Idealize.ShloMosaic.sem_eq_zero_of_no_sems (by decide) r.2⟩)
    (Cert.GqaRefIdeal.Value.run (F := Ideal) m ρ)

/-- On real queries and keys the kernel and the plain attention end with the same result. -/
theorem equal : Cert.algebraic_GqaIdeal_GqaRefIdeal_pre_finite (hGqaIdeal := Cert.GqaIdeal.Gen.facts)
    (hGqaRefIdeal := Cert.GqaRefIdeal.Gen.facts) (hPre_finite := Cert.Pre_finite.facts) := by
  intro m ρ m' ρ' hpre hagree
  have hreal : ∀ c, Cert.GqaIdeal.Val.Real m c := fun c => Cert.Pre_finite.reals _ _ _ _ _ (hpre c)
  refine ⟨fun c => Cert.GqaIdeal.Val.target m c, ?_, ?_⟩
  · exact (θ_run Cert.GqaIdeal.defs _ _).mono
      (fun _ h c => ⟨(h c).1.trans (Cert.GqaIdeal.Val.final_eq m c (hreal c)), (h c).2⟩)
      (Cert.GqaIdeal.Value.run_blocks (F := Ideal) m ρ)
  · refine (θ_run Cert.GqaRefIdeal.defs _ _).mono (fun _ h c => ⟨(h c).1.trans ?_, (h c).2⟩)
      (Cert.GqaRefIdeal.Value.run (F := Ideal) m' ρ')
    obtain ⟨h0, h1, h2, h3, h4⟩ := hagree c
    refine (Cert.GqaRefIdeal.Val.result_eq m' c).trans ?_
    rw [h0, h1, h2, h3, h4]
    rfl

end Cert.GqaClaims
-- ==== Proof.Ffn.Body.lean ====
/-
  One grid point's block of the gated MLP call, read out of the launch's run: what the body leaves in the output window
  is the closing payload over the sum of the eleven chunks' contributions.
-/
module

public import proofs.«01_k».proof.Proof.Gen.FfnIdeal.Value
public import Idealize.ShloMosaic.Lib.Tactic
public import Idealize.ShloMosaic.Lib.VecWindow
public import Idealize.ShloMosaic.Lib.Pointwise.Index

@[expose] public section

set_option maxRecDepth 16384

noncomputable section

open Idealize.ShloMosaic Idealize.ShloMosaic.TcCoe Idealize.SL.Sem

namespace Cert.FfnIdeal.Val

open Cert.FfnIdeal Cert.FfnIdeal.Gen

variable {F : FTy → Type} [FloatOps F] {sg : RefSig}

/-- Columns `o` to `o + 255` of the up-projection's weights. -/
def ups (x : Vec F S1024x5632 .bf16) (o : ℕ) : Vec F S1024x256 .bf16 := fun y =>
  x (ix2 (y 0) (⟨(o + (y 1).val) % 5632, Nat.mod_lt _ (by omega)⟩ : Fin 5632))

/-- Columns `o` to `o + 255` of the convolution's three taps. -/
def taps (x : Vec F S3x5632 .f32) (o : ℕ) : Vec F S3x256 .f32 := fun y =>
  x (ix2 (y 0) (⟨(o + (y 1).val) % 5632, Nat.mod_lt _ (by omega)⟩ : Fin 5632))

/-- Columns `o` to `o + 255` of the convolution's bias. -/
def bias (x : Vec F S1x5632 .f32) (o : ℕ) : Vec F S1x256 .f32 := fun y =>
  x (ix2 (y 0) (⟨(o + (y 1).val) % 5632, Nat.mod_lt _ (by omega)⟩ : Fin 5632))

/-- Rows `o` to `o + 255` of the down-projection's weights. -/
def downs (x : Vec F S2816x1024 .bf16) (o : ℕ) : Vec F S256x1024 .bf16 := fun y =>
  x (ix2 (⟨(o + (y 0).val) % 2816, Nat.mod_lt _ (by omega)⟩ : Fin 2816) (y 1))

/-- Rows `o` to `o + 511` of a projected chunk with its two halos. -/
def rows (x : Vec F S528x256 .f32) (o : ℕ) : Vec F S512x256 .f32 := fun y =>
  x (ix2 (⟨(o + (y 0).val) % 528, Nat.mod_lt _ (by omega)⟩ : Fin 528) (y 1))

/-- The width-3 convolution of 256 projected channels, from channel `o` on. -/
def conv (h : FVec F S528x1024 .bf16) (x7 : Vec F S1024x5632 .bf16) (x8 : Vec F S3x5632 .f32) (x9 : Vec F S1x5632 .f32)
    (o : ℕ) : FVec F S512x256 .f32 :=
  k0_pay13 (taps x8 o) (rows (k0_pay12 h (ups x7 o)) 7) (rows (k0_pay12 h (ups x7 o)) 8) (rows (k0_pay12 h (ups x7 o)) 9)
    (bias x9 o)

/-- The running sum with one more chunk's gated product, projected down, added. -/
def chunk (acc : FVec F S512x1024 .f32) (g v : FVec F S512x256 .f32) (w : Vec F S256x1024 .bf16) : FVec F S512x1024 .f32 :=
  addf acc (matmul dot_S512x256_S256x1024_S512x1024_1_0_0_1_n_n none (truncf .bf16 (mulf (mulf g (logistic g)) v) bitsLt_bf16_f32)
    (shapeCast S256x1024 w shapeCasts_S256x1024_S256x1024) (constant S512x1024 .f32 0x00000000#32))

/-- The sum of the first chunks. -/
def acc (h : FVec F S528x1024 .bf16) (x7 : Vec F S1024x5632 .bf16) (x8 : Vec F S3x5632 .f32) (x9 : Vec F S1x5632 .f32)
    (x10 : Vec F S2816x1024 .bf16) : ℕ → FVec F S512x1024 .f32
  | 0 => k0_pay9
  | k + 1 => chunk (acc h x7 x8 x9 x10 k) (conv h x7 x8 x9 (256 * k)) (conv h x7 x8 x9 (2816 + 256 * k)) (downs x10 (256 * k))

/-- The normalized and modulated rows of a block, with the eight rows before it and the eight after it. -/
def hid (i : grid0.Coords) (x0 : Vec F S1x512x1024 .f32) (x1 x2 : Vec F S1x8x1024 .f32) (x3 x4 : Vec F S1x1x1024 .f32)
    (x6 : Vec F S1x1024 .f32) : FVec F S528x1024 .bf16 :=
  k0_pay8 (k0_pay2 x6) (k0_pay3 x3) (k0_pay4 x4) (k0_pay5 x0) (k0_pay6 i x6 x3 x4 x1)
    (Scalar.cmpi .slt (BitVec.ofNat 32 (i 1).val) 7#32) (k0_pay7 x2)

/-- The block one grid point writes. -/
def block (i : grid0.Coords) (x0 : Vec F S1x512x1024 .f32) (x1 x2 : Vec F S1x8x1024 .f32) (x3 x4 x5 : Vec F S1x1x1024 .f32)
    (x6 : Vec F S1x1024 .f32) (x7 : Vec F S1024x5632 .bf16) (x8 : Vec F S3x5632 .f32) (x9 : Vec F S1x5632 .f32)
    (x10 : Vec F S2816x1024 .bf16) (x11 : Vec F S1x1024 .f32) : Vec F S1x512x1024 .f32 :=
  k0_pay1 (k0_pay5 x0) (acc (hid i x0 x1 x2 x3 x4 x6) x7 x8 x9 x10 11) (k0_pay65 x5) x11

/-- A load of a whole staging buffer. -/
theorem load_whole {S : Shape} {e : EltTy} {a : Memref sg .tc .vmem S e} (ha : a.IsWhole) (x : Vec F S e)
    {off : Fin S.rank → ℕ} (inb : ∀ j, off j + S.size j ≤ S.size j) :
    a.view.readAt (Elt F) (Rect.unit (s := S) off S.size inb).toLoadRect (ha.unread x) = x := by
  rw [View.readAt_full, ha.read_unread]

/-- A load of 256 columns of the up-projection's weights. -/
theorem load_ups {a : Memref sg .tc .vmem S1024x5632 .bf16} (ha : a.IsWhole) (x : Vec F S1024x5632 .bf16) (o : ℕ)
    (inb : ∀ j, (![0, o] : Fin 2 → ℕ) j + S1024x256.size j ≤ S1024x5632.size j) :
    a.view.readAt (Elt F) (Rect.unit (s := S1024x5632) ![0, o] S1024x256.size inb).toLoadRect (ha.unread x) = ups x o := by
  rw [View.readAt_eq_ld, ha.read_unread]
  funext (y : S1024x256.Idx)
  have hb : o + 256 ≤ 5632 := inb 1
  refine congrArg x (funext fun j => Fin.ext ?_)
  match j with
  | ⟨0, _⟩ => show 0 + 1 * (y 0).val = (y 0).val; omega
  | ⟨1, _⟩ =>
    have h1 : (y 1).val < 256 := (y 1).isLt
    show o + 1 * (y 1).val = (o + (y 1).val) % 5632
    rw [Nat.mod_eq_of_lt (by omega), Nat.one_mul]

/-- A load of 256 columns of the taps. -/
theorem load_taps {a : Memref sg .tc .vmem S3x5632 .f32} (ha : a.IsWhole) (x : Vec F S3x5632 .f32) (o : ℕ)
    (inb : ∀ j, (![0, o] : Fin 2 → ℕ) j + S3x256.size j ≤ S3x5632.size j) :
    a.view.readAt (Elt F) (Rect.unit (s := S3x5632) ![0, o] S3x256.size inb).toLoadRect (ha.unread x) = taps x o := by
  rw [View.readAt_eq_ld, ha.read_unread]
  funext (y : S3x256.Idx)
  have hb : o + 256 ≤ 5632 := inb 1
  refine congrArg x (funext fun j => Fin.ext ?_)
  match j with
  | ⟨0, _⟩ => show 0 + 1 * (y 0).val = (y 0).val; omega
  | ⟨1, _⟩ =>
    have h1 : (y 1).val < 256 := (y 1).isLt
    show o + 1 * (y 1).val = (o + (y 1).val) % 5632
    rw [Nat.mod_eq_of_lt (by omega), Nat.one_mul]

/-- A load of 256 columns of the bias. -/
theorem load_bias {a : Memref sg .tc .vmem S1x5632 .f32} (ha : a.IsWhole) (x : Vec F S1x5632 .f32) (o : ℕ)
    (inb : ∀ j, (![0, o] : Fin 2 → ℕ) j + S1x256.size j ≤ S1x5632.size j) :
    a.view.readAt (Elt F) (Rect.unit (s := S1x5632) ![0, o] S1x256.size inb).toLoadRect (ha.unread x) = bias x o := by
  rw [View.readAt_eq_ld, ha.read_unread]
  funext (y : S1x256.Idx)
  have hb : o + 256 ≤ 5632 := inb 1
  refine congrArg x (funext fun j => Fin.ext ?_)
  match j with
  | ⟨0, _⟩ => show 0 + 1 * (y 0).val = (y 0).val; omega
  | ⟨1, _⟩ =>
    have h1 : (y 1).val < 256 := (y 1).isLt
    show o + 1 * (y 1).val = (o + (y 1).val) % 5632
    rw [Nat.mod_eq_of_lt (by omega), Nat.one_mul]

/-- A load of 256 rows of the down-projection's weights. -/
theorem load_downs {a : Memref sg .tc .vmem S2816x1024 .bf16} (ha : a.IsWhole) (x : Vec F S2816x1024 .bf16) (o : ℕ)
    (inb : ∀ j, (![o, 0] : Fin 2 → ℕ) j + S256x1024.size j ≤ S2816x1024.size j) :
    a.view.readAt (Elt F) (Rect.unit (s := S2816x1024) ![o, 0] S256x1024.size inb).toLoadRect (ha.unread x) = downs x o := by
  rw [View.readAt_eq_ld, ha.read_unread]
  funext (y : S256x1024.Idx)
  have hb : o + 256 ≤ 2816 := inb 0
  refine congrArg x (funext fun j => Fin.ext ?_)
  match j with
  | ⟨0, _⟩ =>
    have h0 : (y 0).val < 256 := (y 0).isLt
    show o + 1 * (y 0).val = (o + (y 0).val) % 2816
    rw [Nat.mod_eq_of_lt (by omega), Nat.one_mul]
  | ⟨1, _⟩ => show 0 + 1 * (y 1).val = (y 1).val; omega

/-- A load of 512 rows of a scratch buffer whose latest store is of the whole buffer. -/
theorem load_rows (a : Memref sg .tc .vmem S528x256 .f32) (o : ℕ)
    (inb : ∀ j, (![o, 0] : Fin 2 → ℕ) j + S512x256.size j ≤ S528x256.size j)
    (inb' : ∀ j, (![0, 0] : Fin 2 → ℕ) j + S528x256.size j ≤ S528x256.size j) (w : Vec F S528x256 .f32)
    (L : List (View.Piece (Elt F) S528x256 .f32)) :
    a.view.readCov (⟨Rect.unit (s := S528x256) ![0, 0] S528x256.size inb', w⟩ :: L)
      (Rect.unit (s := S528x256) ![o, 0] S512x256.size inb).toLoadRect = rows w o := by
  unfold View.readCov
  rw [View.readAt_eq_ld]
  have e : a.view.read (Elt F) (a.view.writes (Elt F) a.view.junk (⟨Rect.unit (s := S528x256) ![0, 0] S528x256.size inb', w⟩ :: L)) = w :=
    View.read_writes_full _ _ _ _ _
  rw [e]
  funext (y : S512x256.Idx)
  have hb : o + 512 ≤ 528 := inb 0
  refine congrArg w (funext fun j => Fin.ext ?_)
  match j with
  | ⟨0, _⟩ =>
    have h0 : (y 0).val < 512 := (y 0).isLt
    show o + 1 * (y 0).val = (o + (y 0).val) % 528
    rw [Nat.mod_eq_of_lt (by omega), Nat.one_mul]
  | ⟨1, _⟩ => show 0 + 1 * (y 1).val = (y 1).val; omega

/-- The first chunk's projection is stated over the parts of the rows. -/
theorem first_up (v1 v3 v5 : FVec F S1x1024 .f32) (v7 : FVec F S512x1024 .f32) (v30 : FVec F S8x1024 .f32) (v31 : BitVec 1)
    (v33 : FVec F S8x1024 .f32) (w : Vec F S1024x256 .bf16) :
    k0_pay11 (k0_pay10 v1 v3 v5 v7 v30 v31 v33 w) = k0_pay12 (k0_pay8 v1 v3 v5 v7 v30 v31 v33) w := rfl

/-- What the body leaves in the output window, on whole staging buffers holding the input blocks. -/
theorem out_eq (c : Dev nD) (i : grid0.Coords)
    (arg2 : Memref sig .tc .vmem S1x512x1024 .f32) (harg2 : arg2.IsWhole)
    (arg3 : Memref sig .tc .vmem S1x8x1024 .f32) (harg3 : arg3.IsWhole)
    (arg4 : Memref sig .tc .vmem S1x8x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1024 .f32) (harg8 : arg8.IsWhole)
    (arg9 : Memref sig .tc .vmem S1024x5632 .bf16) (harg9 : arg9.IsWhole)
    (arg10 : Memref sig .tc .vmem S3x5632 .f32) (harg10 : arg10.IsWhole)
    (arg11 : Memref sig .tc .vmem S1x5632 .f32) (harg11 : arg11.IsWhole)
    (arg12 : Memref sig .tc .vmem S2816x1024 .bf16) (harg12 : arg12.IsWhole)
    (arg13 : Memref sig .tc .vmem S1x1024 .f32) (harg13 : arg13.IsWhole)
    (arg14 : Memref sig .tc .vmem S1x512x1024 .f32) (harg14 : arg14.IsWhole)
    (arg15 : Memref sig .tc .vmem S528x256 .f32) (harg15 : arg15.IsWhole)
    (arg16 : Memref sig .tc .vmem S528x256 .f32) (harg16 : arg16.IsWhole)
    (x0 : Vec F S1x512x1024 .f32) (x1 : Vec F S1x8x1024 .f32) (x2 : Vec F S1x8x1024 .f32) (x3 : Vec F S1x1x1024 .f32) (x4 : Vec F S1x1x1024 .f32) (x5 : Vec F S1x1x1024 .f32) (x6 : Vec F S1x1024 .f32) (x7 : Vec F S1024x5632 .bf16) (x8 : Vec F S3x5632 .f32) (x9 : Vec F S1x5632 .f32) (x10 : Vec F S2816x1024 .bf16) (x11 : Vec F S1x1024 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 = block i x0 x1 x2 x3 x4 x5 x6 x7 x8 x9 x10 x11 := by
  unfold out0_A_12
  rw [View.read_writes_eq_canon _ _ _ (fun y => cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y)]
  unfold kernelRun0_A
  dsimp only
  sl_unfold_words
  simp only [↓load_rows, ↓load_whole, ↓load_ups, ↓load_taps, ↓load_bias, ↓load_downs]
  have hz : (![0, 0, 0] : Fin 3 → ℕ) = fun _ => 0 := by funext a; fin_cases a <;> rfl
  refine (View.canon_cons_unit_zero (Val := Elt F) (e := .f32) (S := S1x512x1024) hz inb_S1x512x1024_S1x512x1024_0_0_0 _ []).trans ?_
  rw [first_up]
  unfold block hid
  generalize k0_pay8 (k0_pay2 x6) (k0_pay3 x3) (k0_pay4 x4) (k0_pay5 x0) (k0_pay6 i x6 x3 x4 x1)
    (Scalar.cmpi .slt (BitVec.ofNat 32 (i 1).val) 7#32) (k0_pay7 x2) = h
  refine (congrArg (fun w => k0_pay1 (F := F) _ _ _ w) (load_whole harg13 x11 inb_S1x1024_S1x1024_0_0)).trans ?_
  rfl

end Cert.FfnIdeal.Val

end
-- ==== Proof.Ffn.Row.lean ====
/-
  The gated MLP's arithmetic on one row of extended reals: the row over its root mean square, the smooth gate, and a sum
  over 2816 channels taken in eleven chunks of 256.
-/
module

public import Idealize.ShloMosaic.Lib.Pointwise

@[expose] public section

noncomputable section

open scoped BigOperators
open Idealize.ShloMosaic

namespace Cert.FfnRow

/-- A row over its root mean square, scaled by `g`. -/
def unit (x g : Fin 1024 → EReal) (d : Fin 1024) : EReal :=
  x d * Ideal.rsqrt (Ideal.div (∑ e, x e * x e) (Ideal.ofBits FTy.f32 0x44800000#32) + Ideal.ofBits FTy.f32 0x358637BD#32) * g d

/-- A normalized row scaled by one plus `scale` and shifted. -/
def modul (x g shift scale : Fin 1024 → EReal) (d : Fin 1024) : EReal :=
  unit x g d * (1 + scale d) + shift d

/-- `t / (1 + exp (-t))`. -/
def swish (t : EReal) : EReal := t * Ideal.div 1 (1 + Ideal.exp (-t))

end Cert.FfnRow

end
-- ==== Proof.Ffn.Rows.lean ====
/-
  One row of one block of the gated MLP, over the extended reals: each payload read at an index, and the block's entry as
  the normalized residual sum over all 2816 gated channels.
-/
module

public import proofs.«01_k».proof.Proof.Ffn.Body
public import proofs.«01_k».proof.Proof.Ffn.Row
public import Idealize.ShloMosaic.Lib.Pointwise

@[expose] public section

noncomputable section

open scoped BigOperators
open Idealize.ShloMosaic Idealize.ShloMosaic.TcCoe Idealize.SL.Sem

namespace Cert.FfnIdeal.Val

open Cert.FfnIdeal Cert.FfnIdeal.Gen Cert.FfnRow

/-- A choice between two numbers by a bit. -/
theorem select_eq (b : BitVec 1) (x y : EReal) : Scalar.select b x y = if b = 1#1 then x else y := by
  rfl

/-- The rows before the block, zero at the sequence's start. -/
theorem before_apply (i : grid0.Coords) (x6 : Vec Ideal S1x1024 .f32) (x3 x4 : Vec Ideal S1x1x1024 .f32) (x1 : Vec Ideal S1x8x1024 .f32)
    (r : Fin 8) (d : Fin 1024) :
    k0_pay6 i x6 x3 x4 x1 (ix2 r d) = if Scalar.cmpi .sgt (BitVec.ofNat 32 (i 1).val) 0#32 = 1#1 then
      modul (fun e => x1 (ix3 0 r e)) (fun e => x6 (ix2 0 e)) (fun e => x3 (ix3 0 0 e)) (fun e => x4 (ix3 0 0 e)) d else 0 := by
  pointwise [k0_pay6, k0_pay2, k0_pay3, k0_pay4, modul, unit]
  exact select_eq _ _ _

/-- The three groups of rows, one under the other: those before the block, the block's own, and those after it. -/
theorem stack_apply (v1 v3 v5 : FVec Ideal S1x1024 .f32) (v7 : FVec Ideal S512x1024 .f32) (v30 : FVec Ideal S8x1024 .f32) (v31 : BitVec 1)
    (v33 : FVec Ideal S8x1024 .f32) (r : Fin 528) (d : Fin 1024) :
    k0_pay8 v1 v3 v5 v7 v30 v31 v33 (ix2 r d) = if h : r.val < 8 then v30 (ix2 ⟨r.val, h⟩ d)
      else if h' : r.val < 520 then modul (fun e => v7 (ix2 ⟨r.val - 8, by omega⟩ e)) (fun e => v1 (ix2 0 e)) (fun e => v3 (ix2 0 e)) (fun e => v5 (ix2 0 e)) d
      else if v31 = 1#1 then modul (fun e => v33 (ix2 ⟨r.val - 520, by omega⟩ e)) (fun e => v1 (ix2 0 e)) (fun e => v3 (ix2 0 e)) (fun e => v5 (ix2 0 e)) d
      else 0 := by
  pointwise [k0_pay8, modul, unit]
  by_cases h : r.val < 8
  · rw [dif_pos h, dif_pos h]
  · rw [dif_neg h, dif_neg h]
    by_cases h' : r.val < 520
    · rw [dif_pos (by omega), dif_pos h']
    · have e : (⟨r.val - 8 - 512, by omega⟩ : Fin 8) = ⟨r.val - 520, by omega⟩ := Fin.ext (by show r.val - 8 - 512 = r.val - 520; omega)
      rw [dif_neg (by omega), dif_neg h', e]
      exact select_eq _ _ _

/-- A projected chunk's entry. -/
theorem pay12_apply (h : FVec Ideal S528x1024 .bf16) (w : Vec Ideal S1024x256 .bf16) (r : Fin 528) (k : Fin 256) :
    k0_pay12 h w (ix2 r k) = ∑ d : Fin 1024, h (ix2 r d) * w (ix2 d k) := by
  pointwise [k0_pay12]

/-- A convolved chunk's entry. -/
theorem pay13_apply (t : Vec Ideal S3x256 .f32) (a b c : Vec Ideal S512x256 .f32) (z : Vec Ideal S1x256 .f32) (r : Fin 512) (k : Fin 256) :
    k0_pay13 t a b c z (ix2 r k) = a (ix2 r k) * t (ix2 0 k) + b (ix2 r k) * t (ix2 1 k) + c (ix2 r k) * t (ix2 2 k) + z (ix2 0 k) := by
  pointwise [k0_pay13]

/-- One more chunk's contribution. -/
theorem chunk_apply (a : FVec Ideal S512x1024 .f32) (g v : FVec Ideal S512x256 .f32) (w : Vec Ideal S256x1024 .bf16) (r : Fin 512) (d : Fin 1024) :
    chunk a g v w (ix2 r d) = a (ix2 r d) + ∑ k : Fin 256, swish (g (ix2 r k)) * v (ix2 r k) * w (ix2 k d) := by
  pointwise [chunk, swish]
  rfl

/-- The sum starts at zero. -/
theorem pay9_apply (r : Fin 512) (d : Fin 1024) : (k0_pay9 (F := Ideal)) (ix2 r d) = 0 := by
  pointwise [k0_pay9]

/-- The closing payload: the residual sum over its root mean square. -/
theorem pay1_apply (x a g : FVec Ideal S512x1024 .f32) (w : Vec Ideal S1x1024 .f32) (r : Fin 512) (d : Fin 1024) :
    k0_pay1 x a g w (ix3 0 r d) = unit (fun e => x (ix2 r e) + g (ix2 r e) * a (ix2 r e)) (fun e => w (ix2 0 e)) d := by
  pointwise [k0_pay1, unit]

/-- The block's rows. -/
theorem pay5_apply (x : Vec Ideal S1x512x1024 .f32) (r : Fin 512) (d : Fin 1024) : k0_pay5 x (ix2 r d) = x (ix3 0 r d) := by
  pointwise [k0_pay5]

/-- The gate, repeated over the rows. -/
theorem pay65_apply (x : Vec Ideal S1x1x1024 .f32) (r : Fin 512) (d : Fin 1024) : k0_pay65 x (ix2 r d) = x (ix3 0 0 d) := by
  pointwise [k0_pay65]

/-- A row's projection onto channel `k`. -/
def proj (h : FVec Ideal S528x1024 .bf16) (x7 : Vec Ideal S1024x5632 .bf16) (r : Fin 528) (k : Fin 5632) : EReal :=
  ∑ d : Fin 1024, h (ix2 r d) * x7 (ix2 d k)

/-- Channel `k` convolved along the rows, at row `r` of the block. -/
def chan (h : FVec Ideal S528x1024 .bf16) (x7 : Vec Ideal S1024x5632 .bf16) (x8 : Vec Ideal S3x5632 .f32) (x9 : Vec Ideal S1x5632 .f32)
    (r : Fin 512) (k : Fin 5632) : EReal :=
  proj h x7 ⟨7 + r.val, by omega⟩ k * x8 (ix2 0 k) + proj h x7 ⟨8 + r.val, by omega⟩ k * x8 (ix2 1 k)
    + proj h x7 ⟨9 + r.val, by omega⟩ k * x8 (ix2 2 k) + x9 (ix2 0 k)

/-- A convolved chunk is 256 channels of the whole. -/
theorem conv_apply (h : FVec Ideal S528x1024 .bf16) (x7 : Vec Ideal S1024x5632 .bf16) (x8 : Vec Ideal S3x5632 .f32) (x9 : Vec Ideal S1x5632 .f32)
    (o : ℕ) (r : Fin 512) (k : Fin 256) :
    conv h x7 x8 x9 o (ix2 r k) = chan h x7 x8 x9 r ⟨(o + k.val) % 5632, Nat.mod_lt _ (by omega)⟩ := by
  have hr : ∀ (w : Vec Ideal S528x256 .f32) (s : ℕ) (hs : s + r.val < 528), rows w s (ix2 r k) = w (ix2 ⟨s + r.val, hs⟩ k) := fun w s hs => by
    show w (ix2 ⟨(s + r.val) % 528, _⟩ k) = _
    refine congrArg (fun q : Fin 528 => w (ix2 q k)) (Fin.ext ?_)
    show (s + r.val) % 528 = s + r.val
    omega
  rw [conv, pay13_apply, hr _ 7 (by omega), hr _ 8 (by omega), hr _ 9 (by omega), pay12_apply, pay12_apply, pay12_apply]
  rfl

/-- Channel `j`'s gated product times its down weights, over all natural numbers. -/
def term (h : FVec Ideal S528x1024 .bf16) (x7 : Vec Ideal S1024x5632 .bf16) (x8 : Vec Ideal S3x5632 .f32) (x9 : Vec Ideal S1x5632 .f32)
    (x10 : Vec Ideal S2816x1024 .bf16) (r : Fin 512) (d : Fin 1024) (j : ℕ) : EReal :=
  swish (chan h x7 x8 x9 r ⟨j % 5632, Nat.mod_lt _ (by omega)⟩) * chan h x7 x8 x9 r ⟨(2816 + j) % 5632, Nat.mod_lt _ (by omega)⟩
    * x10 (ix2 ⟨j % 2816, Nat.mod_lt _ (by omega)⟩ d)

/-- The sum of the first chunks is the sum over their channels. -/
theorem acc_apply (h : FVec Ideal S528x1024 .bf16) (x7 : Vec Ideal S1024x5632 .bf16) (x8 : Vec Ideal S3x5632 .f32) (x9 : Vec Ideal S1x5632 .f32)
    (x10 : Vec Ideal S2816x1024 .bf16) (r : Fin 512) (d : Fin 1024) (k : ℕ) :
    acc h x7 x8 x9 x10 k (ix2 r d) = ∑ j ∈ Finset.range (256 * k), term h x7 x8 x9 x10 r d j := by
  induction k with
  | zero => rw [acc, pay9_apply, Nat.mul_zero, Finset.range_zero, Finset.sum_empty]
  | succ k ih =>
    rw [acc, chunk_apply, ih, Nat.mul_succ, Finset.sum_range_add, Finset.sum_range (n := 256)]
    refine congrArg (_ + ·) (Finset.sum_congr rfl fun j _ => ?_)
    rw [conv_apply, conv_apply, term]
    simp only [Nat.add_assoc]
    rfl

/-- The sum over all channels. -/
theorem acc_all (h : FVec Ideal S528x1024 .bf16) (x7 : Vec Ideal S1024x5632 .bf16) (x8 : Vec Ideal S3x5632 .f32) (x9 : Vec Ideal S1x5632 .f32)
    (x10 : Vec Ideal S2816x1024 .bf16) (r : Fin 512) (d : Fin 1024) :
    acc h x7 x8 x9 x10 11 (ix2 r d) = ∑ j : Fin 2816, swish (chan h x7 x8 x9 r ⟨j.val, by omega⟩)
      * chan h x7 x8 x9 r ⟨2816 + j.val, by omega⟩ * x10 (ix2 j d) := by
  rw [acc_apply, Finset.sum_range (n := 256 * 11)]
  refine Finset.sum_congr rfl fun (j : Fin 2816) _ => ?_
  have h1 : (⟨j.val % 5632, Nat.mod_lt _ (by omega)⟩ : Fin 5632) = ⟨j.val, by omega⟩ := Fin.ext (Nat.mod_eq_of_lt (by omega))
  have h2 : (⟨(2816 + j.val) % 5632, Nat.mod_lt _ (by omega)⟩ : Fin 5632) = ⟨2816 + j.val, by omega⟩ := Fin.ext (Nat.mod_eq_of_lt (by omega))
  have h3 : (⟨j.val % 2816, Nat.mod_lt _ (by omega)⟩ : Fin 2816) = j := Fin.ext (Nat.mod_eq_of_lt j.isLt)
  rw [term, h1, h2, h3]

/-- The normalized rows a block meets: before it, its own, after it. -/
theorem hid_apply (i : grid0.Coords) (x0 : Vec Ideal S1x512x1024 .f32) (x1 x2 : Vec Ideal S1x8x1024 .f32) (x3 x4 : Vec Ideal S1x1x1024 .f32)
    (x6 : Vec Ideal S1x1024 .f32) (r : Fin 528) (d : Fin 1024) :
    hid i x0 x1 x2 x3 x4 x6 (ix2 r d) =
      if h : r.val < 8 then (if Scalar.cmpi .sgt (BitVec.ofNat 32 (i 1).val) 0#32 = 1#1 then
        modul (fun e => x1 (ix3 0 ⟨r.val, h⟩ e)) (fun e => x6 (ix2 0 e)) (fun e => x3 (ix3 0 0 e)) (fun e => x4 (ix3 0 0 e)) d else 0)
      else if h' : r.val < 520 then
        modul (fun e => x0 (ix3 0 ⟨r.val - 8, by omega⟩ e)) (fun e => x6 (ix2 0 e)) (fun e => x3 (ix3 0 0 e)) (fun e => x4 (ix3 0 0 e)) d
      else if Scalar.cmpi .slt (BitVec.ofNat 32 (i 1).val) 7#32 = 1#1 then
        modul (fun e => x2 (ix3 0 ⟨r.val - 520, by omega⟩ e)) (fun e => x6 (ix2 0 e)) (fun e => x3 (ix3 0 0 e)) (fun e => x4 (ix3 0 0 e)) d
      else 0 := by
  have p2 : ∀ e : Fin 1024, k0_pay2 x6 (ix2 0 e) = x6 (ix2 0 e) := fun e => by pointwise [k0_pay2]
  have p3 : ∀ e : Fin 1024, k0_pay3 x3 (ix2 0 e) = x3 (ix3 0 0 e) := fun e => by pointwise [k0_pay3]
  have p4 : ∀ e : Fin 1024, k0_pay4 x4 (ix2 0 e) = x4 (ix3 0 0 e) := fun e => by pointwise [k0_pay4]
  have p7 : ∀ (q : Fin 8) (e : Fin 1024), k0_pay7 x2 (ix2 q e) = x2 (ix3 0 q e) := fun q e => by pointwise [k0_pay7]
  rw [hid, stack_apply]
  simp only [before_apply, pay5_apply, p2, p3, p4, p7]

/-- The block's entry before its closing normalization. -/
theorem inner_apply (x0 : Vec Ideal S1x512x1024 .f32) (x5 : Vec Ideal S1x1x1024 .f32) (h : FVec Ideal S528x1024 .bf16)
    (x7 : Vec Ideal S1024x5632 .bf16) (x8 : Vec Ideal S3x5632 .f32) (x9 : Vec Ideal S1x5632 .f32)
    (x10 : Vec Ideal S2816x1024 .bf16) (r : Fin 512) (d : Fin 1024) :
    k0_pay5 x0 (ix2 r d) + k0_pay65 x5 (ix2 r d) * acc h x7 x8 x9 x10 11 (ix2 r d)
      = x0 (ix3 0 r d) + x5 (ix3 0 0 d) * ∑ j : Fin 2816, swish (chan h x7 x8 x9 r ⟨j.val, by omega⟩)
          * chan h x7 x8 x9 r ⟨2816 + j.val, by omega⟩ * x10 (ix2 j d) := by
  rw [pay5_apply, pay65_apply, acc_all]

/-- The block's entry. -/
theorem block_apply (i : grid0.Coords) (x0 : Vec Ideal S1x512x1024 .f32) (x1 x2 : Vec Ideal S1x8x1024 .f32) (x3 x4 x5 : Vec Ideal S1x1x1024 .f32)
    (x6 : Vec Ideal S1x1024 .f32) (x7 : Vec Ideal S1024x5632 .bf16) (x8 : Vec Ideal S3x5632 .f32) (x9 : Vec Ideal S1x5632 .f32)
    (x10 : Vec Ideal S2816x1024 .bf16) (x11 : Vec Ideal S1x1024 .f32) (r : Fin 512) (d : Fin 1024) :
    block i x0 x1 x2 x3 x4 x5 x6 x7 x8 x9 x10 x11 (ix3 0 r d)
      = unit (fun e => k0_pay5 x0 (ix2 r e) + k0_pay65 x5 (ix2 r e) * acc (hid i x0 x1 x2 x3 x4 x6) x7 x8 x9 x10 11 (ix2 r e))
          (fun e => x11 (ix2 0 e)) d := by
  rw [block, pay1_apply]

end Cert.FfnIdeal.Val

end
-- ==== Proof.Ffn.Reference.lean ====
/-
  The gated MLP's reference program read at an index, over the extended reals: the normalization of a row, its
  modulation, the up-projection, the width-3 convolution along the sequence, the gated product, the down-projection and
  the residual sum.
-/
module

public import proofs.«01_k».proof.Proof.Gen.FfnRefIdeal.Run
public import proofs.«01_k».proof.Proof.Ffn.Row
public import Idealize.ShloMosaic.Lib.Pointwise

@[expose] public section

noncomputable section

open scoped BigOperators
open Idealize.ShloMosaic Idealize.ShloMosaic.TcCoe Idealize.SL.Sem

namespace Cert.FfnRefIdeal.Val

open Cert.FfnRefIdeal Cert.FfnRefIdeal.Gen Cert.FfnRefIdeal.Value Cert.FfnRow

/-- The mean square of every row. -/
def power (x : FVec Ideal S4x4096x1024 .f32) : FVec Ideal S4x4096x1 .f32 :=
  Host.divf (broadcastInDim S4x4096x1 ![0, 1] bcast_S4x4096_S4x4096x1_0_1
      (Host.reduceAdd (mulf x x) (constant S_ .f32 0x00000000#32) reducesTo_S4x4096x1024_S4x4096_d2 h_S_))
    (broadcastInDim S4x4096x1 ![] bcast_S_S4x4096x1 (constant S_ .f32 0x44800000#32))

/-- Every row over its root mean square, scaled by `g`. -/
def normed (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2
      (Host.rsqrt (addf (power x) (broadcastInDim S4x4096x1 ![] bcast_S_S4x4096x1 (constant S_ .f32 0x358637BD#32))))))
    (broadcastInDim S4x4096x1024 ![0, 1, 2] bcast_S1x1x1024_S4x4096x1024_0_1_2
      (broadcastInDim S1x1x1024 ![2] bcast_S1024_S1x1x1024_2 g))

/-- Every row scaled by one plus its batch's scale and shifted. -/
def modulated (y : FVec Ideal S4x4096x1024 .f32) (shift scale : FVec Ideal S4x1x1024 .f32) : FVec Ideal S4x4096x1024 .f32 :=
  addf (mulf y (broadcastInDim S4x4096x1024 ![0, 1, 2] bcast_S4x1x1024_S4x4096x1024_0_1_2
      (addf (broadcastInDim S4x1x1024 ![] bcast_S_S4x1x1024 (constant S_ .f32 0x3F800000#32)) scale)))
    (broadcastInDim S4x4096x1024 ![0, 1, 2] bcast_S4x1x1024_S4x4096x1024_0_1_2 shift)

/-- The up-projection. -/
def projected (h : FVec Ideal S4x4096x1024 .f32) (w : FVec Ideal S1024x5632 .f32) : FVec Ideal S4x4096x5632 .f32 :=
  Host.dotGeneral dot_S4x4096x1024_S1024x5632_S4x4096x5632_2_0_01_1_n_n none h w

/-- A row of zeros before and after every batch's sequence. -/
def padded (u : FVec Ideal S4x4096x5632 .f32) : FVec Ideal S4x4098x5632 .f32 :=
  pad S4x4098x5632 ![0, 1, 0] ![0, 1, 0] ![0, 0, 0] u (sitofp .f32 (constantI S_ 32 0#32)) pads_S4x4096x5632_S4x4098x5632_000_110_000 h_S_

/-- The three shifted products, summed, and the bias. -/
def convolved (p : FVec Ideal S4x4098x5632 .f32) (w : FVec Ideal S3x5632 .f32) (b : FVec Ideal S5632 .f32) : FVec Ideal S4x4096x5632 .f32 :=
  addf (addf (addf
      (mulf (extractStridedSlice S4x4096x5632 ![0, 0, 0] p slices_S4x4098x5632_S4x4096x5632_0_0_0)
        (broadcastInDim S4x4096x5632 ![0, 1, 2] bcast_S1x1x5632_S4x4096x5632_0_1_2 (broadcastInDim S1x1x5632 ![2] bcast_S5632_S1x1x5632_2
          (shapeCast S5632 (extractStridedSlice S1x5632 ![0, 0] w slices_S3x5632_S1x5632_0_0) shapeCasts_S1x5632_S5632))))
      (mulf (extractStridedSlice S4x4096x5632 ![0, 1, 0] p slices_S4x4098x5632_S4x4096x5632_0_1_0)
        (broadcastInDim S4x4096x5632 ![0, 1, 2] bcast_S1x1x5632_S4x4096x5632_0_1_2 (broadcastInDim S1x1x5632 ![2] bcast_S5632_S1x1x5632_2
          (shapeCast S5632 (extractStridedSlice S1x5632 ![1, 0] w slices_S3x5632_S1x5632_1_0) shapeCasts_S1x5632_S5632)))))
      (mulf (extractStridedSlice S4x4096x5632 ![0, 2, 0] p slices_S4x4098x5632_S4x4096x5632_0_2_0)
        (broadcastInDim S4x4096x5632 ![0, 1, 2] bcast_S1x1x5632_S4x4096x5632_0_1_2 (broadcastInDim S1x1x5632 ![2] bcast_S5632_S1x1x5632_2
          (shapeCast S5632 (extractStridedSlice S1x5632 ![2, 0] w slices_S3x5632_S1x5632_2_0) shapeCasts_S1x5632_S5632)))))
    (broadcastInDim S4x4096x5632 ![0, 1, 2] bcast_S1x1x5632_S4x4096x5632_0_1_2 (broadcastInDim S1x1x5632 ![2] bcast_S5632_S1x1x5632_2 b))

/-- The first half of the channels. -/
def gates (u : FVec Ideal S4x4096x5632 .f32) : FVec Ideal S4x4096x2816 .f32 :=
  extractStridedSlice S4x4096x2816 ![0, 0, 0] u slices_S4x4096x5632_S4x4096x2816_0_0_0

/-- The second half of the channels. -/
def values (u : FVec Ideal S4x4096x5632 .f32) : FVec Ideal S4x4096x2816 .f32 :=
  extractStridedSlice S4x4096x2816 ![0, 0, 2816] u slices_S4x4096x5632_S4x4096x2816_0_0_2816

/-- `g / (1 + exp (-g))` times `v`. -/
def gated (g v : FVec Ideal S4x4096x2816 .f32) : FVec Ideal S4x4096x2816 .f32 :=
  mulf (mulf g (Host.divf (broadcastInDim S4x4096x2816 ![] bcast_S_S4x4096x2816 (constant S_ .f32 0x3F800000#32))
    (addf (broadcastInDim S4x4096x2816 ![] bcast_S_S4x4096x2816 (constant S_ .f32 0x3F800000#32)) (Host.exp (Host.negf g))))) v

/-- The down-projection, scaled by the batch's gate and added to the input. -/
def added (x : FVec Ideal S4x4096x1024 .f32) (gate : FVec Ideal S4x1x1024 .f32) (s : FVec Ideal S4x4096x2816 .f32)
    (w : FVec Ideal S2816x1024 .f32) : FVec Ideal S4x4096x1024 .f32 :=
  addf x (mulf (broadcastInDim S4x4096x1024 ![0, 1, 2] bcast_S4x1x1024_S4x4096x1024_0_1_2 gate)
    (Host.dotGeneral dot_S4x4096x2816_S2816x1024_S4x4096x1024_2_0_01_1_n_n none s w))

/-- The gated MLP with its residual. -/
def mlp (x : FVec Ideal S4x4096x1024 .f32) (shift scale gate : FVec Ideal S4x1x1024 .f32) (g : FVec Ideal S1024 .f32)
    (wu : FVec Ideal S1024x5632 .f32) (cw : FVec Ideal S3x5632 .f32) (cb : FVec Ideal S5632 .f32) (wd : FVec Ideal S2816x1024 .f32) :
    FVec Ideal S4x4096x1024 .f32 :=
  added x gate (gated (gates (convolved (padded (projected (modulated (normed x g) shift scale) wu)) cw cb))
    (values (convolved (padded (projected (modulated (normed x g) shift scale) wu)) cw cb))) wd

/-- The program's result is the normalized gated MLP of its arguments. -/
theorem result_eq (m : (ℓ : Loc nD τ sig) → Buf (Elt Ideal) ℓ) (c : Dev nD) :
    res_out0 m c = normed (mlp (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8))) (m ((c.tc : Thread nD τ).loc main_arg9)) := by
  show res_main_v64 m c = _
  unfold res_main_v64
  rfl

/-- A row's mean square. -/
theorem power_apply (x : FVec Ideal S4x4096x1024 .f32) (b : Fin 4) (n : Fin 4096) :
    power x (ix3 b n 0) = Ideal.div (∑ e : Fin 1024, x (ix3 b n e) * x (ix3 b n e)) (Ideal.ofBits FTy.f32 0x44800000#32) := by
  pointwise [power]

/-- A normalized row. -/
theorem normed_apply (x : FVec Ideal S4x4096x1024 .f32) (g : FVec Ideal S1024 .f32) (b : Fin 4) (n : Fin 4096) (d : Fin 1024) :
    normed x g (ix3 b n d) = unit (fun e => x (ix3 b n e)) (fun e => g (ix1 e)) d := by
  have h : normed x g (ix3 b n d) = x (ix3 b n d) * Ideal.rsqrt (power x (ix3 b n 0) + Ideal.ofBits FTy.f32 0x358637BD#32) * g (ix1 d) := by
    generalize hp : power x = p
    pointwise [normed]
    rw [hp]
  rw [h, power_apply]
  rfl

/-- A modulated entry. -/
theorem modulated_apply (y : FVec Ideal S4x4096x1024 .f32) (shift scale : FVec Ideal S4x1x1024 .f32) (b : Fin 4) (n : Fin 4096) (d : Fin 1024) :
    modulated y shift scale (ix3 b n d) = y (ix3 b n d) * (1 + scale (ix3 b 0 d)) + shift (ix3 b 0 d) := by
  pointwise [modulated]

/-- A projected entry. -/
theorem projected_apply (h : FVec Ideal S4x4096x1024 .f32) (w : FVec Ideal S1024x5632 .f32) (b : Fin 4) (n : Fin 4096) (k : Fin 5632) :
    projected h w (ix3 b n k) = ∑ d : Fin 1024, h (ix3 b n d) * w (ix2 d k) := by
  pointwise [projected]

/-- A padded entry. -/
theorem padded_apply (u : FVec Ideal S4x4096x5632 .f32) (b : Fin 4) (n : Fin 4098) (k : Fin 5632) :
    padded u (ix3 b n k) = if h : 1 ≤ n.val ∧ n.val < 4097 then u (ix3 b ⟨n.val - 1, by omega⟩ k) else 0 := by
  have h0 : (FloatOps.sitofp FTy.f32 (0#32 : BitVec 32) : Ideal FTy.f32) = (0 : EReal) := by
    show ((((0#32 : BitVec 32).toInt : ℝ) : EReal)) = 0
    simp
  pointwise [padded]
  rw [h0]
  by_cases h : 1 ≤ n.val ∧ n.val < 4097
  · rw [dif_pos h, dif_pos ⟨h.1, by omega⟩]
  · rw [dif_neg h, dif_neg (fun h' => h ⟨h'.1, by omega⟩)]

/-- A convolved entry. -/
theorem convolved_apply (p : FVec Ideal S4x4098x5632 .f32) (w : FVec Ideal S3x5632 .f32) (cb : FVec Ideal S5632 .f32)
    (b : Fin 4) (n : Fin 4096) (k : Fin 5632) :
    convolved p w cb (ix3 b n k) = p (ix3 b ⟨n.val, by omega⟩ k) * w (ix2 0 k) + p (ix3 b ⟨1 + n.val, by omega⟩ k) * w (ix2 1 k)
      + p (ix3 b ⟨2 + n.val, by omega⟩ k) * w (ix2 2 k) + cb (ix1 k) := by
  pointwise [convolved]

/-- A channel of the first half. -/
theorem gates_apply (u : FVec Ideal S4x4096x5632 .f32) (b : Fin 4) (n : Fin 4096) (j : Fin 2816) :
    gates u (ix3 b n j) = u (ix3 b n ⟨j.val, by omega⟩) := by
  pointwise [gates]

/-- A channel of the second half. -/
theorem values_apply (u : FVec Ideal S4x4096x5632 .f32) (b : Fin 4) (n : Fin 4096) (j : Fin 2816) :
    values u (ix3 b n j) = u (ix3 b n ⟨2816 + j.val, by omega⟩) := by
  pointwise [values]

/-- A gated product. -/
theorem gated_apply (g v : FVec Ideal S4x4096x2816 .f32) (b : Fin 4) (n : Fin 4096) (j : Fin 2816) :
    gated g v (ix3 b n j) = swish (g (ix3 b n j)) * v (ix3 b n j) := by
  pointwise [gated, swish]

/-- An entry of the residual sum. -/
theorem added_apply (x : FVec Ideal S4x4096x1024 .f32) (gate : FVec Ideal S4x1x1024 .f32) (s : FVec Ideal S4x4096x2816 .f32)
    (w : FVec Ideal S2816x1024 .f32) (b : Fin 4) (n : Fin 4096) (d : Fin 1024) :
    added x gate s w (ix3 b n d) = x (ix3 b n d) + gate (ix3 b 0 d) * ∑ j : Fin 2816, s (ix3 b n j) * w (ix2 j d) := by
  pointwise [added]

end Cert.FfnRefIdeal.Val

end
-- ==== Proof.Ffn.Meet.lean ====
/-
  One block of the gated MLP against the whole arrays: a block's rows are the modulated rows of its batch, zero beyond
  either end of the sequence, so its convolved channels and its residual sum are the reference's.
-/
module

public import proofs.«01_k».proof.Proof.Ffn.Rows
public import proofs.«01_k».proof.Proof.Ffn.Reference

@[expose] public section

noncomputable section

open scoped BigOperators
open Idealize.ShloMosaic Idealize.ShloMosaic.TcCoe Idealize.SL.Sem

namespace Cert.FfnIdeal.Val

open Cert.FfnIdeal Cert.FfnIdeal.Gen Cert.FfnRow
open Cert.FfnRefIdeal.Val (normed modulated projected padded convolved gates values gated added mlp)

/-- The blocks of a grid point are those of the arrays at batch `b`, row block `q`. -/
structure Meets (b : Fin 4) (q : Fin 8)
    (x0 : Vec Ideal S1x512x1024 .f32) (x1 x2 : Vec Ideal S1x8x1024 .f32) (x3 x4 x5 : Vec Ideal S1x1x1024 .f32)
    (x6 : Vec Ideal S1x1024 .f32) (x7 : Vec Ideal S1024x5632 .bf16) (x8 : Vec Ideal S3x5632 .f32) (x9 : Vec Ideal S1x5632 .f32)
    (x10 : Vec Ideal S2816x1024 .bf16)
    (x : FVec Ideal ⟨3, ![4, 4096, 1024]⟩ .f32) (shift scale gate : FVec Ideal ⟨3, ![4, 1, 1024]⟩ .f32) (g : FVec Ideal ⟨1, ![1024]⟩ .f32)
    (wu : FVec Ideal ⟨2, ![1024, 5632]⟩ .f32) (cw : FVec Ideal ⟨2, ![3, 5632]⟩ .f32) (cb : FVec Ideal ⟨1, ![5632]⟩ .f32)
    (wd : FVec Ideal ⟨2, ![2816, 1024]⟩ .f32) : Prop where
  own : ∀ (r : Fin 512) (d : Fin 1024), x0 (ix3 0 r d) = x (ix3 b ⟨q.val * 512 + r.val, by omega⟩ d)
  before : ∀ (r : Fin 8) (d : Fin 1024), x1 (ix3 0 r d) = x (ix3 b ⟨(q.val * 64 - 1) * 8 + r.val, by omega⟩ d)
  after : ∀ (r : Fin 8) (d : Fin 1024), x2 (ix3 0 r d) = x (ix3 b ⟨min ((q.val + 1) * 64) 511 * 8 + r.val, by omega⟩ d)
  shift : ∀ d : Fin 1024, x3 (ix3 0 0 d) = shift (ix3 b 0 d)
  scale : ∀ d : Fin 1024, x4 (ix3 0 0 d) = scale (ix3 b 0 d)
  gate : ∀ d : Fin 1024, x5 (ix3 0 0 d) = gate (ix3 b 0 d)
  g : ∀ d : Fin 1024, x6 (ix2 0 d) = g (ix1 d)
  wu : ∀ (d : Fin 1024) (k : Fin 5632), x7 (ix2 d k) = wu (ix2 d k)
  cw : ∀ (s : Fin 3) (k : Fin 5632), x8 (ix2 s k) = cw (ix2 s k)
  cb : ∀ k : Fin 5632, x9 (ix2 0 k) = cb (ix1 k)
  wd : ∀ (j : Fin 2816) (d : Fin 1024), x10 (ix2 j d) = wd (ix2 j d)

/-- Only the first row block has no rows before it. -/
theorem first_iff : ∀ q : Fin 8, Scalar.cmpi .sgt (BitVec.ofNat 32 q.val) 0#32 = 1#1 ↔ 0 < q.val := by decide

/-- Only the last row block has no rows after it. -/
theorem last_iff : ∀ q : Fin 8, Scalar.cmpi .slt (BitVec.ofNat 32 q.val) 7#32 = 1#1 ↔ q.val < 7 := by decide

/-- A modulated row of the reference is the modulated row. -/
theorem modulated_row (x : FVec Ideal ⟨3, ![4, 4096, 1024]⟩ .f32) (shift scale : FVec Ideal ⟨3, ![4, 1, 1024]⟩ .f32)
    (g : FVec Ideal ⟨1, ![1024]⟩ .f32) (b : Fin 4) (n : Fin 4096) (d : Fin 1024) :
    modulated (normed x g) shift scale (ix3 b n d) = modul (fun e => x (ix3 b n e)) (fun e => g (ix1 e)) (fun e => shift (ix3 b 0 e))
      (fun e => scale (ix3 b 0 e)) d := by
  rw [Cert.FfnRefIdeal.Val.modulated_apply, Cert.FfnRefIdeal.Val.normed_apply]
  rfl

variable {b : Fin 4} {q : Fin 8}
    {x0 : Vec Ideal S1x512x1024 .f32} {x1 x2 : Vec Ideal S1x8x1024 .f32} {x3 x4 x5 : Vec Ideal S1x1x1024 .f32}
    {x6 : Vec Ideal S1x1024 .f32} {x7 : Vec Ideal S1024x5632 .bf16} {x8 : Vec Ideal S3x5632 .f32} {x9 : Vec Ideal S1x5632 .f32}
    {x10 : Vec Ideal S2816x1024 .bf16}
    {x : FVec Ideal ⟨3, ![4, 4096, 1024]⟩ .f32} {shift scale gate : FVec Ideal ⟨3, ![4, 1, 1024]⟩ .f32} {g : FVec Ideal ⟨1, ![1024]⟩ .f32}
    {wu : FVec Ideal ⟨2, ![1024, 5632]⟩ .f32} {cw : FVec Ideal ⟨2, ![3, 5632]⟩ .f32} {cb : FVec Ideal ⟨1, ![5632]⟩ .f32}
    {wd : FVec Ideal ⟨2, ![2816, 1024]⟩ .f32}

/-- Row `7 + p` of a block's stack is the modulated row at padded position `512 q + p`, zero at either end. -/
theorem hid_meets (H : Meets b q x0 x1 x2 x3 x4 x5 x6 x7 x8 x9 x10 x shift scale gate g wu cw cb wd)
    (i : grid0.Coords) (hi : (i 1).val = q.val) (p : ℕ) (hp : p < 514) (d : Fin 1024) :
    hid i x0 x1 x2 x3 x4 x6 (ix2 (⟨7 + p, by omega⟩ : Fin 528) d)
      = if h : 1 ≤ q.val * 512 + p ∧ q.val * 512 + p < 4097 then
          modulated (normed x g) shift scale (ix3 b ⟨q.val * 512 + p - 1, by omega⟩ d) else 0 := by
  have hq := q.isLt
  rw [hid_apply, hi]
  simp only [first_iff, last_iff]
  by_cases h8 : 7 + p < 8
  · rw [dif_pos h8]
    by_cases h0 : 0 < q.val
    · rw [if_pos h0, dif_pos ⟨by omega, by omega⟩, modulated_row]
      have e : (⟨(q.val * 64 - 1) * 8 + (7 + p), by omega⟩ : Fin 4096) = ⟨q.val * 512 + p - 1, by omega⟩ :=
        Fin.ext (by show (q.val * 64 - 1) * 8 + (7 + p) = q.val * 512 + p - 1; omega)
      simp only [H.before, H.g, H.shift, H.scale, e]
    · rw [if_neg h0, dif_neg (by omega)]
  · rw [dif_neg h8]
    by_cases h520 : 7 + p < 520
    · rw [dif_pos h520, dif_pos ⟨by omega, by omega⟩, modulated_row]
      have e : (⟨q.val * 512 + (7 + p - 8), by omega⟩ : Fin 4096) = ⟨q.val * 512 + p - 1, by omega⟩ :=
        Fin.ext (by show q.val * 512 + (7 + p - 8) = q.val * 512 + p - 1; omega)
      simp only [H.own, H.g, H.shift, H.scale, e]
    · rw [dif_neg h520]
      by_cases h7 : q.val < 7
      · rw [if_pos h7, dif_pos ⟨by omega, by omega⟩, modulated_row]
        have e : (⟨min ((q.val + 1) * 64) 511 * 8 + (7 + p - 520), by omega⟩ : Fin 4096) = ⟨q.val * 512 + p - 1, by omega⟩ :=
          Fin.ext (by show min ((q.val + 1) * 64) 511 * 8 + (7 + p - 520) = q.val * 512 + p - 1; omega)
        simp only [H.after, H.g, H.shift, H.scale, e]
      · rw [if_neg h7, dif_neg (by omega)]

/-- The projection of row `7 + p` is the padded projection at position `512 q + p`. -/
theorem proj_meets (H : Meets b q x0 x1 x2 x3 x4 x5 x6 x7 x8 x9 x10 x shift scale gate g wu cw cb wd)
    (i : grid0.Coords) (hi : (i 1).val = q.val) (p : ℕ) (hp : p < 514) (k : Fin 5632) :
    proj (hid i x0 x1 x2 x3 x4 x6) x7 ⟨7 + p, by omega⟩ k
      = padded (projected (modulated (normed x g) shift scale) wu) (ix3 b ⟨q.val * 512 + p, by omega⟩ k) := by
  rw [proj, Cert.FfnRefIdeal.Val.padded_apply]
  simp only [hid_meets H i hi p hp]
  by_cases h : 1 ≤ q.val * 512 + p ∧ q.val * 512 + p < 4097
  · rw [dif_pos h, Cert.FfnRefIdeal.Val.projected_apply]
    refine Finset.sum_congr rfl fun d _ => ?_
    rw [dif_pos h, H.wu]
  · rw [dif_neg h]
    refine Finset.sum_eq_zero fun d _ => ?_
    rw [dif_neg h, zero_mul]

/-- A block's convolved channel is the reference's. -/
theorem chan_meets (H : Meets b q x0 x1 x2 x3 x4 x5 x6 x7 x8 x9 x10 x shift scale gate g wu cw cb wd)
    (i : grid0.Coords) (hi : (i 1).val = q.val) (r : Fin 512) (k : Fin 5632) :
    chan (hid i x0 x1 x2 x3 x4 x6) x7 x8 x9 r k
      = convolved (padded (projected (modulated (normed x g) shift scale) wu)) cw cb (ix3 b ⟨q.val * 512 + r.val, by omega⟩ k) := by
  have e1 : (⟨8 + r.val, by omega⟩ : Fin 528) = ⟨7 + (1 + r.val), by omega⟩ := Fin.ext (by show 8 + r.val = 7 + (1 + r.val); omega)
  have e2 : (⟨9 + r.val, by omega⟩ : Fin 528) = ⟨7 + (2 + r.val), by omega⟩ := Fin.ext (by show 9 + r.val = 7 + (2 + r.val); omega)
  have f1 : (⟨q.val * 512 + (1 + r.val), by omega⟩ : Fin 4098) = ⟨1 + (q.val * 512 + r.val), by omega⟩ :=
    Fin.ext (by show q.val * 512 + (1 + r.val) = 1 + (q.val * 512 + r.val); omega)
  have f2 : (⟨q.val * 512 + (2 + r.val), by omega⟩ : Fin 4098) = ⟨2 + (q.val * 512 + r.val), by omega⟩ :=
    Fin.ext (by show q.val * 512 + (2 + r.val) = 2 + (q.val * 512 + r.val); omega)
  rw [chan, e1, e2, proj_meets H i hi r.val (by omega), proj_meets H i hi (1 + r.val) (by omega), proj_meets H i hi (2 + r.val) (by omega),
    f1, f2, H.cw, H.cw, H.cw, H.cb, Cert.FfnRefIdeal.Val.convolved_apply]

/-- A block's residual sum is the reference's. -/
theorem inner_meets (H : Meets b q x0 x1 x2 x3 x4 x5 x6 x7 x8 x9 x10 x shift scale gate g wu cw cb wd)
    (i : grid0.Coords) (hi : (i 1).val = q.val) (r : Fin 512) (d : Fin 1024) :
    k0_pay5 x0 (ix2 r d) + k0_pay65 x5 (ix2 r d) * acc (hid i x0 x1 x2 x3 x4 x6) x7 x8 x9 x10 11 (ix2 r d)
      = mlp x shift scale gate g wu cw cb wd (ix3 b ⟨q.val * 512 + r.val, by omega⟩ d) := by
  rw [inner_apply, mlp, Cert.FfnRefIdeal.Val.added_apply, H.own, H.gate]
  refine congrArg (fun t : EReal => x (ix3 b ⟨q.val * 512 + r.val, by omega⟩ d) + gate (ix3 b 0 d) * t) (Finset.sum_congr rfl fun j _ => ?_)
  rw [Cert.FfnRefIdeal.Val.gated_apply, Cert.FfnRefIdeal.Val.gates_apply, Cert.FfnRefIdeal.Val.values_apply, chan_meets H i hi, chan_meets H i hi, H.wd]

end Cert.FfnIdeal.Val

end
-- ==== Proof.Ffn.Blocks.lean ====
/-
  The gated MLP's launch: where each window's block lies in its array at a grid point (the batch `t / 8`, the row block
  `t mod 8`), what the arrays hold, and the blocks of the result covering it.
-/
module

public import proofs.«01_k».proof.Proof.Gen.FfnIdeal.Value
public import Idealize.ShloMosaic.Lib.Pointwise
public import Idealize.ShloMosaic.Lib.Tactic
public import Idealize.ShloMosaic.Lib.ValueLayout

@[expose] public section

noncomputable section

open Idealize.ShloMosaic Idealize.ShloMosaic.TcCoe Idealize.SL.Sem

namespace Cert.FfnIdeal.Val

open Cert.FfnIdeal Cert.FfnIdeal.Gen

variable (m : (ℓ : Loc nD τ sig) → Buf (Elt Ideal) ℓ)

/-! ## The arrays computed before the launch -/

/-- The first norm's scale, laid out as one row. -/
theorem entry_g (c : Dev nD) (d : Fin 1024) :
    (V m c main_v0 : FVec Ideal S1x1024 .f32) (ix2 0 d) = (m ((c : Thread nD τ).loc main_arg4) : FVec Ideal S1024 .f32) (ix1 d) := by
  have e : (V m c main_v0 : FVec Ideal S1x1024 .f32) = shapeCast S1x1024 (m ((c : Thread nD τ).loc main_arg4)) shapeCasts_S1024_S1x1024 := by
    show StableHlo.after hostOps0 _ (Proc.devRef .tc main_v0) = _
    after_results
    rfl
  rw [e]
  generalize (m ((c : Thread nD τ).loc main_arg4) : FVec Ideal S1024 .f32) = x
  pointwise []

/-- The up-projection's weights. -/
theorem entry_wu (c : Dev nD) (i : S1024x5632.Idx) :
    (V m c main_v1 : FVec Ideal S1024x5632 .bf16) i = (m ((c : Thread nD τ).loc main_arg5) : FVec Ideal S1024x5632 .f32) i := by
  have e : (V m c main_v1 : FVec Ideal S1024x5632 .bf16) = (truncf (F := Ideal) (s := S1024x5632) .bf16 (m ((c : Thread nD τ).loc main_arg5) : FVec Ideal S1024x5632 .f32) bitsLt_bf16_f32 : FVec Ideal S1024x5632 .bf16) := by
    show StableHlo.after hostOps0 _ (Proc.devRef .tc main_v1) = _
    after_results
  rw [e]
  rfl

/-- The down-projection's weights. -/
theorem entry_wd (c : Dev nD) (i : S2816x1024.Idx) :
    (V m c main_v2 : FVec Ideal S2816x1024 .bf16) i = (m ((c : Thread nD τ).loc main_arg8) : FVec Ideal S2816x1024 .f32) i := by
  have e : (V m c main_v2 : FVec Ideal S2816x1024 .bf16) = (truncf (F := Ideal) (s := S2816x1024) .bf16 (m ((c : Thread nD τ).loc main_arg8) : FVec Ideal S2816x1024 .f32) bitsLt_bf16_f32 : FVec Ideal S2816x1024 .bf16) := by
    show StableHlo.after hostOps0 _ (Proc.devRef .tc main_v2) = _
    after_results
  rw [e]
  rfl

/-- The last norm's scale, laid out as one row. -/
theorem entry_f (c : Dev nD) (d : Fin 1024) :
    (V m c main_v3 : FVec Ideal S1x1024 .f32) (ix2 0 d) = (m ((c : Thread nD τ).loc main_arg9) : FVec Ideal S1024 .f32) (ix1 d) := by
  have e : (V m c main_v3 : FVec Ideal S1x1024 .f32) = shapeCast S1x1024 (m ((c : Thread nD τ).loc main_arg9)) shapeCasts_S1024_S1x1024 := by
    show StableHlo.after hostOps0 _ (Proc.devRef .tc main_v3) = _
    after_results
    rfl
  rw [e]
  generalize (m ((c : Thread nD τ).loc main_arg9) : FVec Ideal S1024 .f32) = x
  pointwise []

/-- The convolution's bias, laid out as one row. -/
theorem entry_cb (c : Dev nD) (k : Fin 5632) :
    (V m c main_v4 : FVec Ideal S1x5632 .f32) (ix2 0 k) = (m ((c : Thread nD τ).loc main_arg7) : FVec Ideal S5632 .f32) (ix1 k) := by
  have e : (V m c main_v4 : FVec Ideal S1x5632 .f32) = shapeCast S1x5632 (m ((c : Thread nD τ).loc main_arg7)) shapeCasts_S5632_S1x5632 := by
    show StableHlo.after hostOps0 _ (Proc.devRef .tc main_v4) = _
    after_results
    rfl
  rw [e]
  exact Idealize.ShloMosaic.ValueIdx.shapeCast_a_1a_apply _ shapeCasts_S5632_S1x5632 0 k

/-! ## The blocks -/

/-- The block indices of the rows' window and of the result's. -/
theorem index_x : ∀ t : Fin cfg0.N, (win0_0.index t 0 = t.val / 8 ∧ win0_0.index t 1 = t.val % 8 ∧ win0_0.index t 2 = 0) ∧ (win0_12.index t 0 = t.val / 8 ∧ win0_12.index t 1 = t.val % 8 ∧ win0_12.index t 2 = 0) :=
  (by decide +kernel : ∀ t : Fin grid0.N, (win0_0.index t 0 = t.val / 8 ∧ win0_0.index t 1 = t.val % 8 ∧ win0_0.index t 2 = 0) ∧ (win0_12.index t 0 = t.val / 8 ∧ win0_12.index t 1 = t.val % 8 ∧ win0_12.index t 2 = 0))

/-- The block indices of the two halos' windows, in blocks of eight rows. -/
theorem index_halo : ∀ t : Fin cfg0.N, (win0_1.index t 0 = t.val / 8 ∧ win0_1.index t 1 = t.val % 8 * 64 - 1 ∧ win0_1.index t 2 = 0) ∧ (win0_2.index t 0 = t.val / 8 ∧ win0_2.index t 1 = min ((t.val % 8 + 1) * 64) 511 ∧ win0_2.index t 2 = 0) :=
  (by decide +kernel : ∀ t : Fin grid0.N, (win0_1.index t 0 = t.val / 8 ∧ win0_1.index t 1 = t.val % 8 * 64 - 1 ∧ win0_1.index t 2 = 0) ∧ (win0_2.index t 0 = t.val / 8 ∧ win0_2.index t 1 = min ((t.val % 8 + 1) * 64) 511 ∧ win0_2.index t 2 = 0))

/-- The block indices of the shift's, the scale's and the gate's windows. -/
theorem index_mod : ∀ t : Fin cfg0.N, (win0_3.index t 0 = t.val / 8 ∧ win0_3.index t 1 = 0 ∧ win0_3.index t 2 = 0) ∧ (win0_4.index t 0 = t.val / 8 ∧ win0_4.index t 1 = 0 ∧ win0_4.index t 2 = 0) ∧ (win0_5.index t 0 = t.val / 8 ∧ win0_5.index t 1 = 0 ∧ win0_5.index t 2 = 0) :=
  (by decide +kernel : ∀ t : Fin grid0.N, (win0_3.index t 0 = t.val / 8 ∧ win0_3.index t 1 = 0 ∧ win0_3.index t 2 = 0) ∧ (win0_4.index t 0 = t.val / 8 ∧ win0_4.index t 1 = 0 ∧ win0_4.index t 2 = 0) ∧ (win0_5.index t 0 = t.val / 8 ∧ win0_5.index t 1 = 0 ∧ win0_5.index t 2 = 0))

/-- The block indices of the weights' windows. -/
theorem index_w : ∀ t : Fin cfg0.N, (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0) :=
  (by decide +kernel : ∀ t : Fin grid0.N, (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0))

/-- The grid has 32 points. -/
theorem point_lt (t : Fin cfg0.N) : t.val < 32 := lt_of_lt_of_eq t.isLt N_0

/-- The batch of a point and the rows of its block. -/
def bat (t : Fin cfg0.N) : Fin 4 := ⟨t.val / 8, by have := point_lt t; omega⟩
def row (t : Fin cfg0.N) (r : Fin 512) : Fin 4096 := ⟨t.val % 8 * 512 + r.val, by omega⟩

/-- The second coordinate of a point is its row block. -/
theorem coord_eq : ∀ t : Fin cfg0.N, (grid0.coords t 1).val = t.val % 8 :=
  (by decide +kernel : ∀ t : Fin grid0.N, (grid0.coords t 1).val = t.val % 8)

/-- The block's rows. -/
theorem iblk_x (c : Dev nD) (t : Fin cfg0.N) (r : Fin 512) (d : Fin 1024) :
    (iblk m c 0 t : Vec Ideal S1x512x1024 .f32) (ix3 0 r d) = (m ((c : Thread nD τ).loc main_arg0) : FVec Ideal S4x4096x1024 .f32) (ix3 (bat t) (row t r) d) := by
  refine Eq.trans (congrArg (V m c main_arg0) (funext fun a => Fin.ext ?_) : _ = V m c main_arg0 (ix3 (bat t) (row t r) d)) (congrFun (V_main_arg0 m c) _)
  have h := (index_x t).1
  match a with
  | ⟨0, _⟩ => show win0_0.index t 0 * 1 + 1 * 0 = t.val / 8; rw [h.1]; omega
  | ⟨1, _⟩ => show win0_0.index t 1 * 512 + 1 * r.val = t.val % 8 * 512 + r.val; rw [h.2.1]; omega
  | ⟨2, _⟩ => show win0_0.index t 2 * 1024 + 1 * d.val = d.val; rw [h.2.2]; omega

/-- The eight rows before the block. -/
theorem iblk_before (c : Dev nD) (t : Fin cfg0.N) (r : Fin 8) (d : Fin 1024) :
    (iblk m c 1 t : Vec Ideal S1x8x1024 .f32) (ix3 0 r d) = (m ((c : Thread nD τ).loc main_arg0) : FVec Ideal S4x4096x1024 .f32) (ix3 (bat t) ⟨(t.val % 8 * 64 - 1) * 8 + r.val, by omega⟩ d) := by
  refine Eq.trans (congrArg (V m c main_arg0) (funext fun a => Fin.ext ?_) : _ = V m c main_arg0 (ix3 (bat t) ⟨(t.val % 8 * 64 - 1) * 8 + r.val, by omega⟩ d)) (congrFun (V_main_arg0 m c) _)
  have h := (index_halo t).1
  match a with
  | ⟨0, _⟩ => show win0_1.index t 0 * 1 + 1 * 0 = t.val / 8; rw [h.1]; omega
  | ⟨1, _⟩ => show win0_1.index t 1 * 8 + 1 * r.val = (t.val % 8 * 64 - 1) * 8 + r.val; rw [h.2.1]; omega
  | ⟨2, _⟩ => show win0_1.index t 2 * 1024 + 1 * d.val = d.val; rw [h.2.2]; omega

/-- The eight rows after the block. -/
theorem iblk_after (c : Dev nD) (t : Fin cfg0.N) (r : Fin 8) (d : Fin 1024) :
    (iblk m c 2 t : Vec Ideal S1x8x1024 .f32) (ix3 0 r d) = (m ((c : Thread nD τ).loc main_arg0) : FVec Ideal S4x4096x1024 .f32) (ix3 (bat t) ⟨min ((t.val % 8 + 1) * 64) 511 * 8 + r.val, by omega⟩ d) := by
  refine Eq.trans (congrArg (V m c main_arg0) (funext fun a => Fin.ext ?_) : _ = V m c main_arg0 (ix3 (bat t) ⟨min ((t.val % 8 + 1) * 64) 511 * 8 + r.val, by omega⟩ d)) (congrFun (V_main_arg0 m c) _)
  have h := (index_halo t).2
  match a with
  | ⟨0, _⟩ => show win0_2.index t 0 * 1 + 1 * 0 = t.val / 8; rw [h.1]; omega
  | ⟨1, _⟩ => show win0_2.index t 1 * 8 + 1 * r.val = min ((t.val % 8 + 1) * 64) 511 * 8 + r.val; rw [h.2.1]; omega
  | ⟨2, _⟩ => show win0_2.index t 2 * 1024 + 1 * d.val = d.val; rw [h.2.2]; omega

/-- The batch's shift. -/
theorem iblk_shift (c : Dev nD) (t : Fin cfg0.N) (d : Fin 1024) :
    (iblk m c 3 t : Vec Ideal S1x1x1024 .f32) (ix3 0 0 d) = (m ((c : Thread nD τ).loc main_arg1) : FVec Ideal S4x1x1024 .f32) (ix3 (bat t) 0 d) := by
  refine Eq.trans (congrArg (V m c main_arg1) (funext fun a => Fin.ext ?_) : _ = V m c main_arg1 (ix3 (bat t) 0 d)) (congrFun (V_main_arg1 m c) _)
  have h := (index_mod t).1
  match a with
  | ⟨0, _⟩ => show win0_3.index t 0 * 1 + 1 * 0 = t.val / 8; rw [h.1]; omega
  | ⟨1, _⟩ => show win0_3.index t 1 * 1 + 1 * 0 = 0; rw [h.2.1]
  | ⟨2, _⟩ => show win0_3.index t 2 * 1024 + 1 * d.val = d.val; rw [h.2.2]; omega

/-- The batch's scale. -/
theorem iblk_scale (c : Dev nD) (t : Fin cfg0.N) (d : Fin 1024) :
    (iblk m c 4 t : Vec Ideal S1x1x1024 .f32) (ix3 0 0 d) = (m ((c : Thread nD τ).loc main_arg2) : FVec Ideal S4x1x1024 .f32) (ix3 (bat t) 0 d) := by
  refine Eq.trans (congrArg (V m c main_arg2) (funext fun a => Fin.ext ?_) : _ = V m c main_arg2 (ix3 (bat t) 0 d)) (congrFun (V_main_arg2 m c) _)
  have h := (index_mod t).2.1
  match a with
  | ⟨0, _⟩ => show win0_4.index t 0 * 1 + 1 * 0 = t.val / 8; rw [h.1]; omega
  | ⟨1, _⟩ => show win0_4.index t 1 * 1 + 1 * 0 = 0; rw [h.2.1]
  | ⟨2, _⟩ => show win0_4.index t 2 * 1024 + 1 * d.val = d.val; rw [h.2.2]; omega

/-- The batch's gate. -/
theorem iblk_gate (c : Dev nD) (t : Fin cfg0.N) (d : Fin 1024) :
    (iblk m c 5 t : Vec Ideal S1x1x1024 .f32) (ix3 0 0 d) = (m ((c : Thread nD τ).loc main_arg3) : FVec Ideal S4x1x1024 .f32) (ix3 (bat t) 0 d) := by
  refine Eq.trans (congrArg (V m c main_arg3) (funext fun a => Fin.ext ?_) : _ = V m c main_arg3 (ix3 (bat t) 0 d)) (congrFun (V_main_arg3 m c) _)
  have h := (index_mod t).2.2
  match a with
  | ⟨0, _⟩ => show win0_5.index t 0 * 1 + 1 * 0 = t.val / 8; rw [h.1]; omega
  | ⟨1, _⟩ => show win0_5.index t 1 * 1 + 1 * 0 = 0; rw [h.2.1]
  | ⟨2, _⟩ => show win0_5.index t 2 * 1024 + 1 * d.val = d.val; rw [h.2.2]; omega

/-- The first norm's scale. -/
theorem iblk_g (c : Dev nD) (t : Fin cfg0.N) (d : Fin 1024) :
    (iblk m c 6 t : Vec Ideal S1x1024 .f32) (ix2 0 d) = (m ((c : Thread nD τ).loc main_arg4) : FVec Ideal S1024 .f32) (ix1 d) := by
  refine Eq.trans (congrArg (V m c main_v0) (funext fun a => Fin.ext ?_) : _ = V m c main_v0 (ix2 0 d)) (entry_g m c d)
  have h := (index_w t).1
  match a with
  | ⟨0, _⟩ => show win0_6.index t 0 * 1 + 1 * 0 = 0; rw [h.1]
  | ⟨1, _⟩ => show win0_6.index t 1 * 1024 + 1 * d.val = d.val; rw [h.2]; omega

/-- The up-projection's weights. -/
theorem iblk_wu (c : Dev nD) (t : Fin cfg0.N) (d : Fin 1024) (k : Fin 5632) :
    (iblk m c 7 t : Vec Ideal S1024x5632 .bf16) (ix2 d k) = (m ((c : Thread nD τ).loc main_arg5) : FVec Ideal S1024x5632 .f32) (ix2 d k) := by
  refine Eq.trans (congrArg (V m c main_v1) (funext fun a => Fin.ext ?_) : _ = V m c main_v1 (ix2 d k)) (entry_wu m c _)
  have h := (index_w t).2.1
  match a with
  | ⟨0, _⟩ => show win0_7.index t 0 * 1024 + 1 * d.val = d.val; rw [h.1]; omega
  | ⟨1, _⟩ => show win0_7.index t 1 * 5632 + 1 * k.val = k.val; rw [h.2]; omega

/-- The convolution's taps. -/
theorem iblk_cw (c : Dev nD) (t : Fin cfg0.N) (s : Fin 3) (k : Fin 5632) :
    (iblk m c 8 t : Vec Ideal S3x5632 .f32) (ix2 s k) = (m ((c : Thread nD τ).loc main_arg6) : FVec Ideal S3x5632 .f32) (ix2 s k) := by
  refine Eq.trans (congrArg (V m c main_arg6) (funext fun a => Fin.ext ?_) : _ = V m c main_arg6 (ix2 s k)) (congrFun (V_main_arg6 m c) _)
  have h := (index_w t).2.2.1
  match a with
  | ⟨0, _⟩ => show win0_8.index t 0 * 3 + 1 * s.val = s.val; rw [h.1]; omega
  | ⟨1, _⟩ => show win0_8.index t 1 * 5632 + 1 * k.val = k.val; rw [h.2]; omega

/-- The convolution's bias. -/
theorem iblk_cb (c : Dev nD) (t : Fin cfg0.N) (k : Fin 5632) :
    (iblk m c 9 t : Vec Ideal S1x5632 .f32) (ix2 0 k) = (m ((c : Thread nD τ).loc main_arg7) : FVec Ideal S5632 .f32) (ix1 k) := by
  refine Eq.trans (congrArg (V m c main_v4) (funext fun a => Fin.ext ?_) : _ = V m c main_v4 (ix2 0 k)) (entry_cb m c k)
  have h := (index_w t).2.2.2.1
  match a with
  | ⟨0, _⟩ => show win0_9.index t 0 * 1 + 1 * 0 = 0; rw [h.1]
  | ⟨1, _⟩ => show win0_9.index t 1 * 5632 + 1 * k.val = k.val; rw [h.2]; omega

/-- The down-projection's weights. -/
theorem iblk_wd (c : Dev nD) (t : Fin cfg0.N) (j : Fin 2816) (d : Fin 1024) :
    (iblk m c 10 t : Vec Ideal S2816x1024 .bf16) (ix2 j d) = (m ((c : Thread nD τ).loc main_arg8) : FVec Ideal S2816x1024 .f32) (ix2 j d) := by
  refine Eq.trans (congrArg (V m c main_v2) (funext fun a => Fin.ext ?_) : _ = V m c main_v2 (ix2 j d)) (entry_wd m c _)
  have h := (index_w t).2.2.2.2.1
  match a with
  | ⟨0, _⟩ => show win0_10.index t 0 * 2816 + 1 * j.val = j.val; rw [h.1]; omega
  | ⟨1, _⟩ => show win0_10.index t 1 * 1024 + 1 * d.val = d.val; rw [h.2]; omega

/-- The last norm's scale. -/
theorem iblk_f (c : Dev nD) (t : Fin cfg0.N) (d : Fin 1024) :
    (iblk m c 11 t : Vec Ideal S1x1024 .f32) (ix2 0 d) = (m ((c : Thread nD τ).loc main_arg9) : FVec Ideal S1024 .f32) (ix1 d) := by
  refine Eq.trans (congrArg (V m c main_v3) (funext fun a => Fin.ext ?_) : _ = V m c main_v3 (ix2 0 d)) (entry_f m c d)
  have h := (index_w t).2.2.2.2.2
  match a with
  | ⟨0, _⟩ => show win0_11.index t 0 * 1 + 1 * 0 = 0; rw [h.1]
  | ⟨1, _⟩ => show win0_11.index t 1 * 1024 + 1 * d.val = d.val; rw [h.2]; omega

/-- The result's block read from an array. -/
theorem blk_out (A : FVec Ideal S4x4096x1024 .f32) (t : Fin cfg0.N) (r : Fin 512) (d : Fin 1024) :
    (((cfg0.win 12).blk t).view.read (Elt Ideal) A : Vec Ideal S1x512x1024 .f32) (ix3 0 r d) = A (ix3 (bat t) (row t r) d) := by
  refine congrArg A (funext fun a => Fin.ext ?_)
  have h := (index_x t).2
  match a with
  | ⟨0, _⟩ => show win0_12.index t 0 * 1 + 1 * 0 = t.val / 8; rw [h.1]; omega
  | ⟨1, _⟩ => show win0_12.index t 1 * 512 + 1 * r.val = t.val % 8 * 512 + r.val; rw [h.2.1]; omega
  | ⟨2, _⟩ => show win0_12.index t 2 * 1024 + 1 * d.val = d.val; rw [h.2.2]; omega

/-- Every index of the result lies in a block that is written back. -/
theorem cover (i : S4x4096x1024.Idx) : ∃ t : Fin cfg0.N, (cfg0.win 12).flush t = true ∧ i ∈ ((cfg0.win 12).blk t).view.set := by
  have h0 : (i 0).val < 4 := (i 0).isLt
  have h1 : (i 1).val < 4096 := (i 1).isLt
  have h2 : (i 2).val < 1024 := (i 2).isLt
  let t : Fin cfg0.N := ⟨(i 0).val * 8 + (i 1).val / 512, by rw [show cfg0.N = 32 from N_0]; omega⟩
  have ht : t.val = (i 0).val * 8 + (i 1).val / 512 := rfl
  have h := (index_x t).2
  refine ⟨t, flush0_12 t, ?_⟩
  show i ∈ ((View.whole main_v5).slice (win0_12.rect t)).set
  rw [View.set_slice_whole, Rect.mem_set_unit]
  intro a
  match a with
  | ⟨0, _⟩ => show win0_12.index t 0 * 1 ≤ (i 0).val ∧ (i 0).val < win0_12.index t 0 * 1 + 1; rw [h.1]; omega
  | ⟨1, _⟩ => show win0_12.index t 1 * 512 ≤ (i 1).val ∧ (i 1).val < win0_12.index t 1 * 512 + 512; rw [h.2.1]; omega
  | ⟨2, _⟩ => show win0_12.index t 2 * 1024 ≤ (i 2).val ∧ (i 2).val < win0_12.index t 2 * 1024 + 1024; rw [h.2.2]; omega

end Cert.FfnIdeal.Val

end
-- ==== Proof.Ffn.Equal.lean ====
/-
  The last gated MLP call's result array is the reference's normalized MLP of its arguments.
-/
module

public import proofs.«01_k».proof.Proof.Ffn.Meet
public import proofs.«01_k».proof.Proof.Ffn.Blocks

@[expose] public section

noncomputable section

open scoped BigOperators
open Idealize.ShloMosaic Idealize.ShloMosaic.TcCoe Idealize.SL.Sem

namespace Cert.FfnIdeal.Val

open Cert.FfnIdeal Cert.FfnIdeal.Gen Cert.FfnRow
open Cert.FfnRefIdeal.Val (normed mlp)

variable (m : (ℓ : Loc nD τ sig) → Buf (Elt Ideal) ℓ)

/-- The normalized MLP of the arguments device `c` holds. -/
def target (c : Dev nD) : FVec Ideal S4x4096x1024 .f32 :=
  normed (mlp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)))
    (m ((c : Thread nD τ).loc main_arg9))

/-- A point's blocks are those of the arguments. -/
theorem meets (c : Dev nD) (t : Fin cfg0.N) :
    Meets (bat t) ⟨t.val % 8, by omega⟩ (iblk m c 0 t) (iblk m c 1 t) (iblk m c 2 t) (iblk m c 3 t) (iblk m c 4 t) (iblk m c 5 t)
      (iblk m c 6 t) (iblk m c 7 t) (iblk m c 8 t) (iblk m c 9 t) (iblk m c 10 t)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) :=
  ⟨iblk_x m c t, iblk_before m c t, iblk_after m c t, iblk_shift m c t, iblk_scale m c t, iblk_gate m c t, iblk_g m c t,
    iblk_wu m c t, iblk_cw m c t, iblk_cb m c t, iblk_wd m c t⟩

/-- A point's block, read at an index, is the reference's result there. -/
theorem block_eq (c : Dev nD) (t : Fin cfg0.N) (r : Fin 512) (d : Fin 1024) :
    block (F := Ideal) (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (ix3 0 r d)
      = target m c (ix3 (bat t) (row t r) d) := by
  rw [block_apply, target, Cert.FfnRefIdeal.Val.normed_apply]
  refine congrFun (congrArg₂ unit (funext fun e => ?_) (funext fun e => iblk_f m c t e)) d
  exact inner_meets (meets m c t) (grid0.coords t) (coord_eq t) r e

/-- The result array after the run is the normalized MLP of the arguments. -/
theorem final_eq (c : Dev nD) : (dats m 0 c).arrAt 12 cfg0.N = target m c :=
  (dats m 0 c).arrAt_eq_of_cover 12 (target m c) (fun t _ => by
    rw [Value.flushed12_A, out_eq]
    funext (y : S1x512x1024.Idx)
    have hy : y = ix3 (0 : Fin 1) (y 1) (y 2) := funext fun a => by
      match a with
      | ⟨0, _⟩ => exact Fin.ext (by have h : (y 0).val < 1 := (y 0).isLt; show (y 0).val = 0; omega)
      | ⟨1, _⟩ => rfl
      | ⟨2, _⟩ => rfl
    rw [hy]
    exact (block_eq m c t (y 1) (y 2)).trans (blk_out (target m c) t (y 1) (y 2)).symm) cover

end Cert.FfnIdeal.Val

end
-- ==== Proof.Ffn.Claims.lean ====
module

public import proofs.«01_k».proof.Defs
public import proofs.«01_k».proof.Proof.Gen.Ffn.Frame
public import proofs.«01_k».proof.Proof.Gen.FfnIdeal.Frame
public import proofs.«01_k».proof.Proof.Ffn.Equal
public import proofs.«01_k».proof.Proof.Gen.FfnRefIdeal.Run
public import Idealize.ShloMosaic.Adequacy
public import Idealize.ShloMosaic.Init

@[expose] public section

/-!
# The gated MLP call: its claims
-/

noncomputable section

namespace Cert.FfnClaims

open Idealize Idealize.ShloMosaic

/-- The plain gated MLP runs, keeps its arguments, and leaves every semaphore at zero. -/
theorem frame_ref : Cert.quiescent_FfnRefIdeal (hFfnRefIdeal := Cert.FfnRefIdeal.Gen.facts) := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

/-- The kernel and the plain gated MLP end with the same result. -/
theorem equal : Cert.algebraic_FfnIdeal_FfnRefIdeal (hFfnIdeal := Cert.FfnIdeal.Gen.facts)
    (hFfnRefIdeal := Cert.FfnRefIdeal.Gen.facts) := by
  intro m ρ m' ρ' hpre hagree
  refine ⟨fun c => Cert.FfnIdeal.Val.target m c, ?_, ?_⟩
  · exact (θ_run Cert.FfnIdeal.defs _ _).mono
      (fun _ h c => ⟨(h c).1.trans (Cert.FfnIdeal.Val.final_eq m c), (h c).2⟩)
      (Cert.FfnIdeal.Value.run_blocks (F := Ideal) m ρ)
  · refine (θ_run Cert.FfnRefIdeal.defs _ _).mono (fun _ h c => ⟨(h c).1.trans ?_, (h c).2⟩)
      (Cert.FfnRefIdeal.Value.run (F := Ideal) m' ρ')
    obtain ⟨h0, h1, h2, h3, h4, h5, h6, h7, h8, h9⟩ := hagree c
    refine (Cert.FfnRefIdeal.Val.result_eq m' c).trans ?_
    rw [h0, h1, h2, h3, h4, h5, h6, h7, h8, h9]
    rfl

end Cert.FfnClaims
-- ==== Proof.FfnFirst.Body.lean ====
/-
  One grid point's block of the first layer's gated MLP call: what its body leaves in the output window is the residual
  rows plus the gate times the sum of the eleven chunks' contributions, the sum of Ffn/Body.lean.
-/
module

public import proofs.«01_k».proof.Proof.Gen.FfnFirstIdeal.Value
public import proofs.«01_k».proof.Proof.Ffn.Body

@[expose] public section

set_option maxRecDepth 16384

noncomputable section

open Idealize.ShloMosaic Idealize.ShloMosaic.TcCoe Idealize.SL.Sem

namespace Cert.FfnFirstIdeal.Val

open Cert.FfnFirstIdeal Cert.FfnFirstIdeal.Gen
open Cert.FfnIdeal.Val (acc hid load_rows load_whole load_ups load_taps load_bias load_downs)

variable {F : FTy → Type} [FloatOps F]

/-- The block one grid point writes. -/
def block (i : grid0.Coords) (x0 : Vec F S1x512x1024 .f32) (x1 x2 : Vec F S1x8x1024 .f32) (x3 x4 x5 : Vec F S1x1x1024 .f32)
    (x6 : Vec F S1x1024 .f32) (x7 : Vec F S1024x5632 .bf16) (x8 : Vec F S3x5632 .f32) (x9 : Vec F S1x5632 .f32)
    (x10 : Vec F S2816x1024 .bf16) : Vec F S1x512x1024 .f32 :=
  k0_pay1 (k0_pay5 x0) (acc (hid i x0 x1 x2 x3 x4 x6) x7 x8 x9 x10 11) (k0_pay65 x5)

/-- The first chunk's projection is stated over the parts of the rows. -/
theorem first_up (v1 v3 v5 : FVec F S1x1024 .f32) (v7 : FVec F S512x1024 .f32) (v30 : FVec F S8x1024 .f32) (v31 : BitVec 1)
    (v33 : FVec F S8x1024 .f32) (w : Vec F S1024x256 .bf16) :
    k0_pay11 (k0_pay10 v1 v3 v5 v7 v30 v31 v33 w) = k0_pay12 (k0_pay8 v1 v3 v5 v7 v30 v31 v33) w := rfl

/-- The hidden rows, in this call's payloads. -/
theorem hid_eq (i : grid0.Coords) (x0 : Vec F S1x512x1024 .f32) (x1 x2 : Vec F S1x8x1024 .f32) (x3 x4 : Vec F S1x1x1024 .f32)
    (x6 : Vec F S1x1024 .f32) :
    k0_pay8 (k0_pay2 x6) (k0_pay3 x3) (k0_pay4 x4) (k0_pay5 x0) (k0_pay6 i x6 x3 x4 x1)
      (Scalar.cmpi .slt (BitVec.ofNat 32 (i 1).val) 7#32) (k0_pay7 x2) = hid i x0 x1 x2 x3 x4 x6 := rfl

/-- What the body leaves in the output window, on whole staging buffers holding the input blocks. -/
theorem out_eq (c : Dev nD) (i : grid0.Coords)
    (arg2 : Memref sig .tc .vmem S1x512x1024 .f32) (harg2 : arg2.IsWhole)
    (arg3 : Memref sig .tc .vmem S1x8x1024 .f32) (harg3 : arg3.IsWhole)
    (arg4 : Memref sig .tc .vmem S1x8x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1024 .f32) (harg8 : arg8.IsWhole)
    (arg9 : Memref sig .tc .vmem S1024x5632 .bf16) (harg9 : arg9.IsWhole)
    (arg10 : Memref sig .tc .vmem S3x5632 .f32) (harg10 : arg10.IsWhole)
    (arg11 : Memref sig .tc .vmem S1x5632 .f32) (harg11 : arg11.IsWhole)
    (arg12 : Memref sig .tc .vmem S2816x1024 .bf16) (harg12 : arg12.IsWhole)
    (arg13 : Memref sig .tc .vmem S1x1024 .f32) (harg13 : arg13.IsWhole)
    (arg14 : Memref sig .tc .vmem S1x512x1024 .f32) (harg14 : arg14.IsWhole)
    (arg15 : Memref sig .tc .vmem S528x256 .f32) (harg15 : arg15.IsWhole)
    (arg16 : Memref sig .tc .vmem S528x256 .f32) (harg16 : arg16.IsWhole)
    (x0 : Vec F S1x512x1024 .f32) (x1 : Vec F S1x8x1024 .f32) (x2 : Vec F S1x8x1024 .f32) (x3 : Vec F S1x1x1024 .f32) (x4 : Vec F S1x1x1024 .f32) (x5 : Vec F S1x1x1024 .f32) (x6 : Vec F S1x1024 .f32) (x7 : Vec F S1024x5632 .bf16) (x8 : Vec F S3x5632 .f32) (x9 : Vec F S1x5632 .f32) (x10 : Vec F S2816x1024 .bf16) (x11 : Vec F S1x1024 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 = block i x0 x1 x2 x3 x4 x5 x6 x7 x8 x9 x10 := by
  unfold out0_A_12
  rw [View.read_writes_eq_canon _ _ _ (fun y => cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y)]
  unfold kernelRun0_A
  dsimp only
  sl_unfold_words
  simp only [↓load_rows, ↓load_whole, ↓load_ups, ↓load_taps, ↓load_bias, ↓load_downs]
  have hz : (![0, 0, 0] : Fin 3 → ℕ) = fun _ => 0 := by funext a; fin_cases a <;> rfl
  refine (View.canon_cons_unit_zero (Val := Elt F) (e := .f32) (S := S1x512x1024) hz inb_S1x512x1024_S1x512x1024_0_0_0 _ []).trans ?_
  rw [first_up]
  rw [hid_eq]
  unfold block
  generalize hid i x0 x1 x2 x3 x4 x6 = h
  rfl

end Cert.FfnFirstIdeal.Val

end
-- ==== Proof.FfnFirst.Equal.lean ====
/-
  The first layer's gated MLP call: its result array is the reference's gated MLP of its arguments. Its launch stages the
  same blocks at the same points as the last layer's call, so where each block lies is read from Ffn/Blocks.lean.
-/
module

public import proofs.«01_k».proof.Proof.Ffn.Equal
public import proofs.«01_k».proof.Proof.FfnFirst.Body

@[expose] public section

noncomputable section

open scoped BigOperators
open Idealize.ShloMosaic Idealize.ShloMosaic.TcCoe Idealize.SL.Sem

namespace Cert.FfnFirstIdeal.Val

open Cert.FfnFirstIdeal Cert.FfnFirstIdeal.Gen
open Cert.FfnIdeal.Val (acc hid Meets bat row inner_meets coord_eq)
open Cert.FfnRefIdeal.Val (mlp)

variable (m : (ℓ : Loc nD τ sig) → Buf (Elt Ideal) ℓ)

/-- The gated MLP of the arguments device `c` holds. -/
def target (c : Dev nD) : FVec Ideal S4x4096x1024 .f32 :=
  mlp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- A point's blocks are those of the arguments. -/
theorem meets (c : Dev nD) (t : Fin cfg0.N) :
    Meets (bat t) ⟨t.val % 8, by omega⟩ (iblk m c 0 t) (iblk m c 1 t) (iblk m c 2 t) (iblk m c 3 t) (iblk m c 4 t) (iblk m c 5 t)
      (iblk m c 6 t) (iblk m c 7 t) (iblk m c 8 t) (iblk m c 9 t) (iblk m c 10 t)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) :=
  Cert.FfnIdeal.Val.meets m c t

/-- The closing payload: the residual rows plus the gated sum. -/
theorem close_apply (x s g : FVec Ideal S512x1024 .f32) (r : Fin 512) (d : Fin 1024) :
    k0_pay1 x s g (ix3 0 r d) = x (ix2 r d) + g (ix2 r d) * s (ix2 r d) := by
  pointwise [k0_pay1]

/-- A point's block, read at an index, is the reference's result there. -/
theorem block_eq (c : Dev nD) (t : Fin cfg0.N) (r : Fin 512) (d : Fin 1024) :
    block (F := Ideal) (grid0.coords t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (ix3 0 r d)
      = target m c (ix3 (bat t) (row t r) d) := by
  rw [block, close_apply]
  exact inner_meets (meets m c t) (grid0.coords t) (coord_eq t) r d

/-- The result array after the run is the gated MLP of the arguments. -/
theorem final_eq (c : Dev nD) : (dats m 0 c).arrAt 12 cfg0.N = target m c :=
  (dats m 0 c).arrAt_eq_of_cover 12 (target m c) (fun t _ => by
    rw [Value.flushed12_A, out_eq]
    funext (y : S1x512x1024.Idx)
    have hy : y = ix3 (0 : Fin 1) (y 1) (y 2) := funext fun a => by
      match a with
      | ⟨0, _⟩ => exact Fin.ext (by have h : (y 0).val < 1 := (y 0).isLt; show (y 0).val = 0; omega)
      | ⟨1, _⟩ => rfl
      | ⟨2, _⟩ => rfl
    rw [hy]
    exact (block_eq m c t (y 1) (y 2)).trans (Cert.FfnIdeal.Val.blk_out (target m c) t (y 1) (y 2)).symm)
    Cert.FfnIdeal.Val.cover

end Cert.FfnFirstIdeal.Val

end
-- ==== Proof.FfnFirst.Reference.lean ====
/-
  The first layer's plain gated MLP: its program computes the gated MLP of Ffn/Reference.lean, without the last norm.
-/
module

public import proofs.«01_k».proof.Proof.Gen.FfnFirstRefIdeal.Run
public import proofs.«01_k».proof.Proof.Ffn.Reference

@[expose] public section

noncomputable section

open Idealize.ShloMosaic Idealize.ShloMosaic.TcCoe Idealize.SL.Sem

namespace Cert.FfnFirstRefIdeal.Val

open Cert.FfnFirstRefIdeal Cert.FfnFirstRefIdeal.Value
open Cert.FfnRefIdeal.Val (mlp)

/-- The program's result is the gated MLP of its arguments. -/
theorem result_eq (m : (ℓ : Loc nD τ sig) → Buf (Elt Ideal) ℓ) (c : Dev nD) :
    res_out0 m c = mlp (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  show res_main_v51 m c = _
  unfold res_main_v51
  rfl

end Cert.FfnFirstRefIdeal.Val

end
-- ==== Proof.FfnFirst.Claims.lean ====
module

public import proofs.«01_k».proof.Defs
public import proofs.«01_k».proof.Proof.Gen.FfnFirst.Frame
public import proofs.«01_k».proof.Proof.Gen.FfnFirstIdeal.Frame
public import proofs.«01_k».proof.Proof.FfnFirst.Equal
public import proofs.«01_k».proof.Proof.FfnFirst.Reference
public import Idealize.ShloMosaic.Adequacy
public import Idealize.ShloMosaic.Init

@[expose] public section

/-!
# The first gated MLP call: its claims
-/

noncomputable section

namespace Cert.FfnFirstClaims

open Idealize Idealize.ShloMosaic

/-- The plain gated MLP of the first layer runs, keeps its arguments, and leaves every semaphore at zero. -/
theorem frame_ref : Cert.quiescent_FfnFirstRefIdeal (hFfnFirstRefIdeal := Cert.FfnFirstRefIdeal.Gen.facts) := fun m ρ _ =>
  (θ_run Cert.FfnFirstRefIdeal.defs _ _).mono
    (fun r h => ⟨fun c => (h c).2, Idealize.ShloMosaic.sem_eq_zero_of_no_sems (by decide) r.2⟩)
    (Cert.FfnFirstRefIdeal.Value.run (F := Ideal) m ρ)

/-- The first gated MLP call and the plain gated MLP end with the same result. -/
theorem equal : Cert.algebraic_FfnFirstIdeal_FfnFirstRefIdeal (hFfnFirstIdeal := Cert.FfnFirstIdeal.Gen.facts)
    (hFfnFirstRefIdeal := Cert.FfnFirstRefIdeal.Gen.facts) := by
  intro m ρ m' ρ' hpre hagree
  refine ⟨fun c => Cert.FfnFirstIdeal.Val.target m c, ?_, ?_⟩
  · exact (θ_run Cert.FfnFirstIdeal.defs _ _).mono
      (fun _ h c => ⟨(h c).1.trans (Cert.FfnFirstIdeal.Val.final_eq m c), (h c).2⟩)
      (Cert.FfnFirstIdeal.Value.run_blocks (F := Ideal) m ρ)
  · refine (θ_run Cert.FfnFirstRefIdeal.defs _ _).mono (fun _ h c => ⟨(h c).1.trans ?_, (h c).2⟩)
      (Cert.FfnFirstRefIdeal.Value.run (F := Ideal) m' ρ')
    obtain ⟨h0, h1, h2, h3, h4, h5, h6, h7, h8, -⟩ := hagree c
    refine (Cert.FfnFirstRefIdeal.Val.result_eq m' c).trans ?_
    rw [h0, h1, h2, h3, h4, h5, h6, h7, h8]
    rfl

end Cert.FfnFirstClaims
-- ==== Proof.OutProj.Blocks.lean ====
/-
  The output projection's launch: what its body leaves at an index, where each window's block lies at a grid point (the
  batch `t / 4`, the row block `t mod 4`), and the blocks of the result covering it.
-/
module

public import proofs.«01_k».proof.Proof.Gen.OutProjIdeal.Value
public import Idealize.ShloMosaic.Lib.Pointwise
public import Idealize.ShloMosaic.Lib.Tactic
public import Idealize.ShloMosaic.Lib.VecWindow

@[expose] public section

noncomputable section

open scoped BigOperators
open Idealize.ShloMosaic Idealize.ShloMosaic.TcCoe Idealize.SL.Sem

namespace Cert.OutProjIdeal.Val

open Cert.OutProjIdeal Cert.OutProjIdeal.Gen

variable (m : (ℓ : Loc nD τ sig) → Buf (Elt Ideal) ℓ)

/-- The closing payload: the residual row plus the gate times the two halves' products. -/
theorem pay1_apply (a : Vec Ideal S1x1024x512 .bf16) (wa : Vec Ideal S512x1024 .bf16) (b : Vec Ideal S1x1024x512 .bf16)
    (wb : Vec Ideal S512x1024 .bf16) (x : Vec Ideal S1x1024x1024 .f32) (g : Vec Ideal S1x1x1024 .f32) (r d : Fin 1024) :
    k0_pay1 a wa b wb x g (ix3 0 r d) = x (ix3 0 r d) + g (ix3 0 0 d)
      * ((∑ j : Fin 512, a (ix3 0 r j) * wa (ix2 j d)) + ∑ j : Fin 512, b (ix3 0 r j) * wb (ix2 j d)) := by
  pointwise [k0_pay1]

/-- What the body leaves in the output window, at an index. -/
theorem out_apply (x : Vec Ideal S1x1024x1024 .f32) (a b : Vec Ideal S1x1024x512 .bf16) (w : Vec Ideal S1024x1024 .bf16)
    (g : Vec Ideal S1x1x1024 .f32) (r d : Fin 1024) :
    out0_5 x a b w g (ix3 0 r d) = x (ix3 0 r d) + g (ix3 0 0 d)
      * ((∑ j : Fin 512, a (ix3 0 r j) * w (ix2 ⟨j.val, by omega⟩ d)) + ∑ j : Fin 512, b (ix3 0 r j) * w (ix2 ⟨512 + j.val, by omega⟩ d)) := by
  have hz : (![0, 0, 0] : Fin 3 → ℕ) = fun _ => 0 := by funext a; fin_cases a <;> rfl
  unfold out0_5
  rw [show View.canon (Val := Elt Ideal) [⟨r0_3, k0_pay1 (View.ld a r0_0) (View.ld w r0_1) (View.ld b r0_0) (View.ld w r0_2) (View.ld x r0_3) (View.ld g r0_4)⟩] = _
    from View.canon_cons_unit_zero (Val := Elt Ideal) (e := .f32) (S := S1x1024x1024) hz inb_S1x1024x1024_S1x1024x1024_0_0_0 _ [], pay1_apply]
  have ha : ∀ (v : Vec Ideal S1x1024x512 .bf16) (j : Fin 512), View.ld v r0_0 (ix3 0 r j) = v (ix3 0 r j) := fun v j =>
    congrArg v (funext fun k => Fin.ext (by
      match k with
      | ⟨0, _⟩ => rfl
      | ⟨1, _⟩ => show 0 + 1 * r.val = r.val; omega
      | ⟨2, _⟩ => show 0 + 1 * j.val = j.val; omega))
  have h1 : ∀ j : Fin 512, View.ld w r0_1 (ix2 j d) = w (ix2 ⟨j.val, by omega⟩ d) := fun j =>
    congrArg w (funext fun k => Fin.ext (by
      match k with
      | ⟨0, _⟩ => show 0 + 1 * j.val = j.val; omega
      | ⟨1, _⟩ => show 0 + 1 * d.val = d.val; omega))
  have h2 : ∀ j : Fin 512, View.ld w r0_2 (ix2 j d) = w (ix2 ⟨512 + j.val, by omega⟩ d) := fun j =>
    congrArg w (funext fun k => Fin.ext (by
      match k with
      | ⟨0, _⟩ => show 512 + 1 * j.val = 512 + j.val; omega
      | ⟨1, _⟩ => show 0 + 1 * d.val = d.val; omega))
  have h3 : View.ld x r0_3 (ix3 0 r d) = x (ix3 0 r d) :=
    congrArg x (funext fun k => Fin.ext (by
      match k with
      | ⟨0, _⟩ => rfl
      | ⟨1, _⟩ => show 0 + 1 * r.val = r.val; omega
      | ⟨2, _⟩ => show 0 + 1 * d.val = d.val; omega))
  have h4 : View.ld g r0_4 (ix3 0 0 d) = g (ix3 0 0 d) :=
    congrArg g (funext fun k => Fin.ext (by
      match k with
      | ⟨0, _⟩ => rfl
      | ⟨1, _⟩ => rfl
      | ⟨2, _⟩ => show 0 + 1 * d.val = d.val; omega))
  rw [h3, h4]
  refine congrArg (fun s => _ + _ * s) (congrArg₂ (· + ·) (Finset.sum_congr rfl fun j _ => ?_) (Finset.sum_congr rfl fun j _ => ?_))
  · rw [ha, h1]
  · rw [ha, h2]

/-- The projection's weights. -/
theorem entry_w (c : Dev nD) (i : S1024x1024.Idx) :
    (V m c main_v0 : FVec Ideal S1024x1024 .bf16) i = (m ((c : Thread nD τ).loc main_arg3) : FVec Ideal S1024x1024 .f32) i := by
  have e : (V m c main_v0 : FVec Ideal S1024x1024 .bf16) = (truncf (F := Ideal) (s := S1024x1024) .bf16 (m ((c : Thread nD τ).loc main_arg3) : FVec Ideal S1024x1024 .f32) bitsLt_bf16_f32 : FVec Ideal S1024x1024 .bf16) := by
    show StableHlo.after hostOps0 _ (Proc.devRef .tc main_v0) = _
    after_results
  rw [e]
  rfl

/-- The grid has 16 points. -/
theorem point_lt (t : Fin cfg0.N) : t.val < 16 := lt_of_lt_of_eq t.isLt N_0

/-- The batch of a point and the rows of its block. -/
def bat (t : Fin cfg0.N) : Fin 4 := ⟨t.val / 4, by have := point_lt t; omega⟩
def row (t : Fin cfg0.N) (r : Fin 1024) : Fin 4096 := ⟨t.val % 4 * 1024 + r.val, by omega⟩

/-- The block indices of the windows that move along the rows. -/
theorem index_row : ∀ t : Fin cfg0.N,
    (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0)
    ∧ (win0_5.index t 0 = t.val / 4 ∧ win0_5.index t 1 = t.val % 4 ∧ win0_5.index t 2 = 0) :=
  (by decide +kernel : ∀ t : Fin grid0.N,
    (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0)
    ∧ (win0_5.index t 0 = t.val / 4 ∧ win0_5.index t 1 = t.val % 4 ∧ win0_5.index t 2 = 0))

/-- The block indices of the weights' window and of the gate's. -/
theorem index_rest : ∀ t : Fin cfg0.N, (win0_3.index t 0 = 0 ∧ win0_3.index t 1 = 0)
    ∧ (win0_4.index t 0 = t.val / 4 ∧ win0_4.index t 1 = 0 ∧ win0_4.index t 2 = 0) :=
  (by decide +kernel : ∀ t : Fin grid0.N, (win0_3.index t 0 = 0 ∧ win0_3.index t 1 = 0)
    ∧ (win0_4.index t 0 = t.val / 4 ∧ win0_4.index t 1 = 0 ∧ win0_4.index t 2 = 0))

/-- The residual rows. -/
theorem iblk_x (c : Dev nD) (t : Fin cfg0.N) (r : Fin 1024) (d : Fin 1024) :
    (iblk m c 0 t : Vec Ideal S1x1024x1024 .f32) (ix3 0 r d) = (m ((c : Thread nD τ).loc main_arg0) : FVec Ideal S4x4096x1024 .f32) (ix3 (bat t) (row t r) d) := by
  refine Eq.trans (congrArg (V m c main_arg0) (funext fun a => Fin.ext ?_) : _ = V m c main_arg0 (ix3 (bat t) (row t r) d)) (congrFun (V_main_arg0 m c) _)
  have h := (index_row t).1
  match a with
  | ⟨0, _⟩ => show win0_0.index t 0 * 1 + 1 * 0 = t.val / 4; rw [h.1]; omega
  | ⟨1, _⟩ => show win0_0.index t 1 * 1024 + 1 * r.val = t.val % 4 * 1024 + r.val; rw [h.2.1]; omega
  | ⟨2, _⟩ => show win0_0.index t 2 * 1024 + 1 * d.val = d.val; rw [h.2.2]; omega

/-- The rows of the first attention's output. -/
theorem iblk_a (c : Dev nD) (t : Fin cfg0.N) (r : Fin 1024) (j : Fin 512) :
    (iblk m c 1 t : Vec Ideal S1x1024x512 .bf16) (ix3 0 r j) = (m ((c : Thread nD τ).loc main_arg1) : FVec Ideal S4x4096x512 .bf16) (ix3 (bat t) (row t r) j) := by
  refine Eq.trans (congrArg (V m c main_arg1) (funext fun a => Fin.ext ?_) : _ = V m c main_arg1 (ix3 (bat t) (row t r) j)) (congrFun (V_main_arg1 m c) _)
  have h := (index_row t).2.1
  match a with
  | ⟨0, _⟩ => show win0_1.index t 0 * 1 + 1 * 0 = t.val / 4; rw [h.1]; omega
  | ⟨1, _⟩ => show win0_1.index t 1 * 1024 + 1 * r.val = t.val % 4 * 1024 + r.val; rw [h.2.1]; omega
  | ⟨2, _⟩ => show win0_1.index t 2 * 512 + 1 * j.val = j.val; rw [h.2.2]; omega

/-- The rows of the second attention's output. -/
theorem iblk_b (c : Dev nD) (t : Fin cfg0.N) (r : Fin 1024) (j : Fin 512) :
    (iblk m c 2 t : Vec Ideal S1x1024x512 .bf16) (ix3 0 r j) = (m ((c : Thread nD τ).loc main_arg2) : FVec Ideal S4x4096x512 .bf16) (ix3 (bat t) (row t r) j) := by
  refine Eq.trans (congrArg (V m c main_arg2) (funext fun a => Fin.ext ?_) : _ = V m c main_arg2 (ix3 (bat t) (row t r) j)) (congrFun (V_main_arg2 m c) _)
  have h := (index_row t).2.2.1
  match a with
  | ⟨0, _⟩ => show win0_2.index t 0 * 1 + 1 * 0 = t.val / 4; rw [h.1]; omega
  | ⟨1, _⟩ => show win0_2.index t 1 * 1024 + 1 * r.val = t.val % 4 * 1024 + r.val; rw [h.2.1]; omega
  | ⟨2, _⟩ => show win0_2.index t 2 * 512 + 1 * j.val = j.val; rw [h.2.2]; omega

/-- The weights. -/
theorem iblk_w (c : Dev nD) (t : Fin cfg0.N) (k d : Fin 1024) :
    (iblk m c 3 t : Vec Ideal S1024x1024 .bf16) (ix2 k d) = (m ((c : Thread nD τ).loc main_arg3) : FVec Ideal S1024x1024 .f32) (ix2 k d) := by
  refine Eq.trans (congrArg (V m c main_v0) (funext fun a => Fin.ext ?_) : _ = V m c main_v0 (ix2 k d)) (entry_w m c _)
  have h := (index_rest t).1
  match a with
  | ⟨0, _⟩ => show win0_3.index t 0 * 1024 + 1 * k.val = k.val; rw [h.1]; omega
  | ⟨1, _⟩ => show win0_3.index t 1 * 1024 + 1 * d.val = d.val; rw [h.2]; omega

/-- The batch's gate. -/
theorem iblk_g (c : Dev nD) (t : Fin cfg0.N) (d : Fin 1024) :
    (iblk m c 4 t : Vec Ideal S1x1x1024 .f32) (ix3 0 0 d) = (m ((c : Thread nD τ).loc main_arg4) : FVec Ideal S4x1x1024 .f32) (ix3 (bat t) 0 d) := by
  refine Eq.trans (congrArg (V m c main_arg4) (funext fun a => Fin.ext ?_) : _ = V m c main_arg4 (ix3 (bat t) 0 d)) (congrFun (V_main_arg4 m c) _)
  have h := (index_rest t).2
  match a with
  | ⟨0, _⟩ => show win0_4.index t 0 * 1 + 1 * 0 = t.val / 4; rw [h.1]; omega
  | ⟨1, _⟩ => show win0_4.index t 1 * 1 + 1 * 0 = 0; rw [h.2.1]
  | ⟨2, _⟩ => show win0_4.index t 2 * 1024 + 1 * d.val = d.val; rw [h.2.2]; omega

/-- The result's block read from an array. -/
theorem blk_out (A : FVec Ideal S4x4096x1024 .f32) (t : Fin cfg0.N) (r : Fin 1024) (d : Fin 1024) :
    (((cfg0.win 5).blk t).view.read (Elt Ideal) A : Vec Ideal S1x1024x1024 .f32) (ix3 0 r d) = A (ix3 (bat t) (row t r) d) := by
  refine congrArg A (funext fun a => Fin.ext ?_)
  have h := (index_row t).2.2.2
  match a with
  | ⟨0, _⟩ => show win0_5.index t 0 * 1 + 1 * 0 = t.val / 4; rw [h.1]; omega
  | ⟨1, _⟩ => show win0_5.index t 1 * 1024 + 1 * r.val = t.val % 4 * 1024 + r.val; rw [h.2.1]; omega
  | ⟨2, _⟩ => show win0_5.index t 2 * 1024 + 1 * d.val = d.val; rw [h.2.2]; omega

/-- Every index of the result lies in a block that is written back. -/
theorem cover (i : S4x4096x1024.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 1024 := (i 2).isLt
  let t : Fin cfg0.N := ⟨(i 0).val * 4 + (i 1).val / 1024, by rw [show cfg0.N = 16 from N_0]; omega⟩
  have ht : t.val = (i 0).val * 4 + (i 1).val / 1024 := rfl
  have h := (index_row t).2.2.2
  refine ⟨t, flush0_5 t, ?_⟩
  show i ∈ ((View.whole main_v1).slice (win0_5.rect t)).set
  rw [View.set_slice_whole, Rect.mem_set_unit]
  intro a
  match a with
  | ⟨0, _⟩ => show win0_5.index t 0 * 1 ≤ (i 0).val ∧ (i 0).val < win0_5.index t 0 * 1 + 1; rw [h.1]; omega
  | ⟨1, _⟩ => show win0_5.index t 1 * 1024 ≤ (i 1).val ∧ (i 1).val < win0_5.index t 1 * 1024 + 1024; rw [h.2.1]; omega
  | ⟨2, _⟩ => show win0_5.index t 2 * 1024 ≤ (i 2).val ∧ (i 2).val < win0_5.index t 2 * 1024 + 1024; rw [h.2.2]; omega

end Cert.OutProjIdeal.Val

end
-- ==== Proof.OutProj.Equal.lean ====
/-
  The output projection's result array is the reference's: the plain program multiplies the two attentions' outputs,
  joined, by the weights, and a sum over the joined columns is the sum over the first half and that over the second.
-/
module

public import proofs.«01_k».proof.Proof.OutProj.Blocks
public import proofs.«01_k».proof.Proof.Gen.OutProjRefIdeal.Run

@[expose] public section

noncomputable section

open scoped BigOperators
open Idealize.ShloMosaic Idealize.ShloMosaic.TcCoe Idealize.SL.Sem

namespace Cert.OutProjRefIdeal.Val

open Cert.OutProjRefIdeal Cert.OutProjRefIdeal.Gen

/-- The plain program's result, of the residual stream, both attentions' outputs, the weights and the gate. -/
def plain (x : FVec Ideal S4x4096x1024 .f32) (a b : FVec Ideal S4x4096x512 .bf16) (w : FVec Ideal S1024x1024 .f32)
    (g : FVec Ideal S4x1x1024 .f32) : FVec Ideal S4x4096x1024 .f32 :=
  addf x (mulf (broadcastInDim S4x4096x1024 ![0, 1, 2] bcast_S4x1x1024_S4x4096x1024_0_1_2 g)
    (Host.dotGeneral dot_S4x4096x1024_S1024x1024_S4x4096x1024_2_0_01_1_n_n none
      (concatenate S4x4096x1024 2 [⟨S4x4096x512, (extf .f32 a bitsLt_bf16_f32)⟩, ⟨S4x4096x512, (extf .f32 b bitsLt_bf16_f32)⟩]
        concatenates_S4x4096x512_S4x4096x512_S4x4096x1024_d2) w))

/-- The joined outputs at an index. -/
theorem joined_apply (a b : FVec Ideal S4x4096x512 .bf16) (p : Fin 4) (n : Fin 4096) (k : Fin 1024) :
    (concatenate S4x4096x1024 2 [⟨S4x4096x512, (extf .f32 a bitsLt_bf16_f32)⟩, ⟨S4x4096x512, (extf .f32 b bitsLt_bf16_f32)⟩]
        concatenates_S4x4096x512_S4x4096x512_S4x4096x1024_d2 : FVec Ideal S4x4096x1024 .f32) (ix3 p n k)
      = if h : k.val < 512 then a (ix3 p n ⟨k.val, h⟩) else b (ix3 p n ⟨k.val - 512, by omega⟩) := by
  pointwise []

/-- The plain program's result at an index. -/
theorem plain_apply (x : FVec Ideal S4x4096x1024 .f32) (a b : FVec Ideal S4x4096x512 .bf16) (w : FVec Ideal S1024x1024 .f32)
    (g : FVec Ideal S4x1x1024 .f32) (p : Fin 4) (n : Fin 4096) (d : Fin 1024) :
    plain x a b w g (ix3 p n d) = x (ix3 p n d) + g (ix3 p 0 d)
      * ((∑ j : Fin 512, a (ix3 p n j) * w (ix2 ⟨j.val, by omega⟩ d)) + ∑ j : Fin 512, b (ix3 p n j) * w (ix2 ⟨512 + j.val, by omega⟩ d)) := by
  unfold plain
  generalize hj : (concatenate S4x4096x1024 2 [⟨S4x4096x512, (extf .f32 a bitsLt_bf16_f32)⟩, ⟨S4x4096x512, (extf .f32 b bitsLt_bf16_f32)⟩]
        concatenates_S4x4096x512_S4x4096x512_S4x4096x1024_d2 : FVec Ideal S4x4096x1024 .f32) = u
  have hu : ∀ k : Fin 1024, u (ix3 p n k) = if h : k.val < 512 then a (ix3 p n ⟨k.val, h⟩) else b (ix3 p n ⟨k.val - 512, by omega⟩) :=
    fun k => hj ▸ joined_apply a b p n k
  pointwise []
  refine congrArg (fun s => x (ix3 p n d) + g (ix3 p 0 d) * s) ?_
  refine (Fin.sum_univ_add (a := 512) (b := 512) fun k : Fin 1024 => u (ix3 p n k) * w (ix2 k d)).trans ?_
  refine congrArg₂ (· + ·) (Finset.sum_congr rfl fun j _ => ?_) (Finset.sum_congr rfl fun j _ => ?_)
  · rw [hu, dif_pos (show (Fin.castAdd 512 j).val < 512 from j.isLt)]
    rfl
  · rw [hu, dif_neg (show ¬ (Fin.natAdd 512 j).val < 512 from by show ¬ 512 + j.val < 512; omega)]
    refine congrArg₂ (· * ·) (congrArg (fun q : Fin 512 => b (ix3 p n q)) (Fin.ext ?_)) rfl
    show 512 + j.val - 512 = j.val
    omega

end Cert.OutProjRefIdeal.Val

namespace Cert.OutProjIdeal.Val

open Cert.OutProjIdeal Cert.OutProjIdeal.Gen
open Cert.OutProjRefIdeal.Val (plain plain_apply)

variable (m : (ℓ : Loc nD τ sig) → Buf (Elt Ideal) ℓ)

/-- The plain result of the arguments device `c` holds. -/
def target (c : Dev nD) : FVec Ideal S4x4096x1024 .f32 :=
  plain (m ((c : Thread nD τ).loc main_arg0)) (m ((c : Thread nD τ).loc main_arg1)) (m ((c : Thread nD τ).loc main_arg2))
    (m ((c : Thread nD τ).loc main_arg3)) (m ((c : Thread nD τ).loc main_arg4))

/-- A gated sum of two sums, each replaced. -/
theorem gated_congr {x g a a' b b' : EReal} (ha : a = a') (hb : b = b') : x + g * (a + b) = x + g * (a' + b') := by
  rw [ha, hb]

/-- A point's block, read at an index, is the plain result there. -/
theorem block_eq (c : Dev nD) (t : Fin cfg0.N) (r d : Fin 1024) :
    out0_5 (iblk m c 0 t) (iblk m c 1 t) (iblk m c 2 t) (iblk m c 3 t) (iblk m c 4 t) (ix3 0 r d)
      = target m c (ix3 (bat t) (row t r) d) := by
  rw [out_apply, target, plain_apply, iblk_x, iblk_g]
  refine gated_congr (Finset.sum_congr rfl fun j _ => ?_) (Finset.sum_congr rfl fun j _ => ?_)
  · rw [iblk_a, iblk_w]
  · rw [iblk_b, iblk_w]

/-- The result array after the run is the plain result of the arguments. -/
theorem final_eq (c : Dev nD) : (dats m 0 c).arrAt 5 cfg0.N = target m c :=
  (dats m 0 c).arrAt_eq_of_cover 5 (target m c) (fun t _ => by
    rw [Value.flushed5]
    funext (y : S1x1024x1024.Idx)
    have hy : y = ix3 (0 : Fin 1) (y 1) (y 2) := funext fun a => by
      match a with
      | ⟨0, _⟩ => exact Fin.ext (by have h : (y 0).val < 1 := (y 0).isLt; show (y 0).val = 0; omega)
      | ⟨1, _⟩ => rfl
      | ⟨2, _⟩ => rfl
    rw [hy]
    exact (block_eq m c t (y 1) (y 2)).trans (blk_out (target m c) t (y 1) (y 2)).symm) cover

end Cert.OutProjIdeal.Val

end
-- ==== Proof.OutProj.Claims.lean ====
module

public import proofs.«01_k».proof.Defs
public import proofs.«01_k».proof.Proof.Gen.OutProj.Frame
public import proofs.«01_k».proof.Proof.Gen.OutProjIdeal.Frame
public import proofs.«01_k».proof.Proof.OutProj.Equal
public import Idealize.ShloMosaic.Adequacy
public import Idealize.ShloMosaic.Init

@[expose] public section

/-!
# The attention's output projection: its claims
-/

noncomputable section

namespace Cert.OutProjClaims

open Idealize Idealize.ShloMosaic

/-- The plain output projection runs, keeps its arguments, and leaves every semaphore at zero. -/
theorem frame_ref : Cert.quiescent_OutProjRefIdeal (hOutProjRefIdeal := Cert.OutProjRefIdeal.Gen.facts) := fun m ρ _ =>
  (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

/-- The kernel's output projection and the plain one end with the same result. -/
theorem equal : Cert.algebraic_OutProjIdeal_OutProjRefIdeal (hOutProjIdeal := Cert.OutProjIdeal.Gen.facts)
    (hOutProjRefIdeal := Cert.OutProjRefIdeal.Gen.facts) := by
  intro m ρ m' ρ' hpre hagree
  refine ⟨fun c => Cert.OutProjIdeal.Val.target m c, ?_, ?_⟩
  · exact (θ_run Cert.OutProjIdeal.defs _ _).mono
      (fun _ h c => ⟨(h c).1.trans (Cert.OutProjIdeal.Val.final_eq m c), (h c).2⟩)
      (Cert.OutProjIdeal.Value.run_blocks (F := Ideal) m ρ)
  · refine (θ_run Cert.OutProjRefIdeal.defs _ _).mono (fun _ h c => ⟨(h c).1.trans ?_, (h c).2⟩)
      (Cert.OutProjRefIdeal.Value.run (F := Ideal) m' ρ')
    obtain ⟨h0, h1, h2, h3, h4⟩ := hagree c
    rw [h0, h1, h2, h3, h4]
    rfl

end Cert.OutProjClaims
-- ==== Proof.AdaLn.Equal.lean ====
/-
  The modulation vectors' call: its result array is the reference's, for every layer a silu'd conditioning vector times the
  layer's weights plus its bias.
-/
module

public import proofs.«01_k».proof.Proof.Gen.AdaLnIdeal.Value
public import proofs.«01_k».proof.Proof.Gen.AdaLnRefIdeal.Run
public import Idealize.ShloMosaic.Lib.Pointwise
public import Idealize.ShloMosaic.Lib.Tactic
public import Idealize.ShloMosaic.Lib.VecWindow
public import Idealize.ShloMosaic.Lib.ValueLayout
public import proofs.«01_k».proof.Proof.Ffn.Row

@[expose] public section

noncomputable section

open scoped BigOperators
open Idealize.ShloMosaic Idealize.ShloMosaic.TcCoe Idealize.SL.Sem

namespace Cert.AdaLnRefIdeal.Val

open Cert.AdaLnRefIdeal Cert.AdaLnRefIdeal.Gen Cert.FfnRow

/-- The plain program's activation. -/
def act (v : FVec Ideal S8x1024 .f32) : FVec Ideal S8x1024 .f32 :=
  mulf v (Host.divf (broadcastInDim S8x1024 ![] bcast_S_S8x1024 (constant S_ .f32 0x3F800000#32))
    (addf (broadcastInDim S8x1024 ![] bcast_S_S8x1024 (constant S_ .f32 0x3F800000#32)) (Host.exp (Host.negf v))))

/-- The plain program's result, of the conditioning vectors, the weights and the biases. -/
def plain (v : FVec Ideal S8x1024 .f32) (w : FVec Ideal S2x1024x6144 .f32) (b : FVec Ideal S2x6144 .f32) : FVec Ideal S2x8x6144 .f32 :=
  addf (transpose S2x8x6144 [0, 2, 1] (Host.dotGeneral dot_S2x1024x6144_S8x1024_S2x6144x8_1_1_02_0_n_n none w (act v))
      transposes_S2x6144x8_S2x8x6144_0_2_1)
    (broadcastInDim S2x8x6144 ![0, 1, 2] bcast_S2x1x6144_S2x8x6144_0_1_2 (broadcastInDim S2x1x6144 ![0, 2] bcast_S2x6144_S2x1x6144_0_2 b))

/-- The activation at an index. -/
theorem act_apply (v : FVec Ideal S8x1024 .f32) (p : Fin 8) (d : Fin 1024) : act v (ix2 p d) = swish (v (ix2 p d)) := by
  pointwise [act]
  rfl

/-- The plain result at an index. -/
theorem plain_apply (v : FVec Ideal S8x1024 .f32) (w : FVec Ideal S2x1024x6144 .f32) (b : FVec Ideal S2x6144 .f32)
    (l : Fin 2) (p : Fin 8) (n : Fin 6144) :
    plain v w b (ix3 l p n) = (∑ d : Fin 1024, swish (v (ix2 p d)) * w (ix3 l d n)) + b (ix2 l n) := by
  have h : ∀ d : Fin 1024, w (ix3 l d n) * act v (ix2 p d) = swish (v (ix2 p d)) * w (ix3 l d n) := fun d => by
    rw [act_apply, mul_comm]
  unfold plain
  generalize act v = u at h ⊢
  pointwise []
  rw [Finset.sum_congr rfl fun d _ => h d]

end Cert.AdaLnRefIdeal.Val

namespace Cert.AdaLnIdeal.Val

open Cert.AdaLnIdeal Cert.AdaLnIdeal.Gen Cert.FfnRow
open Cert.AdaLnRefIdeal.Val (plain plain_apply)

variable (m : (ℓ : Loc nD τ sig) → Buf (Elt Ideal) ℓ)

/-- The closing payload: the activations times the weights, plus the bias. -/
theorem pay1_apply (v : Vec Ideal S8x1024 .f32) (w : Vec Ideal S1x1024x1536 .f32) (b : Vec Ideal S1x1x1536 .f32) (p : Fin 8) (n : Fin 1536) :
    k0_pay1 v w b (ix3 0 p n) = (∑ d : Fin 1024, swish (v (ix2 p d)) * w (ix3 0 d n)) + b (ix3 0 0 n) := by
  pointwise [k0_pay1]
  rfl

/-- What the body leaves in the output window, at an index. -/
theorem out_apply (v : Vec Ideal S8x1024 .f32) (w : Vec Ideal S1x1024x1536 .f32) (b : Vec Ideal S1x1x1536 .f32) (p : Fin 8) (n : Fin 1536) :
    out0_3 v w b (ix3 0 p n) = (∑ d : Fin 1024, swish (v (ix2 p d)) * w (ix3 0 d n)) + b (ix3 0 0 n) := by
  have hz : (![0, 0, 0] : Fin 3 → ℕ) = fun _ => 0 := by funext a; fin_cases a <;> rfl
  unfold out0_3
  rw [show View.canon (Val := Elt Ideal) [⟨r0_3, k0_pay1 (View.ld v r0_0) (View.ld w r0_1) (View.ld b r0_2)⟩] = _
    from View.canon_cons_unit_zero (Val := Elt Ideal) (e := .f32) (S := S1x8x1536) hz inb_S1x8x1536_S1x8x1536_0_0_0 _ [], pay1_apply]
  have h0 : ∀ d : Fin 1024, View.ld v r0_0 (ix2 p d) = v (ix2 p d) := fun d =>
    congrArg v (funext fun k => Fin.ext (by
      match k with
      | ⟨0, _⟩ => show 0 + 1 * p.val = p.val; omega
      | ⟨1, _⟩ => show 0 + 1 * d.val = d.val; omega))
  have h1 : ∀ d : Fin 1024, View.ld w r0_1 (ix3 0 d n) = w (ix3 0 d n) := fun d =>
    congrArg w (funext fun k => Fin.ext (by
      match k with
      | ⟨0, _⟩ => rfl
      | ⟨1, _⟩ => show 0 + 1 * d.val = d.val; omega
      | ⟨2, _⟩ => show 0 + 1 * n.val = n.val; omega))
  have h2 : View.ld b r0_2 (ix3 0 0 n) = b (ix3 0 0 n) :=
    congrArg b (funext fun k => Fin.ext (by
      match k with
      | ⟨0, _⟩ => rfl
      | ⟨1, _⟩ => rfl
      | ⟨2, _⟩ => show 0 + 1 * n.val = n.val; omega))
  rw [h2, Finset.sum_congr rfl fun d _ => congrArg₂ (fun s t => swish s * t) (h0 d) (h1 d)]

/-- A matrix with an axis of one put between its two. -/
theorem split_apply (x : FVec Ideal S2x6144 .f32) (h : S2x6144.ShapeCasts S2x1x6144) (l : Fin 2) (n : Fin 6144) :
    shapeCast S2x1x6144 x h (ix3 l 0 n) = x (ix2 l n) :=
  Idealize.ShloMosaic.shapeCast_apply x h _ _ (by
    rw [Shape.rowMajor_val_three, Shape.rowMajor_val_two]
    show l.val * 6144 + n.val = (l.val * 1 + 0) * 6144 + n.val
    omega)

/-- The biases, with an axis of one between. -/
theorem entry_b (c : Dev nD) (l : Fin 2) (n : Fin 6144) :
    (V m c main_v0 : FVec Ideal S2x1x6144 .f32) (ix3 l 0 n) = (m ((c : Thread nD τ).loc main_arg2) : FVec Ideal S2x6144 .f32) (ix2 l n) := by
  have e : (V m c main_v0 : FVec Ideal S2x1x6144 .f32) = shapeCast S2x1x6144 (m ((c : Thread nD τ).loc main_arg2)) shapeCasts_S2x6144_S2x1x6144 := by
    show StableHlo.after hostOps0 _ (Proc.devRef .tc main_v0) = _
    after_results
    rfl
  rw [e]
  exact split_apply _ _ l n

/-- The grid has eight points. -/
theorem point_lt (t : Fin cfg0.N) : t.val < 8 := lt_of_lt_of_eq t.isLt N_0

/-- The layer of a point and the columns of its block. -/
def lay (t : Fin cfg0.N) : Fin 2 := ⟨t.val / 4, by have := point_lt t; omega⟩
def col (t : Fin cfg0.N) (n : Fin 1536) : Fin 6144 := ⟨t.val % 4 * 1536 + n.val, by omega⟩

/-- The windows' block indices. -/
theorem index_all : ∀ t : Fin cfg0.N, (win0_0.index t 0 = 0 ∧ win0_0.index t 1 = 0)
    ∧ (win0_1.index t 0 = t.val / 4 ∧ win0_1.index t 1 = 0 ∧ win0_1.index t 2 = t.val % 4)
    ∧ (win0_2.index t 0 = t.val / 4 ∧ win0_2.index t 1 = 0 ∧ win0_2.index t 2 = t.val % 4)
    ∧ (win0_3.index t 0 = t.val / 4 ∧ win0_3.index t 1 = 0 ∧ win0_3.index t 2 = t.val % 4) :=
  (by decide +kernel : ∀ t : Fin grid0.N, (win0_0.index t 0 = 0 ∧ win0_0.index t 1 = 0)
    ∧ (win0_1.index t 0 = t.val / 4 ∧ win0_1.index t 1 = 0 ∧ win0_1.index t 2 = t.val % 4)
    ∧ (win0_2.index t 0 = t.val / 4 ∧ win0_2.index t 1 = 0 ∧ win0_2.index t 2 = t.val % 4)
    ∧ (win0_3.index t 0 = t.val / 4 ∧ win0_3.index t 1 = 0 ∧ win0_3.index t 2 = t.val % 4))

/-- The conditioning vectors. -/
theorem iblk_v (c : Dev nD) (t : Fin cfg0.N) (p : Fin 8) (d : Fin 1024) :
    (iblk m c 0 t : Vec Ideal S8x1024 .f32) (ix2 p d) = (m ((c : Thread nD τ).loc main_arg0) : FVec Ideal S8x1024 .f32) (ix2 p d) := by
  refine Eq.trans (congrArg (V m c main_arg0) (funext fun a => Fin.ext ?_) : _ = V m c main_arg0 (ix2 p d)) (congrFun (V_main_arg0 m c) _)
  have h := (index_all t).1
  match a with
  | ⟨0, _⟩ => show win0_0.index t 0 * 8 + 1 * p.val = p.val; rw [h.1]; omega
  | ⟨1, _⟩ => show win0_0.index t 1 * 1024 + 1 * d.val = d.val; rw [h.2]; omega

/-- The layer's weights, some of their columns. -/
theorem iblk_w (c : Dev nD) (t : Fin cfg0.N) (d : Fin 1024) (n : Fin 1536) :
    (iblk m c 1 t : Vec Ideal S1x1024x1536 .f32) (ix3 0 d n) = (m ((c : Thread nD τ).loc main_arg1) : FVec Ideal S2x1024x6144 .f32) (ix3 (lay t) d (col t n)) := by
  refine Eq.trans (congrArg (V m c main_arg1) (funext fun a => Fin.ext ?_) : _ = V m c main_arg1 (ix3 (lay t) d (col t n))) (congrFun (V_main_arg1 m c) _)
  have h := (index_all t).2.1
  match a with
  | ⟨0, _⟩ => show win0_1.index t 0 * 1 + 1 * 0 = t.val / 4; rw [h.1]; omega
  | ⟨1, _⟩ => show win0_1.index t 1 * 1024 + 1 * d.val = d.val; rw [h.2.1]; omega
  | ⟨2, _⟩ => show win0_1.index t 2 * 1536 + 1 * n.val = t.val % 4 * 1536 + n.val; rw [h.2.2]; omega

/-- The layer's biases, some of them. -/
theorem iblk_b (c : Dev nD) (t : Fin cfg0.N) (n : Fin 1536) :
    (iblk m c 2 t : Vec Ideal S1x1x1536 .f32) (ix3 0 0 n) = (m ((c : Thread nD τ).loc main_arg2) : FVec Ideal S2x6144 .f32) (ix2 (lay t) (col t n)) := by
  refine Eq.trans (congrArg (V m c main_v0) (funext fun a => Fin.ext ?_) : _ = V m c main_v0 (ix3 (lay t) 0 (col t n))) (entry_b m c _ _)
  have h := (index_all t).2.2.1
  match a with
  | ⟨0, _⟩ => show win0_2.index t 0 * 1 + 1 * 0 = t.val / 4; rw [h.1]; omega
  | ⟨1, _⟩ => show win0_2.index t 1 * 1 + 1 * 0 = 0; rw [h.2.1]
  | ⟨2, _⟩ => show win0_2.index t 2 * 1536 + 1 * n.val = t.val % 4 * 1536 + n.val; rw [h.2.2]; omega

/-- The result's block read from an array. -/
theorem blk_out (A : FVec Ideal S2x8x6144 .f32) (t : Fin cfg0.N) (p : Fin 8) (n : Fin 1536) :
    (((cfg0.win 3).blk t).view.read (Elt Ideal) A : Vec Ideal S1x8x1536 .f32) (ix3 0 p n) = A (ix3 (lay t) p (col t n)) := by
  refine congrArg A (funext fun a => Fin.ext ?_)
  have h := (index_all t).2.2.2
  match a with
  | ⟨0, _⟩ => show win0_3.index t 0 * 1 + 1 * 0 = t.val / 4; rw [h.1]; omega
  | ⟨1, _⟩ => show win0_3.index t 1 * 8 + 1 * p.val = p.val; rw [h.2.1]; omega
  | ⟨2, _⟩ => show win0_3.index t 2 * 1536 + 1 * n.val = t.val % 4 * 1536 + n.val; rw [h.2.2]; omega

/-- Every index of the result lies in a block that is written back. -/
theorem cover (i : S2x8x6144.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 6144 := (i 2).isLt
  let t : Fin cfg0.N := ⟨(i 0).val * 4 + (i 2).val / 1536, by rw [show cfg0.N = 8 from N_0]; omega⟩
  have ht : t.val = (i 0).val * 4 + (i 2).val / 1536 := rfl
  have h := (index_all t).2.2.2
  refine ⟨t, flush0_3 t, ?_⟩
  show i ∈ ((View.whole main_v1).slice (win0_3.rect t)).set
  rw [View.set_slice_whole, Rect.mem_set_unit]
  intro a
  match a with
  | ⟨0, _⟩ => show win0_3.index t 0 * 1 ≤ (i 0).val ∧ (i 0).val < win0_3.index t 0 * 1 + 1; rw [h.1]; omega
  | ⟨1, _⟩ => show win0_3.index t 1 * 8 ≤ (i 1).val ∧ (i 1).val < win0_3.index t 1 * 8 + 8; rw [h.2.1]; omega
  | ⟨2, _⟩ => show win0_3.index t 2 * 1536 ≤ (i 2).val ∧ (i 2).val < win0_3.index t 2 * 1536 + 1536; rw [h.2.2]; omega

/-- The plain result of the arguments device `c` holds. -/
def target (c : Dev nD) : FVec Ideal S2x8x6144 .f32 :=
  plain (m ((c : Thread nD τ).loc main_arg0)) (m ((c : Thread nD τ).loc main_arg1)) (m ((c : Thread nD τ).loc main_arg2))

/-- A sum plus a bias, each replaced. -/
theorem biased_congr {s s' b b' : EReal} (hs : s = s') (hb : b = b') : s + b = s' + b' := by rw [hs, hb]

/-- A point's block, read at an index, is the plain result there. -/
theorem block_eq (c : Dev nD) (t : Fin cfg0.N) (p : Fin 8) (n : Fin 1536) :
    out0_3 (iblk m c 0 t) (iblk m c 1 t) (iblk m c 2 t) (ix3 0 p n) = target m c (ix3 (lay t) p (col t n)) := by
  rw [out_apply, target, plain_apply]
  exact biased_congr (Finset.sum_congr rfl fun d _ => congrArg₂ (fun s w : EReal => swish s * w) (iblk_v m c t p d) (iblk_w m c t d n))
    (iblk_b m c t n)

/-- The result array after the run is the plain result of the arguments. -/
theorem final_eq (c : Dev nD) : (dats m 0 c).arrAt 3 cfg0.N = target m c :=
  (dats m 0 c).arrAt_eq_of_cover 3 (target m c) (fun t _ => by
    rw [Value.flushed3]
    funext (y : S1x8x1536.Idx)
    have hy : y = ix3 (0 : Fin 1) (y 1) (y 2) := funext fun a => by
      match a with
      | ⟨0, _⟩ => exact Fin.ext (by have h : (y 0).val < 1 := (y 0).isLt; show (y 0).val = 0; omega)
      | ⟨1, _⟩ => rfl
      | ⟨2, _⟩ => rfl
    rw [hy]
    exact (block_eq m c t (y 1) (y 2)).trans (blk_out (target m c) t (y 1) (y 2)).symm) cover

end Cert.AdaLnIdeal.Val

end
-- ==== Proof.AdaLn.Claims.lean ====
module

public import proofs.«01_k».proof.Defs
public import proofs.«01_k».proof.Proof.Gen.AdaLn.Frame
public import proofs.«01_k».proof.Proof.Gen.AdaLnIdeal.Frame
public import proofs.«01_k».proof.Proof.AdaLn.Equal
public import Idealize.ShloMosaic.Adequacy
public import Idealize.ShloMosaic.Init

@[expose] public section

/-!
# The modulation vectors: its claims
-/

noncomputable section

namespace Cert.AdaLnClaims

open Idealize Idealize.ShloMosaic

/-- The plain modulation vectors' program runs, keeps its arguments, and leaves every semaphore at zero. -/
theorem frame_ref : Cert.quiescent_AdaLnRefIdeal (hAdaLnRefIdeal := Cert.AdaLnRefIdeal.Gen.facts) := fun m ρ _ =>
  (θ_run Cert.AdaLnRefIdeal.defs _ _).mono
    (fun r h => ⟨fun c => (h c).2, Idealize.ShloMosaic.sem_eq_zero_of_no_sems (by decide) r.2⟩)
    (Cert.AdaLnRefIdeal.Value.run (F := Ideal) m ρ)

/-- The modulation vectors' call and the plain program end with the same result. -/
theorem equal : Cert.algebraic_AdaLnIdeal_AdaLnRefIdeal (hAdaLnIdeal := Cert.AdaLnIdeal.Gen.facts)
    (hAdaLnRefIdeal := Cert.AdaLnRefIdeal.Gen.facts) := by
  intro m ρ m' ρ' hpre hagree
  refine ⟨fun c => Cert.AdaLnIdeal.Val.target m c, ?_, ?_⟩
  · exact (θ_run Cert.AdaLnIdeal.defs _ _).mono
      (fun _ h c => ⟨(h c).1.trans (Cert.AdaLnIdeal.Val.final_eq m c), (h c).2⟩)
      (Cert.AdaLnIdeal.Value.run_blocks (F := Ideal) m ρ)
  · refine (θ_run Cert.AdaLnRefIdeal.defs _ _).mono (fun _ h c => ⟨(h c).1.trans ?_, (h c).2⟩)
      (Cert.AdaLnRefIdeal.Value.run (F := Ideal) m' ρ')
    obtain ⟨h0, h1, h2⟩ := hagree c
    rw [h0, h1, h2]
    rfl

end Cert.AdaLnClaims
-- ==== Proof.Proj.Row.lean ====
/-
  The latent projections' arithmetic on one head of 128 channels: the head over its root mean square, the rotation of its
  pairs of channels, and the order in which the launch keeps a head's channels, the even ones before the odd ones.
-/
module

public import proofs.«01_k».proof.Proof.Ffn.Row

@[expose] public section

noncomputable section

open scoped BigOperators
open Idealize.ShloMosaic

namespace Cert.ProjRow

/-- The channel a head's lane holds: lanes 0 to 63 the even channels, lanes 64 to 127 the odd ones. -/
def held (j : Fin 128) : Fin 128 := ⟨if j.val < 64 then 2 * j.val else 2 * j.val - 127, by split <;> omega⟩

/-- Lane `i` of half `c`. -/
def lane (c : Fin 2) (i : Fin 64) : Fin 128 := ⟨c.val * 64 + i.val, by omega⟩

/-- Channel `c` of pair `i`. -/
def chan (c : Fin 2) (i : Fin 64) : Fin 128 := ⟨2 * i.val + c.val, by omega⟩

/-- The lane 64 lanes away. -/
def across (j : Fin 128) : Fin 128 := ⟨(j.val + 64) % 128, Nat.mod_lt _ (by omega)⟩

/-- A half's lane holds its pair's channel. -/
theorem held_lane (c : Fin 2) (i : Fin 64) : held (lane c i) = chan c i := by
  apply Fin.ext
  show (if c.val * 64 + i.val < 64 then 2 * (c.val * 64 + i.val) else 2 * (c.val * 64 + i.val) - 127) = 2 * i.val + c.val
  split <;> omega

/-- Across from a half's lane is the other half's. -/
theorem across_lane (c : Fin 2) (i : Fin 64) : across (lane c i) = lane (1 - c) i := by
  apply Fin.ext
  have h : (1 - c : Fin 2).val = 1 - c.val := by revert c; decide
  show (c.val * 64 + i.val + 64) % 128 = (1 - c : Fin 2).val * 64 + i.val
  rw [h]
  omega

/-- Every channel is held by one lane. -/
theorem held_bijective : Function.Bijective held := by
  rw [← Finite.injective_iff_bijective]
  intro a b h
  have h' : (if a.val < 64 then 2 * a.val else 2 * a.val - 127) = (if b.val < 64 then 2 * b.val else 2 * b.val - 127) := congrArg Fin.val h
  apply Fin.ext
  split at h' <;> split at h' <;> omega

/-- A head over its root mean square, scaled by `g`. -/
def unit (p g : Fin 128 → EReal) (e : Fin 128) : EReal :=
  p e * Ideal.rsqrt (Ideal.div (∑ e, p e * p e) (Ideal.ofBits FTy.f32 0x43000000#32) + Ideal.ofBits FTy.f32 0x358637BD#32) * g e

/-- Normalizing a head does not depend on the order of its channels. -/
theorem unit_held (p g : Fin 128 → EReal) (j : Fin 128) : unit (fun e => p (held e)) (fun e => g (held e)) j = unit p g (held j) := by
  unfold unit
  rw [held_bijective.sum_comp (fun e => p e * p e)]

/-- Channel `c` of pair `i` of a normalized head, its pairs rotated by the angles of cosines `x` and sines `y`. -/
def turned (p g : Fin 128 → EReal) (x y : Fin 64 → EReal) (c : Fin 2) (i : Fin 64) : EReal :=
  if c = 0 then unit p g (chan 0 i) * x i - unit p g (chan 1 i) * y i else unit p g (chan 0 i) * y i + unit p g (chan 1 i) * x i

/-- Lane `j` of a head as the launch rotates it: the lane times `x` and the lane across times `y`. -/
def rolled (p g x y : Fin 128 → EReal) (j : Fin 128) : EReal := unit p g j * x j + unit p g (across j) * y j

/-- On a head in the launch's order, with cosines repeated and the first half's sines negated, the launch's rotation is the
    rotation of pairs. -/
theorem rolled_eq (p g : Fin 128 → EReal) (x y : Fin 64 → EReal) (x' y' : Fin 128 → EReal) (hx : ∀ c i, x' (lane c i) = x i)
    (hy0 : ∀ i, y' (lane 0 i) = - y i) (hy1 : ∀ i, y' (lane 1 i) = y i) (c : Fin 2) (i : Fin 64) :
    rolled (fun e => p (held e)) (fun e => g (held e)) x' y' (lane c i) = turned p g x y c i := by
  unfold rolled
  rw [unit_held, unit_held, across_lane, held_lane, held_lane, hx]
  unfold turned
  match c with
  | ⟨0, _⟩ =>
    show unit p g (chan 0 i) * x i + unit p g (chan 1 i) * y' (lane 0 i) = unit p g (chan 0 i) * x i - unit p g (chan 1 i) * y i
    rw [hy0, sub_eq_add_neg, mul_neg]
  | ⟨1, _⟩ =>
    show unit p g (chan 1 i) * x i + unit p g (chan 0 i) * y' (lane 1 i) = unit p g (chan 0 i) * y i + unit p g (chan 1 i) * x i
    rw [hy1, add_comm]

/-- The column of the reordered weights' source: within the heads that are rotated, the channel the lane holds. -/
def source (k : Fin 2560) : Fin 2560 :=
  ⟨if k.val < 512 ∨ (1024 ≤ k.val ∧ k.val < 1280) then k.val / 128 * 128 + (held ⟨k.val % 128, Nat.mod_lt _ (by omega)⟩).val else k.val, by
    split
    · have := (held ⟨k.val % 128, Nat.mod_lt _ (by omega)⟩).isLt; omega
    · exact k.isLt⟩

/-- A rotated head's lane: `o` is the head's first column. -/
theorem source_head (o : ℕ) (ho : o % 128 = 0) (h : o < 512 ∨ (1024 ≤ o ∧ o < 1280)) (j : Fin 128) (k : Fin 2560) (hk : k.val = o + j.val) :
    (source k).val = o + (held j).val := by
  have e : (⟨k.val % 128, Nat.mod_lt _ (by omega)⟩ : Fin 128) = j := Fin.ext (by show k.val % 128 = j.val; omega)
  show (if _ then k.val / 128 * 128 + (held ⟨k.val % 128, Nat.mod_lt _ (by omega)⟩).val else k.val) = _
  rw [e, if_pos (by omega)]
  omega

/-- The other columns stay. -/
theorem source_other (k : Fin 2560) (h : ¬(k.val < 512 ∨ (1024 ≤ k.val ∧ k.val < 1280))) : source k = k := by
  apply Fin.ext
  unfold source
  show (if _ then _ else k.val) = k.val
  rw [if_neg h]

end Cert.ProjRow

end
-- ==== Proof.Proj.Heads.lean ====
/-
  The reference's heads, over any number of them: a row split in heads, each head over its root mean square, its pairs of
  channels rotated, and every head's even channels laid before its odd ones.
-/
module

public import proofs.«01_k».proof.Proof.Proj.Row

@[expose] public section

noncomputable section

open scoped BigOperators
open Idealize.ShloMosaic

namespace Cert.ProjHeads

open Cert.ProjRow

section Layout

variable {α : Type} {A B H K L W : ℕ}

/-- A row's channels split in heads. -/
theorem split_apply (x : (⟨3, ![A, B, W]⟩ : Shape).Idx → α) (hs : (⟨3, ![A, B, W]⟩ : Shape).ShapeCasts ⟨4, ![A, B, H, K]⟩)
    (hW : W = H * K) (a : Fin A) (b : Fin B) (h : Fin H) (e : Fin K) (w : Fin W) (hw : w.val = h.val * K + e.val) :
    shapeCast _ x hs (ix4 a b h e) = x (ix3 a b w) := by
  refine shapeCast_apply x hs _ _ ?_
  rw [Shape.rowMajor_val_three, Shape.rowMajor_val_four]
  show (a.val * B + b.val) * W + w.val = ((a.val * B + b.val) * H + h.val) * K + e.val
  rw [hw, hW]
  ring

/-- A head's channels split in two axes. -/
theorem pair_apply (x : (⟨4, ![A, B, H, W]⟩ : Shape).Idx → α) (hs : (⟨4, ![A, B, H, W]⟩ : Shape).ShapeCasts ⟨5, ![A, B, H, K, L]⟩)
    (hW : W = K * L) (a : Fin A) (b : Fin B) (h : Fin H) (k : Fin K) (l : Fin L) (w : Fin W) (hw : w.val = k.val * L + l.val) :
    shapeCast _ x hs (ix5 a b h k l) = x (ix4 a b h w) := by
  refine shapeCast_apply x hs _ _ ?_
  rw [Shape.rowMajor_val_five, Shape.rowMajor_val_four]
  show ((a.val * B + b.val) * H + h.val) * W + w.val = (((a.val * B + b.val) * H + h.val) * K + k.val) * L + l.val
  rw [hw, hW]
  ring

/-- Two axes joined in a head's channels. -/
theorem join_apply (x : (⟨5, ![A, B, H, K, L]⟩ : Shape).Idx → α) (hs : (⟨5, ![A, B, H, K, L]⟩ : Shape).ShapeCasts ⟨4, ![A, B, H, W]⟩)
    (hW : W = K * L) (a : Fin A) (b : Fin B) (h : Fin H) (k : Fin K) (l : Fin L) (w : Fin W) (hw : w.val = k.val * L + l.val) :
    shapeCast _ x hs (ix4 a b h w) = x (ix5 a b h k l) := by
  refine shapeCast_apply x hs _ _ ?_
  rw [Shape.rowMajor_val_five, Shape.rowMajor_val_four]
  show (((a.val * B + b.val) * H + h.val) * K + k.val) * L + l.val = ((a.val * B + b.val) * H + h.val) * W + w.val
  rw [hw, hW]
  ring

/-- Heads of two axes joined in a row's channels. -/
theorem flat_apply (x : (⟨5, ![A, B, H, K, L]⟩ : Shape).Idx → α) (hs : (⟨5, ![A, B, H, K, L]⟩ : Shape).ShapeCasts ⟨3, ![A, B, W]⟩)
    (hW : W = H * K * L) (a : Fin A) (b : Fin B) (h : Fin H) (k : Fin K) (l : Fin L) (w : Fin W) (hw : w.val = h.val * (K * L) + (k.val * L + l.val)) :
    shapeCast _ x hs (ix3 a b w) = x (ix5 a b h k l) := by
  refine shapeCast_apply x hs _ _ ?_
  rw [Shape.rowMajor_val_five, Shape.rowMajor_val_three]
  show (((a.val * B + b.val) * H + h.val) * K + k.val) * L + l.val = (a.val * B + b.val) * W + w.val
  rw [hw, hW]
  ring

/-- Along an axis, a copy reads the axis itself or, where the axis is one, its only entry. -/
theorem along {n : ℕ} (j : Fin n) : (if n = 1 then 0 else j.val) = j.val := by
  split
  · omega
  · rfl

/-- A copy along axes reads the entry at its own coordinates, at the only one where an axis is one. -/
theorem spread {s t : Shape} (x : s.Idx → α) (dims : Fin s.rank → Fin t.rank) (h : s.BroadcastsInDim t dims) (j : t.Idx) (i : s.Idx)
    (hi : ∀ a, (if s.size a = 1 then 0 else (j (dims a)).val) = (i a).val) : broadcastInDim t dims h x j = x i := by
  unfold broadcastInDim
  refine congrArg x (funext fun a => Fin.ext ?_)
  rw [← hi a]
  split <;> rfl

/-- One number a head, as a column. -/
theorem col_apply (x : (⟨3, ![A, B, H]⟩ : Shape).Idx → α) (hb : (⟨3, ![A, B, H]⟩ : Shape).BroadcastsInDim ⟨4, ![A, B, H, 1]⟩ ![0, 1, 2])
    (a : Fin A) (b : Fin B) (h : Fin H) : broadcastInDim ⟨4, ![A, B, H, 1]⟩ ![0, 1, 2] hb x (ix4 a b h 0) = x (ix3 a b h) :=
  spread x _ hb _ _ fun d => match d with
    | ⟨0, _⟩ => along a
    | ⟨1, _⟩ => along b
    | ⟨2, _⟩ => along h

/-- A head's column over its channels. -/
theorem over_apply (x : (⟨4, ![A, B, H, 1]⟩ : Shape).Idx → α) (hb : (⟨4, ![A, B, H, 1]⟩ : Shape).BroadcastsInDim ⟨4, ![A, B, H, K]⟩ ![0, 1, 2, 3])
    (a : Fin A) (b : Fin B) (h : Fin H) (k : Fin K) : broadcastInDim ⟨4, ![A, B, H, K]⟩ ![0, 1, 2, 3] hb x (ix4 a b h k) = x (ix4 a b h 0) :=
  spread x _ hb _ _ fun d => match d with
    | ⟨0, _⟩ => along a
    | ⟨1, _⟩ => along b
    | ⟨2, _⟩ => along h
    | ⟨3, _⟩ => rfl

/-- One number a pair, as a column. -/
theorem paircol_apply (x : (⟨4, ![A, B, H, K]⟩ : Shape).Idx → α) (hb : (⟨4, ![A, B, H, K]⟩ : Shape).BroadcastsInDim ⟨5, ![A, B, H, K, 1]⟩ ![0, 1, 2, 3])
    (a : Fin A) (b : Fin B) (h : Fin H) (k : Fin K) : broadcastInDim ⟨5, ![A, B, H, K, 1]⟩ ![0, 1, 2, 3] hb x (ix5 a b h k 0) = x (ix4 a b h k) :=
  spread x _ hb _ _ fun d => match d with
    | ⟨0, _⟩ => along a
    | ⟨1, _⟩ => along b
    | ⟨2, _⟩ => along h
    | ⟨3, _⟩ => along k

/-- A position's angle, over batches and heads. -/
theorem angle_apply (x : (⟨2, ![B, K]⟩ : Shape).Idx → α) (h1 : (⟨2, ![B, K]⟩ : Shape).BroadcastsInDim ⟨3, ![B, 1, K]⟩ ![0, 2])
    (h2 : (⟨3, ![B, 1, K]⟩ : Shape).BroadcastsInDim ⟨4, ![1, B, 1, K]⟩ ![1, 2, 3])
    (h3 : (⟨4, ![1, B, 1, K]⟩ : Shape).BroadcastsInDim ⟨4, ![A, B, H, K]⟩ ![0, 1, 2, 3]) (a : Fin A) (b : Fin B) (h : Fin H) (k : Fin K) :
    broadcastInDim ⟨4, ![A, B, H, K]⟩ ![0, 1, 2, 3] h3 (broadcastInDim ⟨4, ![1, B, 1, K]⟩ ![1, 2, 3] h2
      (broadcastInDim ⟨3, ![B, 1, K]⟩ ![0, 2] h1 x)) (ix4 a b h k) = x (ix2 b k) :=
  ((spread _ _ h3 (ix4 a b h k) (ix4 0 b 0 k) fun d => match d with
    | ⟨0, _⟩ => rfl
    | ⟨1, _⟩ => along b
    | ⟨2, _⟩ => rfl
    | ⟨3, _⟩ => along k).trans (spread _ _ h2 (ix4 0 b 0 k) (ix3 b 0 k) fun d => match d with
    | ⟨0, _⟩ => along b
    | ⟨1, _⟩ => rfl
    | ⟨2, _⟩ => along k)).trans (spread x _ h1 (ix3 b 0 k) (ix2 b k) fun d => match d with
    | ⟨0, _⟩ => along b
    | ⟨1, _⟩ => along k)

/-- A gain over batches, rows and heads. -/
theorem gain_apply (x : (⟨1, ![K]⟩ : Shape).Idx → α) (h1 : (⟨1, ![K]⟩ : Shape).BroadcastsInDim ⟨4, ![1, 1, 1, K]⟩ ![3])
    (h2 : (⟨4, ![1, 1, 1, K]⟩ : Shape).BroadcastsInDim ⟨4, ![A, B, H, K]⟩ ![0, 1, 2, 3]) (a : Fin A) (b : Fin B) (h : Fin H) (k : Fin K) :
    broadcastInDim ⟨4, ![A, B, H, K]⟩ ![0, 1, 2, 3] h2 (broadcastInDim ⟨4, ![1, 1, 1, K]⟩ ![3] h1 x) (ix4 a b h k) = x (ix1 k) :=
  (spread _ _ h2 (ix4 a b h k) (ix4 0 0 0 k) fun d => match d with
    | ⟨0, _⟩ => rfl
    | ⟨1, _⟩ => rfl
    | ⟨2, _⟩ => rfl
    | ⟨3, _⟩ => along k).trans (spread x _ h1 (ix4 0 0 0 k) (ix1 k) fun d => match d with
    | ⟨0, _⟩ => along k)

/-- Channel `c` of every pair. -/
theorem member_apply (c : Fin 2) (x : (⟨5, ![A, B, H, K, 2]⟩ : Shape).Idx → α)
    (h1 : (⟨5, ![A, B, H, K, 2]⟩ : Shape).Slices ![0, 0, 0, 0, c.val] ⟨5, ![A, B, H, K, 1]⟩)
    (h2 : (⟨5, ![A, B, H, K, 1]⟩ : Shape).ShapeCasts ⟨4, ![A, B, H, K]⟩) (a : Fin A) (b : Fin B) (h : Fin H) (k : Fin K) :
    shapeCast ⟨4, ![A, B, H, K]⟩ (extractStridedSlice ⟨5, ![A, B, H, K, 1]⟩ ![0, 0, 0, 0, c.val] x h1) h2 (ix4 a b h k) = x (ix5 a b h k c) := by
  rw [join_apply _ h2 (Nat.mul_one K).symm a b h k (0 : Fin 1) k (by show k.val = k.val * 1 + 0; omega)]
  refine congrArg x (funext fun d => Fin.ext ?_)
  match d with
  | ⟨0, _⟩ => show 0 + a.val = a.val; omega
  | ⟨1, _⟩ => show 0 + b.val = b.val; omega
  | ⟨2, _⟩ => show 0 + h.val = h.val; omega
  | ⟨3, _⟩ => show 0 + k.val = k.val; omega
  | ⟨4, _⟩ => show c.val + 0 = c.val; omega

/-- Two columns of pairs, side by side. -/
theorem beside_apply (u v : (⟨5, ![A, B, H, K, 1]⟩ : Shape).Idx → α)
    (hc : Shape.Concatenates [⟨5, ![A, B, H, K, 1]⟩, ⟨5, ![A, B, H, K, 1]⟩] ⟨5, ![A, B, H, K, 2]⟩ 4) (a : Fin A) (b : Fin B) (h : Fin H) (k : Fin K)
    (c : Fin 2) : concatenate ⟨5, ![A, B, H, K, 2]⟩ 4 [⟨⟨5, ![A, B, H, K, 1]⟩, u⟩, ⟨⟨5, ![A, B, H, K, 1]⟩, v⟩] hc (ix5 a b h k c)
      = if c = 0 then u (ix5 a b h k 0) else v (ix5 a b h k 0) := by
  match c with
  | ⟨0, _⟩ =>
    refine Eq.trans ?_ (if_pos rfl).symm
    refine concatenate_pair_apply_left (s₁ := ⟨5, ![A, B, H, K, 1]⟩) (s₂ := ⟨5, ![A, B, H, K, 1]⟩) 4 u v hc _ rfl _ fun d => ?_
    match d with
    | ⟨0, _⟩ => rfl
    | ⟨1, _⟩ => rfl
    | ⟨2, _⟩ => rfl
    | ⟨3, _⟩ => rfl
    | ⟨4, _⟩ => rfl
  | ⟨1, _⟩ =>
    refine Eq.trans ?_ (if_neg (fun e => absurd (congrArg Fin.val e) Nat.one_ne_zero)).symm
    refine concatenate_pair_apply_right (s₁ := ⟨5, ![A, B, H, K, 1]⟩) (s₂ := ⟨5, ![A, B, H, K, 1]⟩) 4 u v hc _ rfl rfl _ (fun d hd => ?_) rfl
    match d with
    | ⟨0, _⟩ => rfl
    | ⟨1, _⟩ => rfl
    | ⟨2, _⟩ => rfl
    | ⟨3, _⟩ => rfl
    | ⟨4, _⟩ => exact absurd rfl hd

/-- A head's two last axes exchanged. -/
theorem swap_apply (x : (⟨5, ![A, B, H, K, L]⟩ : Shape).Idx → α) (ht : (⟨5, ![A, B, H, K, L]⟩ : Shape).Transposes [0, 1, 2, 4, 3] ⟨5, ![A, B, H, L, K]⟩)
    (a : Fin A) (b : Fin B) (h : Fin H) (k : Fin K) (l : Fin L) :
    transpose ⟨5, ![A, B, H, L, K]⟩ [0, 1, 2, 4, 3] x ht (ix5 a b h l k) = x (ix5 a b h k l) :=
  congrArg x (funext fun d => Fin.ext (match d with
    | ⟨0, _⟩ => rfl
    | ⟨1, _⟩ => rfl
    | ⟨2, _⟩ => rfl
    | ⟨3, _⟩ => rfl
    | ⟨4, _⟩ => rfl))

end Layout

/-- What the operations on `H` heads of 128 channels, `W` in all, ask of their shapes. -/
structure Shapes (H W : ℕ) : Prop where
  width : W = H * 128
  split : (⟨3, ![4, 4096, W]⟩ : Shape).ShapeCasts ⟨4, ![4, 4096, H, 128]⟩
  sums : (⟨4, ![4, 4096, H, 128]⟩ : Shape).ReducesTo [3] ⟨3, ![4, 4096, H]⟩
  scalar : 0 < (⟨0, ![]⟩ : Shape).numel
  col : (⟨3, ![4, 4096, H]⟩ : Shape).BroadcastsInDim ⟨4, ![4, 4096, H, 1]⟩ ![0, 1, 2]
  const : (⟨0, ![]⟩ : Shape).BroadcastsInDim ⟨4, ![4, 4096, H, 1]⟩ ![]
  over : (⟨4, ![4, 4096, H, 1]⟩ : Shape).BroadcastsInDim ⟨4, ![4, 4096, H, 128]⟩ ![0, 1, 2, 3]
  gain : (⟨1, ![128]⟩ : Shape).BroadcastsInDim ⟨4, ![1, 1, 1, 128]⟩ ![3]
  gains : (⟨4, ![1, 1, 1, 128]⟩ : Shape).BroadcastsInDim ⟨4, ![4, 4096, H, 128]⟩ ![0, 1, 2, 3]
  pairs : (⟨4, ![4, 4096, H, 128]⟩ : Shape).ShapeCasts ⟨5, ![4, 4096, H, 64, 2]⟩
  first : (⟨5, ![4, 4096, H, 64, 2]⟩ : Shape).Slices ![0, 0, 0, 0, 0] ⟨5, ![4, 4096, H, 64, 1]⟩
  second : (⟨5, ![4, 4096, H, 64, 2]⟩ : Shape).Slices ![0, 0, 0, 0, 1] ⟨5, ![4, 4096, H, 64, 1]⟩
  drop : (⟨5, ![4, 4096, H, 64, 1]⟩ : Shape).ShapeCasts ⟨4, ![4, 4096, H, 64]⟩
  angle : (⟨2, ![4096, 64]⟩ : Shape).BroadcastsInDim ⟨3, ![4096, 1, 64]⟩ ![0, 2]
  angle1 : (⟨3, ![4096, 1, 64]⟩ : Shape).BroadcastsInDim ⟨4, ![1, 4096, 1, 64]⟩ ![1, 2, 3]
  angles : (⟨4, ![1, 4096, 1, 64]⟩ : Shape).BroadcastsInDim ⟨4, ![4, 4096, H, 64]⟩ ![0, 1, 2, 3]
  lift : (⟨4, ![4, 4096, H, 64]⟩ : Shape).BroadcastsInDim ⟨5, ![4, 4096, H, 64, 1]⟩ ![0, 1, 2, 3]
  beside : Shape.Concatenates [⟨5, ![4, 4096, H, 64, 1]⟩, ⟨5, ![4, 4096, H, 64, 1]⟩] ⟨5, ![4, 4096, H, 64, 2]⟩ 4
  join : (⟨5, ![4, 4096, H, 64, 2]⟩ : Shape).ShapeCasts ⟨4, ![4, 4096, H, 128]⟩
  swap : (⟨5, ![4, 4096, H, 64, 2]⟩ : Shape).Transposes [0, 1, 2, 4, 3] ⟨5, ![4, 4096, H, 2, 64]⟩
  flat : (⟨5, ![4, 4096, H, 2, 64]⟩ : Shape).ShapeCasts ⟨3, ![4, 4096, W]⟩

variable {H W : ℕ} (F : Shapes H W)

/-- Every head's sum of squares. -/
def squares (t : FVec Ideal ⟨4, ![4, 4096, H, 128]⟩ .f32) : FVec Ideal ⟨3, ![4, 4096, H]⟩ .f32 :=
  Host.reduceAdd (mulf t t) (constant ⟨0, ![]⟩ .f32 0x00000000#32) F.sums F.scalar

/-- Every head's mean square, kept from zero. -/
def power (t : FVec Ideal ⟨4, ![4, 4096, H, 128]⟩ .f32) : FVec Ideal ⟨4, ![4, 4096, H, 1]⟩ .f32 :=
  addf (Host.divf (broadcastInDim ⟨4, ![4, 4096, H, 1]⟩ ![0, 1, 2] F.col (squares F t))
      (broadcastInDim ⟨4, ![4, 4096, H, 1]⟩ ![] F.const (constant ⟨0, ![]⟩ .f32 0x43000000#32)))
    (broadcastInDim ⟨4, ![4, 4096, H, 1]⟩ ![] F.const (constant ⟨0, ![]⟩ .f32 0x358637BD#32))

/-- Every head over its root mean square, scaled by `g`. -/
def normed (t : FVec Ideal ⟨4, ![4, 4096, H, 128]⟩ .f32) (g : FVec Ideal ⟨1, ![128]⟩ .f32) : FVec Ideal ⟨4, ![4, 4096, H, 128]⟩ .f32 :=
  mulf (mulf t (broadcastInDim ⟨4, ![4, 4096, H, 128]⟩ ![0, 1, 2, 3] F.over (Host.rsqrt (power F t))))
    (broadcastInDim ⟨4, ![4, 4096, H, 128]⟩ ![0, 1, 2, 3] F.gains (broadcastInDim ⟨4, ![1, 1, 1, 128]⟩ ![3] F.gain g))

/-- The angles' cosines or sines over batches and heads. -/
def angles (x : FVec Ideal ⟨2, ![4096, 64]⟩ .f32) : FVec Ideal ⟨4, ![4, 4096, H, 64]⟩ .f32 :=
  broadcastInDim ⟨4, ![4, 4096, H, 64]⟩ ![0, 1, 2, 3] F.angles (broadcastInDim ⟨4, ![1, 4096, 1, 64]⟩ ![1, 2, 3] F.angle1
    (broadcastInDim ⟨3, ![4096, 1, 64]⟩ ![0, 2] F.angle x))

/-- Every pair's first channel. -/
def firsts (t : FVec Ideal ⟨4, ![4, 4096, H, 128]⟩ .f32) : FVec Ideal ⟨4, ![4, 4096, H, 64]⟩ .f32 :=
  shapeCast _ (extractStridedSlice ⟨5, ![4, 4096, H, 64, 1]⟩ ![0, 0, 0, 0, 0] (shapeCast ⟨5, ![4, 4096, H, 64, 2]⟩ t F.pairs) F.first) F.drop

/-- Every pair's second channel. -/
def seconds (t : FVec Ideal ⟨4, ![4, 4096, H, 128]⟩ .f32) : FVec Ideal ⟨4, ![4, 4096, H, 64]⟩ .f32 :=
  shapeCast _ (extractStridedSlice ⟨5, ![4, 4096, H, 64, 1]⟩ ![0, 0, 0, 0, 1] (shapeCast ⟨5, ![4, 4096, H, 64, 2]⟩ t F.pairs) F.second) F.drop

/-- Two columns of pairs joined in heads. -/
def paired (u v : FVec Ideal ⟨4, ![4, 4096, H, 64]⟩ .f32) : FVec Ideal ⟨4, ![4, 4096, H, 128]⟩ .f32 :=
  shapeCast _ (concatenate ⟨5, ![4, 4096, H, 64, 2]⟩ 4
    [⟨⟨5, ![4, 4096, H, 64, 1]⟩, broadcastInDim ⟨5, ![4, 4096, H, 64, 1]⟩ ![0, 1, 2, 3] F.lift u⟩,
      ⟨⟨5, ![4, 4096, H, 64, 1]⟩, broadcastInDim ⟨5, ![4, 4096, H, 64, 1]⟩ ![0, 1, 2, 3] F.lift v⟩] F.beside) F.join

/-- Every pair rotated by its angle. -/
def rotated (t : FVec Ideal ⟨4, ![4, 4096, H, 128]⟩ .f32) (x y : FVec Ideal ⟨2, ![4096, 64]⟩ .f32) : FVec Ideal ⟨4, ![4, 4096, H, 128]⟩ .f32 :=
  paired F (subf (mulf (firsts F t) (angles F x)) (mulf (seconds F t) (angles F y)))
    (addf (mulf (firsts F t) (angles F y)) (mulf (seconds F t) (angles F x)))

/-- The normalized and rotated heads of rows. -/
def headed (p : FVec Ideal ⟨3, ![4, 4096, W]⟩ .f32) (g : FVec Ideal ⟨1, ![128]⟩ .f32) (x y : FVec Ideal ⟨2, ![4096, 64]⟩ .f32) :
    FVec Ideal ⟨4, ![4, 4096, H, 128]⟩ .f32 :=
  rotated F (normed F (shapeCast _ p F.split) g) x y

/-- Every head's first channels before its second ones, the heads joined in rows. -/
def laid (t : FVec Ideal ⟨4, ![4, 4096, H, 128]⟩ .f32) : FVec Ideal ⟨3, ![4, 4096, W]⟩ .f32 :=
  shapeCast _ (transpose ⟨5, ![4, 4096, H, 2, 64]⟩ [0, 1, 2, 4, 3] (shapeCast ⟨5, ![4, 4096, H, 64, 2]⟩ t F.pairs) F.swap) F.flat

theorem squares_apply (t : FVec Ideal ⟨4, ![4, 4096, H, 128]⟩ .f32) (b : Fin 4) (n : Fin 4096) (h : Fin H) :
    squares F t (ix3 b n h) = ∑ e : Fin 128, t (ix4 b n h e) * t (ix4 b n h e) := by
  pointwise [squares]

theorem power_apply (t : FVec Ideal ⟨4, ![4, 4096, H, 128]⟩ .f32) (b : Fin 4) (n : Fin 4096) (h : Fin H) :
    power F t (ix4 b n h 0) = Ideal.div (∑ e : Fin 128, t (ix4 b n h e) * t (ix4 b n h e)) (Ideal.ofBits FTy.f32 0x43000000#32)
      + Ideal.ofBits FTy.f32 0x358637BD#32 := by
  rw [← squares_apply F t b n h, ← col_apply (squares F t) F.col b n h]
  rfl

theorem normed_apply (t : FVec Ideal ⟨4, ![4, 4096, H, 128]⟩ .f32) (g : FVec Ideal ⟨1, ![128]⟩ .f32) (b : Fin 4) (n : Fin 4096) (h : Fin H) (e : Fin 128) :
    normed F t g (ix4 b n h e) = unit (fun e => t (ix4 b n h e)) (fun e => g (ix1 e)) e := by
  have e1 := over_apply (Host.rsqrt (power F t)) F.over b n h e
  have e2 := gain_apply (H := H) g F.gain F.gains b n h e
  have e3 : Host.rsqrt (power F t) (ix4 b n h 0) = Ideal.rsqrt (power F t (ix4 b n h 0)) := rfl
  rw [e3, power_apply] at e1
  exact congrArg₂ (fun r s : EReal => t (ix4 b n h e) * r * s) e1 e2

theorem firsts_apply (t : FVec Ideal ⟨4, ![4, 4096, H, 128]⟩ .f32) (b : Fin 4) (n : Fin 4096) (h : Fin H) (i : Fin 64) :
    firsts F t (ix4 b n h i) = t (ix4 b n h (chan 0 i)) :=
  (member_apply 0 _ F.first F.drop b n h i).trans (pair_apply t F.pairs rfl b n h i 0 (chan 0 i) (by show 2 * i.val + 0 = i.val * 2 + 0; omega))

theorem seconds_apply (t : FVec Ideal ⟨4, ![4, 4096, H, 128]⟩ .f32) (b : Fin 4) (n : Fin 4096) (h : Fin H) (i : Fin 64) :
    seconds F t (ix4 b n h i) = t (ix4 b n h (chan 1 i)) :=
  (member_apply 1 _ F.second F.drop b n h i).trans (pair_apply t F.pairs rfl b n h i 1 (chan 1 i) (by show 2 * i.val + 1 = i.val * 2 + 1; omega))

theorem paired_apply (u v : FVec Ideal ⟨4, ![4, 4096, H, 64]⟩ .f32) (b : Fin 4) (n : Fin 4096) (h : Fin H) (c : Fin 2) (i : Fin 64) :
    paired F u v (ix4 b n h (chan c i)) = if c = 0 then u (ix4 b n h i) else v (ix4 b n h i) := by
  unfold paired
  rw [join_apply _ F.join rfl b n h i c (chan c i) (by show 2 * i.val + c.val = i.val * 2 + c.val; omega), beside_apply,
    paircol_apply u F.lift, paircol_apply v F.lift]

theorem headed_apply (p : FVec Ideal ⟨3, ![4, 4096, W]⟩ .f32) (g : FVec Ideal ⟨1, ![128]⟩ .f32) (x y : FVec Ideal ⟨2, ![4096, 64]⟩ .f32)
    (b : Fin 4) (n : Fin 4096) (h : Fin H) (c : Fin 2) (i : Fin 64) (w : Fin 128 → Fin W) (hw : ∀ e, (w e).val = h.val * 128 + e.val) :
    headed F p g x y (ix4 b n h (chan c i)) = turned (fun e => p (ix3 b n (w e))) (fun e => g (ix1 e)) (fun i => x (ix2 n i)) (fun i => y (ix2 n i)) c i := by
  have hn : ∀ e, normed F (shapeCast _ p F.split) g (ix4 b n h e) = unit (fun e => p (ix3 b n (w e))) (fun e => g (ix1 e)) e := fun e => by
    rw [normed_apply]
    exact congrFun (congrFun (congrArg unit (funext fun e => split_apply p F.split F.width b n h e (w e) (hw e))) _) e
  have h0 := (firsts_apply F (normed F (shapeCast _ p F.split) g) b n h i).trans (hn _)
  have h1 := (seconds_apply F (normed F (shapeCast _ p F.split) g) b n h i).trans (hn _)
  have hx : angles F x (ix4 b n h i) = x (ix2 n i) := angle_apply x F.angle F.angle1 F.angles b n h i
  have hy : angles F y (ix4 b n h i) = y (ix2 n i) := angle_apply y F.angle F.angle1 F.angles b n h i
  unfold headed rotated turned
  rw [paired_apply]
  refine ite_congr rfl (fun _ => ?_) (fun _ => ?_)
  · exact congrArg₂ (fun r s : EReal => r - s) (congrArg₂ (fun r s : EReal => r * s) h0 hx) (congrArg₂ (fun r s : EReal => r * s) h1 hy)
  · exact congrArg₂ (fun r s : EReal => r + s) (congrArg₂ (fun r s : EReal => r * s) h0 hy) (congrArg₂ (fun r s : EReal => r * s) h1 hx)

theorem laid_apply (t : FVec Ideal ⟨4, ![4, 4096, H, 128]⟩ .f32) (b : Fin 4) (n : Fin 4096) (h : Fin H) (c : Fin 2) (i : Fin 64) (w : Fin W)
    (hw : w.val = h.val * 128 + (lane c i).val) : laid F t (ix3 b n w) = t (ix4 b n h (chan c i)) := by
  unfold laid
  rw [flat_apply _ F.flat (by rw [F.width, Nat.mul_assoc]) b n h c i w hw, swap_apply]
  exact pair_apply t F.pairs rfl b n h i c (chan c i) (by show 2 * i.val + c.val = i.val * 2 + c.val; omega)

end Cert.ProjHeads

end
-- ==== Proof.Proj.Reference.lean ====
/-
  The latent projections' reference program read at an index, over the extended reals: the modulated rows times the weights,
  and of the product's columns the four heads of queries and two of keys that are rotated, and those that are not.
-/
module

public import proofs.«01_k».proof.Proof.Gen.ProjRefIdeal.Run
public import proofs.«01_k».proof.Proof.Ffn.Reference
public import proofs.«01_k».proof.Proof.Proj.Heads

@[expose] public section

noncomputable section

open scoped BigOperators
open Idealize.ShloMosaic Idealize.ShloMosaic.TcCoe Idealize.SL.Sem

namespace Cert.ProjRefIdeal.Val

open Cert.ProjRefIdeal Cert.ProjRefIdeal.Gen Cert.ProjRefIdeal.Value Cert.ProjRow Cert.ProjHeads

/-- Four heads' shapes. -/
theorem four : Shapes 4 512 := ⟨rfl, shapeCasts_S4x4096x512_S4x4096x4x128, reducesTo_S4x4096x4x128_S4x4096x4_d3, h_S_, bcast_S4x4096x4_S4x4096x4x1_0_1_2,
  bcast_S_S4x4096x4x1, bcast_S4x4096x4x1_S4x4096x4x128_0_1_2_3, bcast_S128_S1x1x1x128_3, bcast_S1x1x1x128_S4x4096x4x128_0_1_2_3,
  shapeCasts_S4x4096x4x128_S4x4096x4x64x2, slices_S4x4096x4x64x2_S4x4096x4x64x1_0_0_0_0_0, slices_S4x4096x4x64x2_S4x4096x4x64x1_0_0_0_0_1,
  shapeCasts_S4x4096x4x64x1_S4x4096x4x64, bcast_S4096x64_S4096x1x64_0_2, bcast_S4096x1x64_S1x4096x1x64_1_2_3,
  bcast_S1x4096x1x64_S4x4096x4x64_0_1_2_3, bcast_S4x4096x4x64_S4x4096x4x64x1_0_1_2_3, concatenates_S4x4096x4x64x1_S4x4096x4x64x1_S4x4096x4x64x2_d4,
  shapeCasts_S4x4096x4x64x2_S4x4096x4x128, transposes_S4x4096x4x64x2_S4x4096x4x2x64_0_1_2_4_3, shapeCasts_S4x4096x4x2x64_S4x4096x512⟩

/-- Two heads' shapes. -/
theorem two : Shapes 2 256 := ⟨rfl, shapeCasts_S4x4096x256_S4x4096x2x128, reducesTo_S4x4096x2x128_S4x4096x2_d3, h_S_, bcast_S4x4096x2_S4x4096x2x1_0_1_2,
  bcast_S_S4x4096x2x1, bcast_S4x4096x2x1_S4x4096x2x128_0_1_2_3, bcast_S128_S1x1x1x128_3, bcast_S1x1x1x128_S4x4096x2x128_0_1_2_3,
  shapeCasts_S4x4096x2x128_S4x4096x2x64x2, slices_S4x4096x2x64x2_S4x4096x2x64x1_0_0_0_0_0, slices_S4x4096x2x64x2_S4x4096x2x64x1_0_0_0_0_1,
  shapeCasts_S4x4096x2x64x1_S4x4096x2x64, bcast_S4096x64_S4096x1x64_0_2, bcast_S4096x1x64_S1x4096x1x64_1_2_3,
  bcast_S1x4096x1x64_S4x4096x2x64_0_1_2_3, bcast_S4x4096x2x64_S4x4096x2x64x1_0_1_2_3, concatenates_S4x4096x2x64x1_S4x4096x2x64x1_S4x4096x2x64x2_d4,
  shapeCasts_S4x4096x2x64x2_S4x4096x2x128, transposes_S4x4096x2x64x2_S4x4096x2x2x64_0_1_2_4_3, shapeCasts_S4x4096x2x2x64_S4x4096x256⟩

/-- Columns from `o` on, read at an index. -/
theorem cut_apply {α : Type} {A B C W : ℕ} (o : ℕ) (p : (⟨3, ![A, B, C]⟩ : Shape).Idx → α)
    (hs : (⟨3, ![A, B, C]⟩ : Shape).Slices ![0, 0, o] ⟨3, ![A, B, W]⟩) (a : Fin A) (b : Fin B) (k : Fin W) (j : Fin C) (hj : j.val = o + k.val) :
    extractStridedSlice ⟨3, ![A, B, W]⟩ ![0, 0, o] p hs (ix3 a b k) = p (ix3 a b j) :=
  congrArg p (funext fun d => Fin.ext (by
    match d with
    | ⟨0, _⟩ => show 0 + a.val = a.val; omega
    | ⟨1, _⟩ => show 0 + b.val = b.val; omega
    | ⟨2, _⟩ => exact hj.symm))

/-- Rounding leaves a value, and a constant spread over an array scales it. -/
theorem rounded_apply {s : Shape} (x : FVec Ideal s .f32) (h) (i : s.Idx) : truncf .bf16 x h i = x i := rfl

theorem scaled_apply {s : Shape} (x : FVec Ideal s .f32) (h : S_.BroadcastsInDim s ![]) (k : BitVec 32) (i : s.Idx) :
    mulf x (broadcastInDim s ![] h (constant S_ .f32 k)) i = (x i : EReal) * Ideal.ofBits FTy.f32 k := rfl

/-- A row's rotated channels depend on the row's values alone. -/
theorem turned_congr {p p' : Fin 128 → EReal} (hp : ∀ e, p e = p' e) (g : Fin 128 → EReal) (x y : Fin 64 → EReal) (c : Fin 2) (i : Fin 64) :
    turned p g x y c i = turned p' g x y c i := by
  rw [funext hp]

/-- The modulated rows times the weights. -/
def projected (x : FVec Ideal S4x4096x1024 .f32) (shift scale : FVec Ideal S4x1x1024 .f32) (g : FVec Ideal S1024 .f32)
    (w : FVec Ideal S1024x2560 .f32) : FVec Ideal S4x4096x2560 .f32 :=
  Host.dotGeneral dot_S4x4096x1024_S1024x2560_S4x4096x2560_2_0_01_1_n_n none
    (FfnRefIdeal.Val.modulated (FfnRefIdeal.Val.normed x g) shift scale) w

/-- The four rotated heads of queries, scaled. -/
def queries (p : FVec Ideal S4x4096x2560 .f32) (g : FVec Ideal S128 .f32) (x y : FVec Ideal S4096x64 .f32) : FVec Ideal S4x4096x512 .bf16 :=
  truncf .bf16 (laid four (mulf (headed four (extractStridedSlice S4x4096x512 ![0, 0, 0] p slices_S4x4096x2560_S4x4096x512_0_0_0) g x y)
    (broadcastInDim S4x4096x4x128 ![] bcast_S_S4x4096x4x128 (constant S_ .f32 0x3DB504F3#32)))) bitsLt_bf16_f32

/-- The two rotated heads of keys. -/
def keys (p : FVec Ideal S4x4096x2560 .f32) (g : FVec Ideal S128 .f32) (x y : FVec Ideal S4096x64 .f32) : FVec Ideal S4x4096x256 .bf16 :=
  truncf .bf16 (laid two (headed two (extractStridedSlice S4x4096x256 ![0, 0, 1024] p slices_S4x4096x2560_S4x4096x256_0_0_1024) g x y)) bitsLt_bf16_f32

/-- The queries that are not rotated, scaled. -/
def plainQueries (p : FVec Ideal S4x4096x2560 .f32) : FVec Ideal S4x4096x512 .bf16 :=
  truncf .bf16 (mulf (extractStridedSlice S4x4096x512 ![0, 0, 512] p slices_S4x4096x2560_S4x4096x512_0_0_512)
    (broadcastInDim S4x4096x512 ![] bcast_S_S4x4096x512 (constant S_ .f32 0x3E000000#32))) bitsLt_bf16_f32

/-- The rotated keys' values. -/
def values (p : FVec Ideal S4x4096x2560 .f32) : FVec Ideal S4x4096x256 .bf16 :=
  truncf .bf16 (extractStridedSlice S4x4096x256 ![0, 0, 1280] p slices_S4x4096x2560_S4x4096x256_0_0_1280) bitsLt_bf16_f32

/-- The keys that are not rotated. -/
def plainKeys (p : FVec Ideal S4x4096x2560 .f32) : FVec Ideal S4x4096x512 .bf16 :=
  truncf .bf16 (extractStridedSlice S4x4096x512 ![0, 0, 1536] p slices_S4x4096x2560_S4x4096x512_0_0_1536) bitsLt_bf16_f32

/-- Their values. -/
def plainValues (p : FVec Ideal S4x4096x2560 .f32) : FVec Ideal S4x4096x512 .bf16 :=
  truncf .bf16 (extractStridedSlice S4x4096x512 ![0, 0, 2048] p slices_S4x4096x2560_S4x4096x512_0_0_2048) bitsLt_bf16_f32

/-- The product, at an index. -/
theorem projected_apply (x : FVec Ideal S4x4096x1024 .f32) (shift scale : FVec Ideal S4x1x1024 .f32) (g : FVec Ideal S1024 .f32)
    (w : FVec Ideal S1024x2560 .f32) (b : Fin 4) (n : Fin 4096) (k : Fin 2560) :
    projected x shift scale g w (ix3 b n k) = ∑ d : Fin 1024, FfnRow.modul (fun e => x (ix3 b n e)) (fun e => g (ix1 e))
      (fun e => shift (ix3 b 0 e)) (fun e => scale (ix3 b 0 e)) d * w (ix2 d k) := by
  unfold projected
  have e : ∀ d, FfnRefIdeal.Val.modulated (FfnRefIdeal.Val.normed x g) shift scale (ix3 b n d) = FfnRow.modul (fun e => x (ix3 b n e))
      (fun e => g (ix1 e)) (fun e => shift (ix3 b 0 e)) (fun e => scale (ix3 b 0 e)) d := fun d => by
    rw [FfnRefIdeal.Val.modulated_apply, FfnRefIdeal.Val.normed_apply]
    rfl
  generalize FfnRefIdeal.Val.modulated (FfnRefIdeal.Val.normed x g) shift scale = h at e
  refine Eq.trans (?_ : _ = ∑ d : Fin 1024, h (ix3 b n d) * w (ix2 d k)) (Finset.sum_congr rfl fun d _ => congrArg (fun s : EReal => s * w (ix2 d k)) (e d))
  pointwise []

/-- A lane of the rotated queries. -/
theorem queries_apply (p : FVec Ideal S4x4096x2560 .f32) (g : FVec Ideal S128 .f32) (x y : FVec Ideal S4096x64 .f32) (b : Fin 4) (n : Fin 4096)
    (h : Fin 4) (c : Fin 2) (i : Fin 64) (w : Fin 512) (hw : w.val = h.val * 128 + (lane c i).val)
    (s : Fin 128 → Fin 2560) (hs : ∀ e, (s e).val = h.val * 128 + e.val) :
    queries p g x y (ix3 b n w) = turned (fun e => p (ix3 b n (s e))) (fun e => g (ix1 e)) (fun i => x (ix2 n i)) (fun i => y (ix2 n i)) c i
        * Ideal.ofBits FTy.f32 0x3DB504F3#32 := by
  have hlt : ∀ e : Fin 128, h.val * 128 + e.val < 512 := fun e => by omega
  have e1 := (headed_apply four (extractStridedSlice S4x4096x512 ![0, 0, 0] p slices_S4x4096x2560_S4x4096x512_0_0_0) g x y b n h c i
    (fun e => ⟨h.val * 128 + e.val, hlt e⟩) (fun _ => rfl)).trans
    (turned_congr (fun e => cut_apply 0 p slices_S4x4096x2560_S4x4096x512_0_0_0 b n _ (s e) ((hs e).trans (Nat.zero_add _).symm)) _ _ _ c i)
  unfold queries
  generalize headed four (extractStridedSlice S4x4096x512 ![0, 0, 0] p slices_S4x4096x2560_S4x4096x512_0_0_0) g x y = t at e1
  rw [← e1, rounded_apply, laid_apply four _ b n h c i w hw, scaled_apply]

/-- A lane of the rotated keys. -/
theorem keys_apply (p : FVec Ideal S4x4096x2560 .f32) (g : FVec Ideal S128 .f32) (x y : FVec Ideal S4096x64 .f32) (b : Fin 4) (n : Fin 4096)
    (h : Fin 2) (c : Fin 2) (i : Fin 64) (w : Fin 256) (hw : w.val = h.val * 128 + (lane c i).val)
    (s : Fin 128 → Fin 2560) (hs : ∀ e, (s e).val = 1024 + (h.val * 128 + e.val)) :
    keys p g x y (ix3 b n w) = turned (fun e => p (ix3 b n (s e))) (fun e => g (ix1 e)) (fun i => x (ix2 n i)) (fun i => y (ix2 n i)) c i := by
  have hlt : ∀ e : Fin 128, h.val * 128 + e.val < 256 := fun e => by omega
  have e1 := (headed_apply two (extractStridedSlice S4x4096x256 ![0, 0, 1024] p slices_S4x4096x2560_S4x4096x256_0_0_1024) g x y b n h c i
    (fun e => ⟨h.val * 128 + e.val, hlt e⟩) (fun _ => rfl)).trans
    (turned_congr (fun e => cut_apply 1024 p slices_S4x4096x2560_S4x4096x256_0_0_1024 b n _ (s e) (hs e)) _ _ _ c i)
  unfold keys
  generalize headed two (extractStridedSlice S4x4096x256 ![0, 0, 1024] p slices_S4x4096x2560_S4x4096x256_0_0_1024) g x y = t at e1
  rw [← e1, rounded_apply, laid_apply two t b n h c i w hw]

theorem plainQueries_apply (p : FVec Ideal S4x4096x2560 .f32) (b : Fin 4) (n : Fin 4096) (k : Fin 512) (j : Fin 2560) (hj : j.val = 512 + k.val) :
    plainQueries p (ix3 b n k) = p (ix3 b n j) * Ideal.ofBits FTy.f32 0x3E000000#32 := by
  unfold plainQueries
  rw [rounded_apply, scaled_apply, cut_apply 512 p slices_S4x4096x2560_S4x4096x512_0_0_512 b n k j hj]

theorem values_apply (p : FVec Ideal S4x4096x2560 .f32) (b : Fin 4) (n : Fin 4096) (k : Fin 256) (j : Fin 2560) (hj : j.val = 1280 + k.val) :
    values p (ix3 b n k) = p (ix3 b n j) := by
  unfold values
  rw [rounded_apply, cut_apply 1280 p slices_S4x4096x2560_S4x4096x256_0_0_1280 b n k j hj]

theorem plainKeys_apply (p : FVec Ideal S4x4096x2560 .f32) (b : Fin 4) (n : Fin 4096) (k : Fin 512) (j : Fin 2560) (hj : j.val = 1536 + k.val) :
    plainKeys p (ix3 b n k) = p (ix3 b n j) := by
  unfold plainKeys
  rw [rounded_apply, cut_apply 1536 p slices_S4x4096x2560_S4x4096x512_0_0_1536 b n k j hj]

theorem plainValues_apply (p : FVec Ideal S4x4096x2560 .f32) (b : Fin 4) (n : Fin 4096) (k : Fin 512) (j : Fin 2560) (hj : j.val = 2048 + k.val) :
    plainValues p (ix3 b n k) = p (ix3 b n j) := by
  unfold plainValues
  rw [rounded_apply, cut_apply 2048 p slices_S4x4096x2560_S4x4096x512_0_0_2048 b n k j hj]

end Cert.ProjRefIdeal.Val

end
-- ==== Proof.Proj.Results.lean ====
/-
  The latent projections' reference program: its rotated results as functions of the arguments.
-/
module

public import proofs.«01_k».proof.Proof.Proj.Reference

@[expose] public section

noncomputable section

open Idealize.ShloMosaic Idealize.ShloMosaic.TcCoe Idealize.SL.Sem

namespace Cert.ProjRefIdeal.Val

open Cert.ProjRefIdeal Cert.ProjRefIdeal.Gen Cert.ProjRefIdeal.Value

variable (m : (ℓ : Loc nD τ sig) → Buf (Elt Ideal) ℓ) (c : Dev nD)

/-- The product of the arguments device `c` holds. -/
abbrev product : FVec Ideal S4x4096x2560 .f32 := projected (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))

/-- The program's first result. -/
theorem queries_eq : res_out0 m c = queries (product m c) (m ((c.tc : Thread nD τ).loc main_arg7)) (m ((c.tc : Thread nD τ).loc main_arg5))
    (m ((c.tc : Thread nD τ).loc main_arg6)) := by
  show res_main_v112 m c = _
  unfold res_main_v112
  rfl

/-- The program's third result. -/
theorem keys_eq : res_out2 m c = keys (product m c) (m ((c.tc : Thread nD τ).loc main_arg8)) (m ((c.tc : Thread nD τ).loc main_arg5))
    (m ((c.tc : Thread nD τ).loc main_arg6)) := by
  show res_main_v114 m c = _
  unfold res_main_v114
  rfl

end Cert.ProjRefIdeal.Val

end
-- ==== Proof.Proj.Body.lean ====
/-
  One block of the latent projections' launch: the modulated rows times the weights, a head as the launch rotates it, and
  what the body leaves in each of its six output windows, at an index.
-/
module

public import proofs.«01_k».proof.Proof.Gen.ProjIdeal.Value
public import proofs.«01_k».proof.Proof.Ffn.Row
public import proofs.«01_k».proof.Proof.Proj.Row
public import Idealize.ShloMosaic.Lib.Pointwise
public import Idealize.ShloMosaic.Lib.Tactic
public import Idealize.ShloMosaic.Lib.VecWindow
public import Idealize.ShloMosaic.Lib.KernelVsHost

@[expose] public section

noncomputable section

open scoped BigOperators
open Idealize.ShloMosaic Idealize.ShloMosaic.TcCoe Idealize.SL.Sem

namespace Cert.ProjIdeal.Val

open Cert.ProjIdeal Cert.ProjIdeal.Gen Cert.ProjRow

/-- The block's modulated rows. -/
theorem rows_apply (x : Vec Ideal S1x512x1024 .f32) (g : Vec Ideal S1x1024 .f32) (shift scale : Vec Ideal S1x1x1024 .f32) (r : Fin 512) (d : Fin 1024) :
    k0_pay3 x g shift scale (ix2 r d) = FfnRow.modul (fun e => x (ix3 0 r e)) (fun e => g (ix2 0 e)) (fun e => shift (ix3 0 0 e))
      (fun e => scale (ix3 0 0 e)) d := by
  pointwise [k0_pay3, FfnRow.modul, FfnRow.unit]

/-- A head of 128 columns over its root mean square, scaled by `g`. -/
def unitHead (v : FVec Ideal S512x128 .f32) (g : FVec Ideal S1x128 .f32) : FVec Ideal S512x128 .f32 :=
  mulf (mulf v (broadcastTo S512x128 (rsqrt (addf (divf (shapeCast S512x1 (multiReduction .add [1] S512 (mulf v v) 0x00000000#32 reduces_S512x128_S512 (.inl rfl) rfl)
      shapeCasts_S512_S512x1) (broadcast S512x1 (Scalar.ofBits .f32 0x43000000#32))) (broadcast S512x1 (Scalar.ofBits .f32 0x358637BD#32))))
    broadcasts_S512x1_S512x128)) (broadcastTo S512x128 g broadcasts_S1x128_S512x128)

theorem unitHead_apply (v : FVec Ideal S512x128 .f32) (g : FVec Ideal S1x128 .f32) (r : Fin 512) (j : Fin 128) :
    unitHead v g (ix2 r j) = unit (fun e => v (ix2 r e)) (fun e => g (ix2 0 e)) j := by
  pointwise [unitHead, unit]

/-- A normalized head rotated: every lane times the cosines plus the lane across times the signed sines. -/
def rolledHead (v : FVec Ideal S512x128 .f32) (g : FVec Ideal S1x128 .f32) (x y : FVec Ideal S512x128 .f32) : FVec Ideal S512x128 .f32 :=
  addf (mulf (unitHead v g) x) (mulf (dynamicRotate 1 64#32 none (unitHead v g) rotates_S512x128_d1) y)

theorem rolledHead_apply (v : FVec Ideal S512x128 .f32) (g : FVec Ideal S1x128 .f32) (x y : FVec Ideal S512x128 .f32) (r : Fin 512) (j : Fin 128) :
    rolledHead v g x y (ix2 r j)
      = rolled (fun e => v (ix2 r e)) (fun e => g (ix2 0 e)) (fun e => x (ix2 r e)) (fun e => y (ix2 r e)) j := by
  have e : dynamicRotate 1 64#32 none (unitHead v g) rotates_S512x128_d1 (ix2 r j) = unitHead v g (ix2 r (across j)) :=
    dynamicRotate_apply (1 : Fin 2) 64#32 (unitHead v g) rotates_S512x128_d1 (ix2 r j) (ix2 r (across j)) fun b => by
      match b with
      | ⟨0, _⟩ => rfl
      | ⟨1, _⟩ =>
        show (j.val + 64) % 128 = (j.val + 128 - 64 % 128) % 128
        omega
  unfold rolled
  rw [← unitHead_apply, ← unitHead_apply]
  exact congrArg (fun s : EReal => unitHead v g (ix2 r j) * x (ix2 r j) + s * y (ix2 r j)) e

/-- A head scaled by a constant, as a window's column of blocks holds it. -/
def placed (t : FVec Ideal S512x128 .f32) (k : Ideal .f32) : FVec Ideal S1x512x128 .bf16 :=
  shapeCast S1x512x128 (truncf .bf16 (mulf t (broadcast S512x128 k)) bitsLt_bf16_f32) shapeCasts_S512x128_S1x512x128

theorem placed_apply (t : FVec Ideal S512x128 .f32) (k : Ideal .f32) (r : Fin 512) (j : Fin 128) :
    placed t k (ix3 0 r j) = (t (ix2 r j) : EReal) * k := by
  pointwise [placed]

/-- A head's columns, from column `o` on. -/
theorem part_apply {W : ℕ} (o : ℕ) (v : FVec Ideal ⟨2, ![512, W]⟩ .f32) (hs : (⟨2, ![512, W]⟩ : Shape).Slices ![0, o] S512x128) (r : Fin 512) (e : Fin 128)
    (j : Fin W) (hj : j.val = o + e.val) : extractStridedSlice S512x128 ![0, o] v hs (ix2 r e) = v (ix2 r j) :=
  congrArg v (funext fun a => Fin.ext (by
    match a with
    | ⟨0, _⟩ => show 0 + r.val = r.val; omega
    | ⟨1, _⟩ => exact hj.symm))

/-- Loading a whole block reads it. -/
theorem ld_all3 {A B C : ℕ} {e : EltTy} (x : Vec Ideal ⟨3, ![A, B, C]⟩ e) (inb) :
    View.ld x (Rect.unit (s := ⟨3, ![A, B, C]⟩) ![0, 0, 0] (⟨3, ![A, B, C]⟩ : Shape).size inb) = x :=
  View.ld_unit_zero (Val := Elt Ideal) (by funext a; fin_cases a <;> rfl) inb x

theorem ld_all2 {A B : ℕ} {e : EltTy} (x : Vec Ideal ⟨2, ![A, B]⟩ e) (inb) :
    View.ld x (Rect.unit (s := ⟨2, ![A, B]⟩) ![0, 0] (⟨2, ![A, B]⟩ : Shape).size inb) = x :=
  View.ld_unit_zero (Val := Elt Ideal) (by funext a; fin_cases a <;> rfl) inb x

/-- Loading some of the weights' columns, from column `o` on. -/
theorem ld_cols {W : ℕ} (o : ℕ) (w : Vec Ideal S1024x2560 .bf16) (inb) (d : Fin 1024) (k : Fin W) (j : Fin 2560) (hj : j.val = o + k.val) :
    View.ld w (Rect.unit (s := S1024x2560) ![0, o] ![1024, W] inb) (ix2 d k) = w (ix2 d j) :=
  congrArg w (funext fun a => Fin.ext (by
    match a with
    | ⟨0, _⟩ => show 0 + 1 * d.val = d.val; omega
    | ⟨1, _⟩ => show o + 1 * k.val = j.val; omega))

section Out

variable (x0 : Vec Ideal S1x512x1024 .f32) (x1 x2 : Vec Ideal S1x1x1024 .f32) (x3 : Vec Ideal S1x1024 .f32) (x4 : Vec Ideal S1024x2560 .bf16)
  (x5 x6 : Vec Ideal S512x128 .f32) (x7 x8 : Vec Ideal S1x128 .f32)

/-- A modulated row of the block times a column of the weights. -/
def prod (r : Fin 512) (k : Fin 2560) : EReal :=
  ∑ d : Fin 1024, FfnRow.modul (fun e => x0 (ix3 0 r e)) (fun e => x3 (ix2 0 e)) (fun e => x1 (ix3 0 0 e)) (fun e => x2 (ix3 0 0 e)) d * x4 (ix2 d k)

/-- The rows the body multiplies. -/
theorem lhs_apply (r : Fin 512) (d : Fin 1024) : k0_pay23 x0 x1 x2 x3 x4 x5 x6 x7 x8 (ix2 r d)
    = FfnRow.modul (fun e => x0 (ix3 0 r e)) (fun e => x3 (ix2 0 e)) (fun e => x1 (ix3 0 0 e)) (fun e => x2 (ix3 0 0 e)) d := by
  unfold k0_pay23
  rw [ld_all3, ld_all2, ld_all3, ld_all3]
  exact rows_apply x0 x3 x1 x2 r d

/-- A sum of products, its factors read. -/
theorem prod_of (r : Fin 512) (k : Fin 2560) {f w : Fin 1024 → EReal} (hf : ∀ d, f d = k0_pay23 x0 x1 x2 x3 x4 x5 x6 x7 x8 (ix2 r d))
    (hw : ∀ d, w d = x4 (ix2 d k)) : ∑ d, f d * w d = prod x0 x1 x2 x3 x4 r k :=
  Finset.sum_congr rfl fun d _ => congrArg₂ (fun s t : EReal => s * t) ((hf d).trans (lhs_apply x0 x1 x2 x3 x4 x5 x6 x7 x8 r d)) (hw d)

theorem pay15_apply (v : FVec Ideal S512x1024 .bf16) (w : Vec Ideal S1024x256 .bf16) (r : Fin 512) (k : Fin 256) :
    k0_pay15 v w (ix2 r k) = ∑ d : Fin 1024, v (ix2 r d) * w (ix2 d k) := by
  pointwise [k0_pay15]

theorem pay14_apply (v : FVec Ideal S512x1024 .bf16) (w : Vec Ideal S1024x512 .bf16) (r : Fin 512) (k : Fin 512) :
    k0_pay14 v w (ix3 0 r k) = (∑ d : Fin 1024, v (ix2 r d) * w (ix2 d k)) * Ideal.ofBits FTy.f32 0x3E000000#32 := by
  pointwise [k0_pay14]

theorem pay21_apply (v : FVec Ideal S512x1024 .bf16) (w : Vec Ideal S1024x256 .bf16) (r : Fin 512) (k : Fin 256) :
    k0_pay21 v w (ix3 0 r k) = ∑ d : Fin 1024, v (ix2 r d) * w (ix2 d k) := by
  pointwise [k0_pay21]

theorem pay1_apply (v : FVec Ideal S512x1024 .bf16) (w : Vec Ideal S1024x512 .bf16) (r : Fin 512) (k : Fin 512) :
    k0_pay1 v (k0_pay22 w) (constant S512x512 .f32 0x00000000#32) (ix3 0 r k) = ∑ d : Fin 1024, v (ix2 r d) * w (ix2 d k) := by
  pointwise [k0_pay1, k0_pay22]

theorem pay2_apply (v : FVec Ideal S512x1024 .bf16) (w : Vec Ideal S1024x512 .bf16) (r : Fin 512) (k : Fin 512) :
    k0_pay2 v w (ix3 0 r k) = ∑ d : Fin 1024, v (ix2 r d) * w (ix2 d k) := by
  pointwise [k0_pay2]

/-- The product the four heads of queries are cut from. -/
theorem four_apply (r : Fin 512) (k : Fin 512) (j : Fin 2560) (hj : j.val = 0 + k.val) :
    k0_pay26 x0 x1 x2 x3 x4 x5 x6 x7 x8 (ix2 r k) = prod x0 x1 x2 x3 x4 r j := by
  have e : k0_pay26 x0 x1 x2 x3 x4 x5 x6 x7 x8 (ix2 r k) = ∑ d : Fin 1024, k0_pay23 x0 x1 x2 x3 x4 x5 x6 x7 x8 (ix2 r d) * View.ld x4 r0_4 (ix2 d k) := by
    show k0_pay6 (View.ld x0 r0_0) (View.ld x3 r0_1) (View.ld x1 r0_2) (View.ld x2 r0_2) (View.ld x4 r0_4) (ix2 r k)
      = ∑ d : Fin 1024, k0_pay3 (View.ld x0 r0_0) (View.ld x3 r0_1) (View.ld x1 r0_2) (View.ld x2 r0_2) (ix2 r d) * View.ld x4 r0_4 (ix2 d k)
    unfold k0_pay6
    generalize k0_pay3 (View.ld x0 r0_0) (View.ld x3 r0_1) (View.ld x1 r0_2) (View.ld x2 r0_2) = v
    generalize (View.ld x4 r0_4 : Vec Ideal S1024x512 .bf16) = w
    pointwise []
  exact e.trans (prod_of x0 x1 x2 x3 x4 x5 x6 x7 x8 r j (fun _ => rfl) fun d => ld_cols 0 x4 _ d k j hj)

/-- The product the two heads of keys are cut from. -/
theorem two_apply (r : Fin 512) (k : Fin 256) (j : Fin 2560) (hj : j.val = 1024 + k.val) :
    k0_pay15 (k0_pay23 x0 x1 x2 x3 x4 x5 x6 x7 x8) (View.ld x4 r0_12) (ix2 r k) = prod x0 x1 x2 x3 x4 r j :=
  (pay15_apply _ _ r k).trans (prod_of x0 x1 x2 x3 x4 x5 x6 x7 x8 r j (fun _ => rfl) fun d => ld_cols 1024 x4 _ d k j hj)

theorem out10_apply (r : Fin 512) (k : Fin 512) (j : Fin 2560) (hj : j.val = 512 + k.val) :
    out0_10 x0 x1 x2 x3 x4 x5 x6 x7 x8 (ix3 0 r k) = prod x0 x1 x2 x3 x4 r j * Ideal.ofBits FTy.f32 0x3E000000#32 := by
  unfold out0_10
  refine (congrFun (View.canon_cons_unit_zero (Val := Elt Ideal) (S := S1x512x512) (by funext a; fin_cases a <;> rfl) inb_S1x512x512_S1x512x512_0_0_0 _ []) _).trans ?_
  refine (pay14_apply _ _ r k).trans (congrArg (fun s : EReal => s * Ideal.ofBits FTy.f32 0x3E000000#32) ?_)
  exact prod_of x0 x1 x2 x3 x4 x5 x6 x7 x8 r j (fun _ => rfl) fun d => ld_cols 512 x4 _ d k j hj

theorem out12_apply (r : Fin 512) (k : Fin 256) (j : Fin 2560) (hj : j.val = 1280 + k.val) :
    out0_12 x0 x1 x2 x3 x4 x5 x6 x7 x8 (ix3 0 r k) = prod x0 x1 x2 x3 x4 r j := by
  unfold out0_12
  refine (congrFun (View.canon_cons_unit_zero (Val := Elt Ideal) (S := S1x512x256) (by funext a; fin_cases a <;> rfl) inb_S1x512x256_S1x512x256_0_0_0 _ []) _).trans ?_
  refine (pay21_apply _ _ r k).trans ?_
  exact prod_of x0 x1 x2 x3 x4 x5 x6 x7 x8 r j (fun _ => rfl) fun d => ld_cols 1280 x4 _ d k j hj

theorem out13_apply (r : Fin 512) (k : Fin 512) (j : Fin 2560) (hj : j.val = 1536 + k.val) :
    out0_13 x0 x1 x2 x3 x4 x5 x6 x7 x8 (ix3 0 r k) = prod x0 x1 x2 x3 x4 r j := by
  unfold out0_13
  refine (congrFun (View.canon_cons_unit_zero (Val := Elt Ideal) (S := S1x512x512) (by funext a; fin_cases a <;> rfl) inb_S1x512x512_S1x512x512_0_0_0 _ []) _).trans ?_
  refine (pay1_apply _ _ r k).trans ?_
  exact prod_of x0 x1 x2 x3 x4 x5 x6 x7 x8 r j (fun _ => rfl) fun d => ld_cols 1536 x4 _ d k j hj

theorem out14_apply (r : Fin 512) (k : Fin 512) (j : Fin 2560) (hj : j.val = 2048 + k.val) :
    out0_14 x0 x1 x2 x3 x4 x5 x6 x7 x8 (ix3 0 r k) = prod x0 x1 x2 x3 x4 r j := by
  unfold out0_14
  refine (congrFun (View.canon_cons_unit_zero (Val := Elt Ideal) (S := S1x512x512) (by funext a; fin_cases a <;> rfl) inb_S1x512x512_S1x512x512_0_0_0 _ []) _).trans ?_
  refine (pay2_apply _ _ r k).trans ?_
  exact prod_of x0 x1 x2 x3 x4 x5 x6 x7 x8 r j (fun _ => rfl) fun d => ld_cols 2048 x4 _ d k j hj

/-- Lane `j` of the block's head whose first column is `o`, rotated and scaled by `k`. -/
def lanes (o : ℕ) (ho : o + 128 ≤ 2560) (g : Vec Ideal S1x128 .f32) (k : EReal) (r : Fin 512) (j : Fin 128) : EReal :=
  rolled (fun e => prod x0 x1 x2 x3 x4 r ⟨o + e.val, by omega⟩) (fun e => g (ix2 0 e)) (fun e => x5 (ix2 r e)) (fun e => x6 (ix2 r e)) j * k

/-- A head cut from a product, rotated, scaled and placed. -/
theorem placed_lanes {W : ℕ} (s o : ℕ) (hs : s + 128 ≤ W) (ho : o + 128 ≤ 2560) (v : FVec Ideal ⟨2, ![512, W]⟩ .f32)
    (hv : ∀ (r : Fin 512) (k : Fin W) (j : Fin 2560), j.val + s = o + k.val → v (ix2 r k) = prod x0 x1 x2 x3 x4 r j)
    (hc : (⟨2, ![512, W]⟩ : Shape).Slices ![0, s] S512x128) (g : Vec Ideal S1x128 .f32) (k : Ideal .f32) (r : Fin 512) (j : Fin 128) :
    placed (rolledHead (extractStridedSlice S512x128 ![0, s] v hc) g x5 x6) k (ix3 0 r j) = lanes x0 x1 x2 x3 x4 x5 x6 o ho g k r j := by
  rw [placed_apply, rolledHead_apply]
  unfold lanes
  have e : (fun e : Fin 128 => (extractStridedSlice S512x128 ![0, s] v hc (ix2 r e) : EReal)) = fun e => prod x0 x1 x2 x3 x4 r ⟨o + e.val, by omega⟩ :=
    funext fun e => (part_apply s v hc r e ⟨s + e.val, by omega⟩ rfl).trans (hv r _ _ (by show o + e.val + s = o + (s + e.val); omega))
  exact congrArg (fun p : Fin 128 → EReal => rolled p (fun e => g (ix2 0 e)) (fun e => x5 (ix2 r e)) (fun e => x6 (ix2 r e)) j * k) e

end Out

end Cert.ProjIdeal.Val

end
-- ==== Proof.Proj.Rotated.lean ====
/-
  One block of the latent projections' launch: the two output windows its rotated heads are stored in, head by head.
-/
module

public import proofs.«01_k».proof.Proof.Proj.Body

@[expose] public section

noncomputable section

open scoped BigOperators
open Idealize.ShloMosaic Idealize.ShloMosaic.TcCoe Idealize.SL.Sem

namespace Cert.ProjIdeal.Val

open Cert.ProjIdeal Cert.ProjIdeal.Gen Cert.ProjRow

variable (x0 : Vec Ideal S1x512x1024 .f32) (x1 x2 : Vec Ideal S1x1x1024 .f32) (x3 : Vec Ideal S1x1024 .f32) (x4 : Vec Ideal S1024x2560 .bf16)
  (x5 x6 : Vec Ideal S512x128 .f32) (x7 x8 : Vec Ideal S1x128 .f32)

/-- The cosines and the sines the body reads, and the gains. -/
theorem cos_eq : k0_pay24 x0 x1 x2 x3 x4 x5 x6 x7 x8 = x5 := by
  unfold k0_pay24 k0_pay4
  rw [ld_all2]
  exact shapeCast_self x5 shapeCasts_S512x128_S512x128

theorem sin_eq : k0_pay25 x0 x1 x2 x3 x4 x5 x6 x7 x8 = x6 := by
  unfold k0_pay25 k0_pay5
  rw [ld_all2]
  exact shapeCast_self x6 shapeCasts_S512x128_S512x128

theorem gain_eq (g : Vec Ideal S1x128 .f32) : k0_pay7 g = g := shapeCast_self g shapeCasts_S1x128_S1x128

/-- Head `h` of the window of queries, and of the window of keys, as one function of the window's index. -/
def queryLanes (y : S1x512x512.Idx) : EReal :=
  lanes x0 x1 x2 x3 x4 x5 x6 ((y 2).val / 128 * 128) (by have h : (y 2).val < 512 := (y 2).isLt; omega) x7 (Ideal.ofBits FTy.f32 0x3DB504F3#32) (y 1)
    ⟨(y 2).val % 128, Nat.mod_lt _ (by omega)⟩

def keyLanes (y : S1x512x256.Idx) : EReal :=
  lanes x0 x1 x2 x3 x4 x5 x6 (1024 + (y 2).val / 128 * 128) (by have h : (y 2).val < 256 := (y 2).isLt; omega) x8 1 (y 1)
    ⟨(y 2).val % 128, Nat.mod_lt _ (by omega)⟩

/-- Lanes agree where the head's first column, the row and the lane do. -/
theorem lanes_congr {o o' : ℕ} (ho : o + 128 ≤ 2560) (ho' : o' + 128 ≤ 2560) (e : o = o') (g : Vec Ideal S1x128 .f32) (k : EReal) {r r' : Fin 512} (er : r = r')
    {j j' : Fin 128} (ej : j = j') : lanes x0 x1 x2 x3 x4 x5 x6 o ho g k r j = lanes x0 x1 x2 x3 x4 x5 x6 o' ho' g k r' j' := by
  subst e er ej
  rfl

/-- A store of a head of queries holds the window's function there. -/
theorem query_piece (s : ℕ) (hs : s + 128 ≤ 512) (hd : s % 128 = 0) (hc : S512x512.Slices ![0, s] S512x128) (inb) (x : S1x512x128.Idx) :
    placed (rolledHead (extractStridedSlice S512x128 ![0, s] (k0_pay26 x0 x1 x2 x3 x4 x5 x6 x7 x8) hc) x7 x5 x6) (Ideal.ofBits FTy.f32 0x3DB504F3#32) x
      = queryLanes x0 x1 x2 x3 x4 x5 x6 x7 ((Rect.unit (s := S1x512x512) ![0, 0, s] S1x512x128.size inb).emb x) := by
  have hx : x = ix3 (0 : Fin 1) (x 1) (x 2) := funext fun a => by
    match a with
    | ⟨0, _⟩ => exact Fin.ext (by have h : (x 0).val < 1 := (x 0).isLt; show (x 0).val = 0; omega)
    | ⟨1, _⟩ => rfl
    | ⟨2, _⟩ => rfl
  have h2 : (x 2).val < 128 := (x 2).isLt
  rw [hx]
  refine (placed_lanes x0 x1 x2 x3 x4 x5 x6 s s hs (by omega) (k0_pay26 x0 x1 x2 x3 x4 x5 x6 x7 x8)
    (fun r k j hj => four_apply x0 x1 x2 x3 x4 x5 x6 x7 x8 r k j (by omega)) hc x7 _ (x 1) (x 2)).trans ?_
  refine lanes_congr x0 x1 x2 x3 x4 x5 x6 _ _ ?_ x7 _ (Fin.ext ?_) (Fin.ext ?_)
  · show s = (s + 1 * (x 2).val) / 128 * 128; omega
  · show (x 1).val = 0 + 1 * (x 1).val; omega
  · show (x 2).val = (s + 1 * (x 2).val) % 128; omega

/-- A store of a head of keys holds the window's function there. -/
theorem key_piece (s : ℕ) (hs : s + 128 ≤ 256) (hd : s % 128 = 0) (hc : S512x256.Slices ![0, s] S512x128) (inb) (x : S1x512x128.Idx) :
    placed (rolledHead (extractStridedSlice S512x128 ![0, s] (k0_pay15 (k0_pay23 x0 x1 x2 x3 x4 x5 x6 x7 x8) (View.ld x4 r0_12)) hc) x8 x5 x6)
        (Ideal.ofBits FTy.f32 0x3F800000#32) x
      = keyLanes x0 x1 x2 x3 x4 x5 x6 x8 ((Rect.unit (s := S1x512x256) ![0, 0, s] S1x512x128.size inb).emb x) := by
  have hx : x = ix3 (0 : Fin 1) (x 1) (x 2) := funext fun a => by
    match a with
    | ⟨0, _⟩ => exact Fin.ext (by have h : (x 0).val < 1 := (x 0).isLt; show (x 0).val = 0; omega)
    | ⟨1, _⟩ => rfl
    | ⟨2, _⟩ => rfl
  have h2 : (x 2).val < 128 := (x 2).isLt
  have h1 : Ideal.ofBits FTy.f32 0x3F800000#32 = (1 : EReal) := by pointwise []
  rw [hx, h1]
  refine (placed_lanes x0 x1 x2 x3 x4 x5 x6 s (1024 + s) hs (by omega) (k0_pay15 (k0_pay23 x0 x1 x2 x3 x4 x5 x6 x7 x8) (View.ld x4 r0_12))
    (fun r k j hj => two_apply x0 x1 x2 x3 x4 x5 x6 x7 x8 r k j (by omega)) hc x8 _ (x 1) (x 2)).trans ?_
  refine lanes_congr x0 x1 x2 x3 x4 x5 x6 _ _ ?_ x8 _ (Fin.ext ?_) (Fin.ext ?_)
  · show 1024 + s = 1024 + (s + 1 * (x 2).val) / 128 * 128; omega
  · show (x 1).val = 0 + 1 * (x 1).val; omega
  · show (x 2).val = (s + 1 * (x 2).val) % 128; omega

/-- The stores' payloads are heads placed. -/
theorem pay8_eq (x y : FVec Ideal S512x128 .f32) (v : FVec Ideal S512x512 .f32) (g : Vec Ideal S1x128 .f32) : k0_pay8 x y v g
    = placed (rolledHead (extractStridedSlice S512x128 ![0, 0] v slices_S512x512_o0_0_S512x128) (k0_pay7 g) x y) (Ideal.ofBits FTy.f32 0x3DB504F3#32) := rfl

theorem pay10_eq (x y : FVec Ideal S512x128 .f32) (v : FVec Ideal S512x512 .f32) (g : Vec Ideal S1x128 .f32) : k0_pay10 (k0_pay9 x y v g)
    = placed (rolledHead (extractStridedSlice S512x128 ![0, 128] v slices_S512x512_o0_128_S512x128) (k0_pay7 g) x y) (Ideal.ofBits FTy.f32 0x3DB504F3#32) := rfl

theorem pay11_eq (x y : FVec Ideal S512x128 .f32) (v : FVec Ideal S512x512 .f32) (g : FVec Ideal S1x128 .f32) : k0_pay11 x y v g
    = placed (rolledHead (extractStridedSlice S512x128 ![0, 256] v slices_S512x512_o0_256_S512x128) g x y) (Ideal.ofBits FTy.f32 0x3DB504F3#32) := rfl

theorem pay13_eq (x y : FVec Ideal S512x128 .f32) (v : FVec Ideal S512x512 .f32) (g : FVec Ideal S1x128 .f32) :
    k0_pay13 (k0_pay12 x y v g) (Scalar.ofBits .f32 0x3DB504F3#32)
      = placed (rolledHead (extractStridedSlice S512x128 ![0, 384] v slices_S512x512_o0_384_S512x128) g x y) (Ideal.ofBits FTy.f32 0x3DB504F3#32) := rfl

theorem pay19_eq (l : FVec Ideal S512x1024 .bf16) (x y : FVec Ideal S512x128 .f32) (w : Vec Ideal S1024x256 .bf16) (g : Vec Ideal S1x128 .f32) :
    k0_pay19 (k0_pay17 l x y w g) (k0_pay18 (F := Ideal))
      = placed (rolledHead (extractStridedSlice S512x128 ![0, 0] (k0_pay15 l w) slices_S512x256_o0_0_S512x128) (k0_pay16 g) x y) (Ideal.ofBits FTy.f32 0x3F800000#32) := rfl

theorem pay20_eq (x y : FVec Ideal S512x128 .f32) (v : FVec Ideal S512x256 .f32) (g : FVec Ideal S1x128 .f32) : k0_pay20 x y v g
    = placed (rolledHead (extractStridedSlice S512x128 ![0, 128] v slices_S512x256_o0_128_S512x128) g x y) (Ideal.ofBits FTy.f32 0x3F800000#32) := rfl

/-- The window of queries. -/
theorem out9_eq (y : S1x512x512.Idx) : out0_9 x0 x1 x2 x3 x4 x5 x6 x7 x8 y = queryLanes x0 x1 x2 x3 x4 x5 x6 x7 y := by
  unfold out0_9 k0_pay27
  rw [pay13_eq, pay11_eq, pay10_eq, pay8_eq, cos_eq, sin_eq, gain_eq, ld_all2 x7]
  refine View.canon_apply_of_pieces (Val := Elt Ideal) (S := S1x512x512) (e := .bf16) (queryLanes x0 x1 x2 x3 x4 x5 x6 x7) _ (fun p hp => ?_) y (cover0_9 _ _ _ _ y)
  simp only [List.mem_cons, List.not_mem_nil, or_false] at hp
  rcases hp with h | h | h | h <;> subst h
  · exact query_piece x0 x1 x2 x3 x4 x5 x6 x7 x8 384 (by omega) (by omega) slices_S512x512_o0_384_S512x128 inb_S1x512x512_S1x512x128_0_0_384
  · exact query_piece x0 x1 x2 x3 x4 x5 x6 x7 x8 256 (by omega) (by omega) slices_S512x512_o0_256_S512x128 inb_S1x512x512_S1x512x128_0_0_256
  · exact query_piece x0 x1 x2 x3 x4 x5 x6 x7 x8 128 (by omega) (by omega) slices_S512x512_o0_128_S512x128 inb_S1x512x512_S1x512x128_0_0_128
  · exact query_piece x0 x1 x2 x3 x4 x5 x6 x7 x8 0 (by omega) (by omega) slices_S512x512_o0_0_S512x128 inb_S1x512x512_S1x512x128_0_0_0

/-- The window of keys. -/
theorem out11_eq (y : S1x512x256.Idx) : out0_11 x0 x1 x2 x3 x4 x5 x6 x7 x8 y = keyLanes x0 x1 x2 x3 x4 x5 x6 x8 y := by
  unfold out0_11
  rw [pay20_eq, pay19_eq, cos_eq, sin_eq, show ∀ g : Vec Ideal S1x128 .f32, k0_pay16 g = g from gain_eq, ld_all2 x8]
  refine View.canon_apply_of_pieces (Val := Elt Ideal) (S := S1x512x256) (e := .bf16) (keyLanes x0 x1 x2 x3 x4 x5 x6 x8) _ (fun p hp => ?_) y (cover0_11 _ _ y)
  simp only [List.mem_cons, List.not_mem_nil, or_false] at hp
  rcases hp with h | h <;> subst h
  · exact key_piece x0 x1 x2 x3 x4 x5 x6 x7 x8 128 (by omega) (by omega) slices_S512x256_o0_128_S512x128 inb_S1x512x256_S1x512x128_0_0_128
  · exact key_piece x0 x1 x2 x3 x4 x5 x6 x7 x8 0 (by omega) (by omega) slices_S512x256_o0_0_S512x128 inb_S1x512x256_S1x512x128_0_0_0

end Cert.ProjIdeal.Val

end
-- ==== Proof.Proj.Entries.lean ====
/-
  The arrays the host gives the latent projections' launch: the weights' columns and the gains' entries reordered within the
  rotated heads, the cosines twice, and the sines negated before themselves.
-/
module

public import proofs.«01_k».proof.Proof.Gen.ProjIdeal.Value
public import proofs.«01_k».proof.Proof.Proj.Heads
public import Idealize.ShloMosaic.Lib.Pointwise
public import Idealize.ShloMosaic.Lib.Tactic
public import Idealize.ShloMosaic.Lib.Routing.OpsSet

@[expose] public section

noncomputable section

open Idealize.ShloMosaic Idealize.ShloMosaic.TcCoe Idealize.SL.Sem

namespace Cert.ProjIdeal.Val

open Cert.ProjIdeal Cert.ProjIdeal.Gen Cert.ProjRow

/-- Axis 0 of two is not among the axes `[1]`. -/
theorem zero_not_mem (l : List (Fin 2)) (hl : l = [1]) : (0 : Fin 2) ∉ l := fun h => by
  rw [hl] at h
  exact absurd (List.mem_singleton.1 h) (by decide)

/-- Columns gathered from a matrix: where the indices hold a column number, the result's column is that column. -/
theorem gather_cols {α : Type} {A N n : ℕ} (d : GatherDims ⟨2, ![A, N]⟩ ⟨2, ![n, 1]⟩ ⟨2, ![A, n]⟩) (hoff : d.offsetDims = [0])
    (hcoll : d.collapsedSliceDims = [1]) (hbatch : d.operandBatchingDims = []) (hstart : d.startIndexMap = [1]) (hvec : d.indexVectorDim = 1)
    (x : (⟨2, ![A, N]⟩ : Shape).Idx → α) (idx : IVec ⟨2, ![n, 1]⟩ 32) (a : Fin A) (k : Fin n) (j : Fin N) (hj : idx (ix2 k 0) = BitVec.ofNat 32 j.val)
    (hN : N < 2 ^ 31) : Host.gather d x idx (ix2 a k) = x (ix2 a j) := by
  have none : ∀ q, q ∉ d.operandBatchingDims := fun q => by rw [hbatch]; exact List.not_mem_nil
  have batch : ∀ q ∈ d.batchDims, q = (1 : Fin 2) := fun q hq => by
    have h : q ∉ d.offsetDims := of_decide_eq_true (List.mem_filter.1 hq).2
    rw [hoff] at h
    have h0 : q.val ≠ 0 := fun e => h (List.mem_singleton.2 (Fin.ext e))
    have h2 : q.val < 2 := q.isLt
    exact Fin.ext (by show q.val = 1; omega)
  have offset : ∀ q ∈ d.offsetDims, q = (0 : Fin 2) := fun q hq => by rw [hoff] at hq; exact List.mem_singleton.1 hq
  have at0 : ∀ q : Fin 2, q = 0 → ((ix2 a k : (⟨2, ![A, n]⟩ : Shape).Idx) q).val = a.val := fun q h => by subst h; rfl
  have at1 : ∀ q : Fin 2, q = 1 → ((ix2 a k : (⟨2, ![A, n]⟩ : Shape).Idx) q).val = k.val := fun q h => by subst h; rfl
  unfold Host.gather
  refine congrArg x (funext fun q => Fin.ext ?_)
  match q with
  | ⟨0, _⟩ =>
    have kept : (0 : Fin 2) ∈ d.sKept := (d.mem_sKept 0).2 ⟨zero_not_mem _ hcoll, none 0⟩
    have free : (0 : Fin 2) ∉ d.startIndexMap := zero_not_mem _ hstart
    show d.start (ix2 a k) idx 0 + d.batchCoord (ix2 a k) 0 + d.offCoord (ix2 a k) 0 = a.val
    rw [d.batchCoord_eq_zero _ _ (none 0), Nat.add_zero]
    unfold GatherDims.start GatherDims.offCoord
    rw [dif_neg free, dif_pos kept, Nat.zero_add]
    exact at0 _ (offset _ (List.getElem_mem _))
  | ⟨1, _⟩ =>
    have coll : (1 : Fin 2) ∈ d.collapsedSliceDims := by rw [hcoll]; exact List.mem_singleton.2 rfl
    have dropped : (1 : Fin 2) ∉ d.sKept := fun h => ((d.mem_sKept 1).1 h).1 coll
    have named : (1 : Fin 2) ∈ d.startIndexMap := by rw [hstart]; exact List.mem_singleton.2 rfl
    have one : d.sliceSizes 1 = 1 := d.slice_collapsed 1 coll
    have row : d.siIdx (ix2 a k) ⟨d.startIndexMap.idxOf 1, List.idxOf_lt_length_iff.2 named⟩ = ix2 k (0 : Fin 1) := by
      funext q'
      apply Fin.ext
      match q' with
      | ⟨0, _⟩ =>
        unfold GatherDims.siIdx
        rw [dif_neg (by rw [hvec]; exact Nat.zero_ne_one)]
        unfold GatherDims.siCoord
        simp only [Fin.val_cast]
        exact at1 _ (batch _ (List.getElem_mem _))
      | ⟨1, _⟩ =>
        unfold GatherDims.siIdx
        rw [dif_pos (by rw [hvec])]
        show List.idxOf (1 : Fin 2) d.startIndexMap = 0
        rw [hstart]; simp
    have lt := j.isLt
    show d.start (ix2 a k) idx 1 + d.batchCoord (ix2 a k) 1 + d.offCoord (ix2 a k) 1 = j.val
    rw [d.batchCoord_eq_zero _ _ (none 1), d.offCoord_eq_zero _ _ dropped, Nat.add_zero]
    unfold GatherDims.start
    rw [dif_pos named, row, hj, one, StableHlo.Predicate.toInt_ofNat_small _ (by omega)]
    show min ((j.val : ℤ)).toNat (N - 1) = j.val
    omega

/-- The columns the weights are reordered by. -/
theorem columns_eq : ∀ k : Fin 2560, lit0 k = BitVec.ofNat 32 (source k).val := by decide +kernel

/-- The channels a head is reordered by. -/
theorem channels_eq : ∀ j : Fin 128, lit1 j = BitVec.ofNat 32 (held j).val := by decide +kernel

/-- A table of `n` numbers, none of them wrapped, as a column. -/
theorem table_apply {n : ℕ} (f : Fin n → BitVec 32) (u : IVec ⟨1, ![n]⟩ 32) (h : (⟨1, ![n]⟩ : Shape).BroadcastsInDim ⟨2, ![n, 1]⟩ ![0]) (v : IVec ⟨1, ![n]⟩ 32)
    (k : Fin n) (hv : v (ix1 k) = f k) : broadcastInDim ⟨2, ![n, 1]⟩ ![0] h (select (constantI ⟨1, ![n]⟩ 1 0#1) u v) (ix2 k 0) = f k := by
  refine (ProjHeads.spread _ ![0] h (ix2 k 0) (ix1 k) fun a => ?_).trans ?_
  · match a with
    | ⟨0, _⟩ =>
      show (if n = 1 then 0 else k.val) = k.val
      have := k.isLt
      split <;> omega
  · exact hv

variable (m : (ℓ : Loc nD τ sig) → Buf (Elt Ideal) ℓ)

/-- The weights, their columns reordered. -/
theorem entry_w (c : Dev nD) (d : Fin 1024) (k : Fin 2560) : (V m c main_v5 : FVec Ideal S1024x2560 .bf16) (ix2 d k)
    = (m ((c : Thread nD τ).loc main_arg4) : FVec Ideal S1024x2560 .f32) (ix2 d (source k)) := by
  have e : (V m c main_v5 : FVec Ideal S1024x2560 .bf16) = (truncf (F := Ideal) (s := S1024x2560) .bf16 (Host.gather gather_S1024x2560_S2560x1_S1024x2560_0_1_n_n_1_1_10241
      (m ((c : Thread nD τ).loc main_arg4) : FVec Ideal S1024x2560 .f32) (broadcastInDim S2560x1 ![0] bcast_S2560_S2560x1_0 (select (constantI S2560 1 0#1)
        (addi (fun i => lit0 (S2560.rowMajor i)) (broadcastInDim S2560 ![] bcast_S_S2560 (constantI S_ 32 2560#32))) (fun i => lit0 (S2560.rowMajor i))))
      : FVec Ideal S1024x2560 .f32) bitsLt_bf16_f32 : FVec Ideal S1024x2560 .bf16) := by
    show StableHlo.after hostOps0 _ (Proc.devRef .tc main_v5) = _
    after_results
    rfl
  rw [e]
  refine gather_cols _ rfl rfl rfl rfl rfl (m ((c : Thread nD τ).loc main_arg4) : FVec Ideal S1024x2560 .f32) _ d k (source k)
    ((table_apply lit0 _ _ _ k ?_).trans (columns_eq k)) (by decide)
  exact congrArg lit0 (Fin.ext (Shape.rowMajor_val_one (ix1 k)))

/-- A vector of one row, its entries named by a table. -/
theorem gains_apply (x : FVec Ideal S128 .f32) (u : IVec S128 32) (j : Fin 128) :
    shapeCast S1x128 (Host.gather gather_S128_S128x1_S128_n_0_n_n_0_1_1 x (broadcastInDim S128x1 ![0] bcast_S128_S128x1_0 (select (constantI S128 1 0#1)
      u (fun i => lit1 (S128.rowMajor i))))) shapeCasts_S128_S1x128 (ix2 0 j) = x (ix1 (held j)) := by
  refine (shapeCast_apply _ shapeCasts_S128_S1x128 _ (ix1 j) (by
    rw [Shape.rowMajor_val_one, Shape.rowMajor_val_two]
    show j.val = 0 * 128 + j.val
    omega)).trans ?_
  refine Routing.gather_take1 _ rfl rfl rfl rfl x _ j (held j) ((table_apply lit1 _ _ _ j ?_).trans (channels_eq j)) (by decide)
  exact congrArg lit1 (Fin.ext (Shape.rowMajor_val_one (ix1 j)))

/-- The queries' gains, reordered. -/
theorem entry_qg (c : Dev nD) (j : Fin 128) : (V m c main_v11 : FVec Ideal S1x128 .f32) (ix2 0 j)
    = (m ((c : Thread nD τ).loc main_arg7) : FVec Ideal S128 .f32) (ix1 (held j)) := by
  have e : (V m c main_v11 : FVec Ideal S1x128 .f32) = shapeCast S1x128 (Host.gather gather_S128_S128x1_S128_n_0_n_n_0_1_1
      (m ((c : Thread nD τ).loc main_arg7) : FVec Ideal S128 .f32) (broadcastInDim S128x1 ![0] bcast_S128_S128x1_0 (select (constantI S128 1 0#1)
        (addi (fun i => lit1 (S128.rowMajor i)) (broadcastInDim S128 ![] bcast_S_S128 (constantI S_ 32 128#32))) (fun i => lit1 (S128.rowMajor i)))))
      shapeCasts_S128_S1x128 := by
    show StableHlo.after hostOps0 _ (Proc.devRef .tc main_v11) = _
    after_results
    rfl
  rw [e]
  exact gains_apply _ _ j

/-- The keys' gains, reordered. -/
theorem entry_kg (c : Dev nD) (j : Fin 128) : (V m c main_v17 : FVec Ideal S1x128 .f32) (ix2 0 j)
    = (m ((c : Thread nD τ).loc main_arg8) : FVec Ideal S128 .f32) (ix1 (held j)) := by
  have e : (V m c main_v17 : FVec Ideal S1x128 .f32) = shapeCast S1x128 (Host.gather gather_S128_S128x1_S128_n_0_n_n_0_1_1
      (m ((c : Thread nD τ).loc main_arg8) : FVec Ideal S128 .f32) (broadcastInDim S128x1 ![0] bcast_S128_S128x1_0 (select (constantI S128 1 0#1)
        (addi (fun i => lit1 (S128.rowMajor i)) (broadcastInDim S128 ![] bcast_S_S128 (constantI S_ 32 128#32))) (fun i => lit1 (S128.rowMajor i)))))
      shapeCasts_S128_S1x128 := by
    show StableHlo.after hostOps0 _ (Proc.devRef .tc main_v17) = _
    after_results
    rfl
  rw [e]
  exact gains_apply _ _ j

/-- The rows' gain. -/
theorem entry_g (c : Dev nD) (d : Fin 1024) : (V m c main_v21 : FVec Ideal S1x1024 .f32) (ix2 0 d)
    = (m ((c : Thread nD τ).loc main_arg3) : FVec Ideal S1024 .f32) (ix1 d) := by
  have e : (V m c main_v21 : FVec Ideal S1x1024 .f32) = shapeCast S1x1024 (m ((c : Thread nD τ).loc main_arg3) : FVec Ideal S1024 .f32) shapeCasts_S1024_S1x1024 := by
    show StableHlo.after hostOps0 _ (Proc.devRef .tc main_v21) = _
    after_results
    rfl
  rw [e]
  exact shapeCast_apply _ shapeCasts_S1024_S1x1024 _ (ix1 d) (by
    rw [Shape.rowMajor_val_one, Shape.rowMajor_val_two]
    show d.val = 0 * 1024 + d.val
    omega)

/-- Two tables of angles side by side: a lane of half `c`. -/
theorem halves_apply {α : Type} {A : ℕ} (u v : (⟨2, ![A, 64]⟩ : Shape).Idx → α) (hc : Shape.Concatenates [⟨2, ![A, 64]⟩, ⟨2, ![A, 64]⟩] ⟨2, ![A, 128]⟩ 1)
    (n : Fin A) (i : Fin 64) (c : Fin 2) : concatenate ⟨2, ![A, 128]⟩ 1 [⟨⟨2, ![A, 64]⟩, u⟩, ⟨⟨2, ![A, 64]⟩, v⟩] hc (ix2 n (lane c i))
      = if c = 0 then u (ix2 n i) else v (ix2 n i) := by
  match c with
  | ⟨0, _⟩ =>
    refine Eq.trans ?_ (if_pos rfl).symm
    refine concatenate_pair_apply_left (s₁ := ⟨2, ![A, 64]⟩) (s₂ := ⟨2, ![A, 64]⟩) 1 u v hc _ rfl _ fun d => ?_
    match d with
    | ⟨0, _⟩ => rfl
    | ⟨1, _⟩ => show i.val = 0 * 64 + i.val; omega
  | ⟨1, _⟩ =>
    refine Eq.trans ?_ (if_neg (fun e => absurd (congrArg Fin.val e) Nat.one_ne_zero)).symm
    refine concatenate_pair_apply_right (s₁ := ⟨2, ![A, 64]⟩) (s₂ := ⟨2, ![A, 64]⟩) 1 u v hc _ rfl rfl _ (fun d hd => ?_) ?_
    · match d with
      | ⟨0, _⟩ => rfl
      | ⟨1, _⟩ => exact absurd rfl hd
    · show i.val + 64 = 1 * 64 + i.val
      omega

/-- The cosines, in both halves. -/
theorem entry_cos (c : Dev nD) (n : Fin 4096) (h : Fin 2) (i : Fin 64) : (V m c main_v18 : FVec Ideal S4096x128 .f32) (ix2 n (lane h i))
    = (m ((c : Thread nD τ).loc main_arg5) : FVec Ideal S4096x64 .f32) (ix2 n i) := by
  have e : (V m c main_v18 : FVec Ideal S4096x128 .f32) = concatenate S4096x128 1 [⟨S4096x64, (m ((c : Thread nD τ).loc main_arg5) : FVec Ideal S4096x64 .f32)⟩,
      ⟨S4096x64, (m ((c : Thread nD τ).loc main_arg5) : FVec Ideal S4096x64 .f32)⟩] concatenates_S4096x64_S4096x64_S4096x128_d1 := by
    show StableHlo.after hostOps0 _ (Proc.devRef .tc main_v18) = _
    after_results
  rw [e, halves_apply]
  split <;> rfl

/-- The sines, negated in the first half. -/
def signed (s : FVec Ideal S4096x64 .f32) : FVec Ideal S4096x128 .f32 :=
  concatenate S4096x128 1 [⟨S4096x64, (Host.negf s : FVec Ideal S4096x64 .f32)⟩, ⟨S4096x64, s⟩] concatenates_S4096x64_S4096x64_S4096x128_d1

theorem signed_first (s : FVec Ideal S4096x64 .f32) (n : Fin 4096) (i : Fin 64) : signed s (ix2 n (lane 0 i)) = @Neg.neg EReal _ (s (ix2 n i)) :=
  (halves_apply _ _ _ n i 0).trans (if_pos rfl)

theorem signed_second (s : FVec Ideal S4096x64 .f32) (n : Fin 4096) (i : Fin 64) : signed s (ix2 n (lane 1 i)) = s (ix2 n i) :=
  (halves_apply _ _ _ n i 1).trans (if_neg (by decide))

theorem entry_sin (c : Dev nD) : (V m c main_v20 : FVec Ideal S4096x128 .f32) = signed (m ((c : Thread nD τ).loc main_arg6) : FVec Ideal S4096x64 .f32) := by
  show StableHlo.after hostOps0 _ (Proc.devRef .tc main_v20) = _
  after_results
  rfl

end Cert.ProjIdeal.Val

end
-- ==== Proof.Proj.Blocks.lean ====
/-
  The latent projections' launch: where each window's block lies at a grid point (the batch `t / 8`, the row block `t mod 8`),
  the blocks it is given read from the arguments, and the results' blocks, which cover the results.
-/
module

public import proofs.«01_k».proof.Proof.Proj.Entries

@[expose] public section

noncomputable section

open Idealize.ShloMosaic Idealize.ShloMosaic.TcCoe Idealize.SL.Sem

namespace Cert.ProjIdeal.Val

open Cert.ProjIdeal Cert.ProjIdeal.Gen Cert.ProjRow

/-- A window of row blocks, of a batch's one row, of a row block's angles, and of a whole array: their block indices at point `t`. -/
abbrev Rows (f : Fin 3 → ℕ) (t : ℕ) : Prop := f 0 = t / 8 ∧ f 1 = t % 8 ∧ f 2 = 0
abbrev Batch (f : Fin 3 → ℕ) (t : ℕ) : Prop := f 0 = t / 8 ∧ f 1 = 0 ∧ f 2 = 0
abbrev Angles (f : Fin 2 → ℕ) (t : ℕ) : Prop := f 0 = t % 8 ∧ f 1 = 0
abbrev Still (f : Fin 2 → ℕ) : Prop := f 0 = 0 ∧ f 1 = 0

/-- The input windows' block indices. -/
theorem given : ∀ t : Fin cfg0.N, Rows (win0_0.index t) t.val ∧ (Batch (win0_1.index t) t.val ∧ Batch (win0_2.index t) t.val)
    ∧ (Still (win0_3.index t) ∧ Still (win0_4.index t)) ∧ (Angles (win0_5.index t) t.val ∧ Angles (win0_6.index t) t.val)
    ∧ (Still (win0_7.index t) ∧ Still (win0_8.index t)) :=
  (by decide +kernel : ∀ t : Fin grid0.N, Rows (win0_0.index t) t.val ∧ (Batch (win0_1.index t) t.val ∧ Batch (win0_2.index t) t.val)
    ∧ (Still (win0_3.index t) ∧ Still (win0_4.index t)) ∧ (Angles (win0_5.index t) t.val ∧ Angles (win0_6.index t) t.val)
    ∧ (Still (win0_7.index t) ∧ Still (win0_8.index t)))

/-- The output windows' block indices. -/
theorem left : ∀ t : Fin cfg0.N, (Rows (win0_9.index t) t.val ∧ Rows (win0_10.index t) t.val) ∧ (Rows (win0_11.index t) t.val ∧ Rows (win0_12.index t) t.val)
    ∧ (Rows (win0_13.index t) t.val ∧ Rows (win0_14.index t) t.val) :=
  (by decide +kernel : ∀ t : Fin grid0.N, (Rows (win0_9.index t) t.val ∧ Rows (win0_10.index t) t.val) ∧ (Rows (win0_11.index t) t.val ∧ Rows (win0_12.index t) t.val)
    ∧ (Rows (win0_13.index t) t.val ∧ Rows (win0_14.index t) t.val))

/-- The grid has thirty-two points. -/
theorem point_lt (t : Fin cfg0.N) : t.val < 32 := lt_of_lt_of_eq t.isLt N_0

/-- The batch of a point, the rows of its block, and the point of a row. -/
def bat (t : Fin cfg0.N) : Fin 4 := ⟨t.val / 8, by have := point_lt t; omega⟩
def row (t : Fin cfg0.N) (r : Fin 512) : Fin 4096 := ⟨t.val % 8 * 512 + r.val, by omega⟩
def point (b : Fin 4) (n : Fin 4096) : Fin cfg0.N := ⟨b.val * 8 + n.val / 512, by rw [show cfg0.N = 32 from N_0]; omega⟩

section Given

variable (m : (ℓ : Loc nD τ sig) → Buf (Elt Ideal) ℓ) (c : Dev nD) (t : Fin cfg0.N)

theorem iblk_x (r : Fin 512) (d : Fin 1024) : (iblk m c 0 t : Vec Ideal S1x512x1024 .f32) (ix3 0 r d)
    = (m ((c : Thread nD τ).loc main_arg0) : FVec Ideal S4x4096x1024 .f32) (ix3 (bat t) (row t r) d) := by
  refine Eq.trans (congrArg (V m c main_arg0) (funext fun a => Fin.ext ?_) : _ = V m c main_arg0 (ix3 (bat t) (row t r) d)) (congrFun (V_main_arg0 m c) _)
  have h := (given t).1
  match a with
  | ⟨0, _⟩ => show win0_0.index t 0 * 1 + 1 * 0 = t.val / 8; rw [h.1]; omega
  | ⟨1, _⟩ => show win0_0.index t 1 * 512 + 1 * r.val = t.val % 8 * 512 + r.val; rw [h.2.1]; omega
  | ⟨2, _⟩ => show win0_0.index t 2 * 1024 + 1 * d.val = d.val; rw [h.2.2]; omega

theorem iblk_shift (d : Fin 1024) : (iblk m c 1 t : Vec Ideal S1x1x1024 .f32) (ix3 0 0 d)
    = (m ((c : Thread nD τ).loc main_arg1) : FVec Ideal S4x1x1024 .f32) (ix3 (bat t) 0 d) := by
  refine Eq.trans (congrArg (V m c main_arg1) (funext fun a => Fin.ext ?_) : _ = V m c main_arg1 (ix3 (bat t) 0 d)) (congrFun (V_main_arg1 m c) _)
  have h := (given t).2.1.1
  match a with
  | ⟨0, _⟩ => show win0_1.index t 0 * 1 + 1 * 0 = t.val / 8; rw [h.1]; omega
  | ⟨1, _⟩ => show win0_1.index t 1 * 1 + 1 * 0 = 0; rw [h.2.1]
  | ⟨2, _⟩ => show win0_1.index t 2 * 1024 + 1 * d.val = d.val; rw [h.2.2]; omega

theorem iblk_scale (d : Fin 1024) : (iblk m c 2 t : Vec Ideal S1x1x1024 .f32) (ix3 0 0 d)
    = (m ((c : Thread nD τ).loc main_arg2) : FVec Ideal S4x1x1024 .f32) (ix3 (bat t) 0 d) := by
  refine Eq.trans (congrArg (V m c main_arg2) (funext fun a => Fin.ext ?_) : _ = V m c main_arg2 (ix3 (bat t) 0 d)) (congrFun (V_main_arg2 m c) _)
  have h := (given t).2.1.2
  match a with
  | ⟨0, _⟩ => show win0_2.index t 0 * 1 + 1 * 0 = t.val / 8; rw [h.1]; omega
  | ⟨1, _⟩ => show win0_2.index t 1 * 1 + 1 * 0 = 0; rw [h.2.1]
  | ⟨2, _⟩ => show win0_2.index t 2 * 1024 + 1 * d.val = d.val; rw [h.2.2]; omega

theorem iblk_g (d : Fin 1024) : (iblk m c 3 t : Vec Ideal S1x1024 .f32) (ix2 0 d)
    = (m ((c : Thread nD τ).loc main_arg3) : FVec Ideal S1024 .f32) (ix1 d) := by
  refine Eq.trans (congrArg (V m c main_v21) (funext fun a => Fin.ext ?_) : _ = V m c main_v21 (ix2 0 d)) (entry_g m c d)
  have h := (given t).2.2.1.1
  match a with
  | ⟨0, _⟩ => show win0_3.index t 0 * 1 + 1 * 0 = 0; rw [h.1]
  | ⟨1, _⟩ => show win0_3.index t 1 * 1024 + 1 * d.val = d.val; rw [h.2]; omega

theorem iblk_w (d : Fin 1024) (k : Fin 2560) : (iblk m c 4 t : Vec Ideal S1024x2560 .bf16) (ix2 d k)
    = (m ((c : Thread nD τ).loc main_arg4) : FVec Ideal S1024x2560 .f32) (ix2 d (source k)) := by
  refine Eq.trans (congrArg (V m c main_v5) (funext fun a => Fin.ext ?_) : _ = V m c main_v5 (ix2 d k)) (entry_w m c d k)
  have h := (given t).2.2.1.2
  match a with
  | ⟨0, _⟩ => show win0_4.index t 0 * 1024 + 1 * d.val = d.val; rw [h.1]; omega
  | ⟨1, _⟩ => show win0_4.index t 1 * 2560 + 1 * k.val = k.val; rw [h.2]; omega

theorem iblk_cos (r : Fin 512) (e : Fin 2) (i : Fin 64) : (iblk m c 5 t : Vec Ideal S512x128 .f32) (ix2 r (lane e i))
    = (m ((c : Thread nD τ).loc main_arg5) : FVec Ideal S4096x64 .f32) (ix2 (row t r) i) := by
  refine Eq.trans (congrArg (V m c main_v18) (funext fun a => Fin.ext ?_) : _ = V m c main_v18 (ix2 (row t r) (lane e i))) (entry_cos m c _ e i)
  have h := (given t).2.2.2.1.1
  match a with
  | ⟨0, _⟩ => show win0_5.index t 0 * 512 + 1 * r.val = t.val % 8 * 512 + r.val; rw [h.1]; omega
  | ⟨1, _⟩ => show win0_5.index t 1 * 128 + 1 * (lane e i).val = (lane e i).val; rw [h.2]; omega

theorem iblk_sin (r : Fin 512) (j : Fin 128) : (iblk m c 6 t : Vec Ideal S512x128 .f32) (ix2 r j)
    = signed (m ((c : Thread nD τ).loc main_arg6) : FVec Ideal S4096x64 .f32) (ix2 (row t r) j) := by
  refine Eq.trans (congrArg (V m c main_v20) (funext fun a => Fin.ext ?_) : _ = V m c main_v20 (ix2 (row t r) j)) (congrFun (entry_sin m c) _)
  have h := (given t).2.2.2.1.2
  match a with
  | ⟨0, _⟩ => show win0_6.index t 0 * 512 + 1 * r.val = t.val % 8 * 512 + r.val; rw [h.1]; omega
  | ⟨1, _⟩ => show win0_6.index t 1 * 128 + 1 * j.val = j.val; rw [h.2]; omega

theorem iblk_qg (j : Fin 128) : (iblk m c 7 t : Vec Ideal S1x128 .f32) (ix2 0 j)
    = (m ((c : Thread nD τ).loc main_arg7) : FVec Ideal S128 .f32) (ix1 (held j)) := by
  refine Eq.trans (congrArg (V m c main_v11) (funext fun a => Fin.ext ?_) : _ = V m c main_v11 (ix2 0 j)) (entry_qg m c j)
  have h := (given t).2.2.2.2.1
  match a with
  | ⟨0, _⟩ => show win0_7.index t 0 * 1 + 1 * 0 = 0; rw [h.1]
  | ⟨1, _⟩ => show win0_7.index t 1 * 128 + 1 * j.val = j.val; rw [h.2]; omega

theorem iblk_kg (j : Fin 128) : (iblk m c 8 t : Vec Ideal S1x128 .f32) (ix2 0 j)
    = (m ((c : Thread nD τ).loc main_arg8) : FVec Ideal S128 .f32) (ix1 (held j)) := by
  refine Eq.trans (congrArg (V m c main_v17) (funext fun a => Fin.ext ?_) : _ = V m c main_v17 (ix2 0 j)) (entry_kg m c j)
  have h := (given t).2.2.2.2.2
  match a with
  | ⟨0, _⟩ => show win0_8.index t 0 * 1 + 1 * 0 = 0; rw [h.1]
  | ⟨1, _⟩ => show win0_8.index t 1 * 128 + 1 * j.val = j.val; rw [h.2]; omega

end Given

section Left

variable {α : Type} {W : ℕ}

/-- An index of one batch. -/
theorem eta3 {B : ℕ} (y : (⟨3, ![1, B, W]⟩ : Shape).Idx) : y = ix3 (0 : Fin 1) (y 1) (y 2) := funext fun a => by
  match a with
  | ⟨0, _⟩ => exact Fin.ext (by have h : (y 0).val < 1 := (y 0).isLt; show (y 0).val = 0; omega)
  | ⟨1, _⟩ => rfl
  | ⟨2, _⟩ => rfl

/-- An array read where a window of row blocks lies. -/
theorem at_block (f : Fin 3 → ℕ) (t : Fin cfg0.N) (hf : Rows f t.val) (A : (⟨3, ![4, 4096, W]⟩ : Shape).Idx → α) (r : Fin 512) (k : Fin W)
    (j : (⟨3, ![4, 4096, W]⟩ : Shape).Idx) (h0 : (j 0).val = f 0 * 1 + 1 * 0) (h1 : (j 1).val = f 1 * 512 + 1 * r.val)
    (h2 : (j 2).val = f 2 * W + 1 * k.val) : A j = A (ix3 (bat t) (row t r) k) := by
  refine congrArg A (funext fun a => Fin.ext ?_)
  match a with
  | ⟨0, _⟩ => show (j 0).val = t.val / 8; rw [h0, hf.1]; omega
  | ⟨1, _⟩ => show (j 1).val = t.val % 8 * 512 + r.val; rw [h1, hf.2.1]; omega
  | ⟨2, _⟩ => show (j 2).val = k.val; rw [h2, hf.2.2]; omega

/-- An index lies in the block of its row's point. -/
theorem within (f : Fin 3 → ℕ) (i : (⟨3, ![4, 4096, W]⟩ : Shape).Idx) (hf : Rows f (point (i 0) (i 1)).val) (a : Fin 3) :
    f a * (![1, 512, W] : Fin 3 → ℕ) a ≤ (i a).val ∧ (i a).val < f a * (![1, 512, W] : Fin 3 → ℕ) a + (![1, 512, W] : Fin 3 → ℕ) a := by
  have e : (point (i 0) (i 1)).val = (i 0).val * 8 + (i 1).val / 512 := rfl
  have h1 : (i 1).val < 4096 := (i 1).isLt
  have h2 : (i 2).val < W := (i 2).isLt
  rw [e] at hf
  match a with
  | ⟨0, _⟩ => show f 0 * 1 ≤ (i 0).val ∧ (i 0).val < f 0 * 1 + 1; rw [hf.1]; omega
  | ⟨1, _⟩ => show f 1 * 512 ≤ (i 1).val ∧ (i 1).val < f 1 * 512 + 512; rw [hf.2.1]; omega
  | ⟨2, _⟩ => show f 2 * W ≤ (i 2).val ∧ (i 2).val < f 2 * W + W; rw [hf.2.2]; omega

end Left

section Results

variable (t : Fin cfg0.N) (r : Fin 512)

theorem blk9 (A : FVec Ideal S4x4096x512 .bf16) (k : Fin 512) : (((cfg0.win 9).blk t).view.read (Elt Ideal) A : Vec Ideal S1x512x512 .bf16) (ix3 0 r k)
    = A (ix3 (bat t) (row t r) k) := at_block (win0_9.index t) t (left t).1.1 A r k _ rfl rfl rfl

theorem blk10 (A : FVec Ideal S4x4096x512 .bf16) (k : Fin 512) : (((cfg0.win 10).blk t).view.read (Elt Ideal) A : Vec Ideal S1x512x512 .bf16) (ix3 0 r k)
    = A (ix3 (bat t) (row t r) k) := at_block (win0_10.index t) t (left t).1.2 A r k _ rfl rfl rfl

theorem blk11 (A : FVec Ideal S4x4096x256 .bf16) (k : Fin 256) : (((cfg0.win 11).blk t).view.read (Elt Ideal) A : Vec Ideal S1x512x256 .bf16) (ix3 0 r k)
    = A (ix3 (bat t) (row t r) k) := at_block (win0_11.index t) t (left t).2.1.1 A r k _ rfl rfl rfl

theorem blk12 (A : FVec Ideal S4x4096x256 .bf16) (k : Fin 256) : (((cfg0.win 12).blk t).view.read (Elt Ideal) A : Vec Ideal S1x512x256 .bf16) (ix3 0 r k)
    = A (ix3 (bat t) (row t r) k) := at_block (win0_12.index t) t (left t).2.1.2 A r k _ rfl rfl rfl

theorem blk13 (A : FVec Ideal S4x4096x512 .bf16) (k : Fin 512) : (((cfg0.win 13).blk t).view.read (Elt Ideal) A : Vec Ideal S1x512x512 .bf16) (ix3 0 r k)
    = A (ix3 (bat t) (row t r) k) := at_block (win0_13.index t) t (left t).2.2.1 A r k _ rfl rfl rfl

theorem blk14 (A : FVec Ideal S4x4096x512 .bf16) (k : Fin 512) : (((cfg0.win 14).blk t).view.read (Elt Ideal) A : Vec Ideal S1x512x512 .bf16) (ix3 0 r k)
    = A (ix3 (bat t) (row t r) k) := at_block (win0_14.index t) t (left t).2.2.2 A r k _ rfl rfl rfl

theorem cover9 (i : S4x4096x512.Idx) : ∃ t : Fin cfg0.N, (cfg0.win 9).flush t = true ∧ i ∈ ((cfg0.win 9).blk t).view.set := by
  refine ⟨point (i 0) (i 1), flush0_9 _, ?_⟩
  show i ∈ ((View.whole main_v22_0).slice (win0_9.rect (point (i 0) (i 1)))).set
  rw [View.set_slice_whole, Rect.mem_set_unit]
  exact within (win0_9.index (point (i 0) (i 1))) i (left _).1.1

theorem cover10 (i : S4x4096x512.Idx) : ∃ t : Fin cfg0.N, (cfg0.win 10).flush t = true ∧ i ∈ ((cfg0.win 10).blk t).view.set := by
  refine ⟨point (i 0) (i 1), flush0_10 _, ?_⟩
  show i ∈ ((View.whole main_v22_1).slice (win0_10.rect (point (i 0) (i 1)))).set
  rw [View.set_slice_whole, Rect.mem_set_unit]
  exact within (win0_10.index (point (i 0) (i 1))) i (left _).1.2

theorem cover11 (i : S4x4096x256.Idx) : ∃ t : Fin cfg0.N, (cfg0.win 11).flush t = true ∧ i ∈ ((cfg0.win 11).blk t).view.set := by
  refine ⟨point (i 0) (i 1), flush0_11 _, ?_⟩
  show i ∈ ((View.whole main_v22_2).slice (win0_11.rect (point (i 0) (i 1)))).set
  rw [View.set_slice_whole, Rect.mem_set_unit]
  exact within (win0_11.index (point (i 0) (i 1))) i (left _).2.1.1

theorem cover12 (i : S4x4096x256.Idx) : ∃ t : Fin cfg0.N, (cfg0.win 12).flush t = true ∧ i ∈ ((cfg0.win 12).blk t).view.set := by
  refine ⟨point (i 0) (i 1), flush0_12 _, ?_⟩
  show i ∈ ((View.whole main_v22_3).slice (win0_12.rect (point (i 0) (i 1)))).set
  rw [View.set_slice_whole, Rect.mem_set_unit]
  exact within (win0_12.index (point (i 0) (i 1))) i (left _).2.1.2

theorem cover13 (i : S4x4096x512.Idx) : ∃ t : Fin cfg0.N, (cfg0.win 13).flush t = true ∧ i ∈ ((cfg0.win 13).blk t).view.set := by
  refine ⟨point (i 0) (i 1), flush0_13 _, ?_⟩
  show i ∈ ((View.whole main_v22_4).slice (win0_13.rect (point (i 0) (i 1)))).set
  rw [View.set_slice_whole, Rect.mem_set_unit]
  exact within (win0_13.index (point (i 0) (i 1))) i (left _).2.2.1

theorem cover14 (i : S4x4096x512.Idx) : ∃ t : Fin cfg0.N, (cfg0.win 14).flush t = true ∧ i ∈ ((cfg0.win 14).blk t).view.set := by
  refine ⟨point (i 0) (i 1), flush0_14 _, ?_⟩
  show i ∈ ((View.whole main_v22_5).slice (win0_14.rect (point (i 0) (i 1)))).set
  rw [View.set_slice_whole, Rect.mem_set_unit]
  exact within (win0_14.index (point (i 0) (i 1))) i (left _).2.2.2

end Results

end Cert.ProjIdeal.Val

end
-- ==== Proof.Proj.Equal.lean ====
/-
  The latent projections: every block the launch writes is the plain program's result there, so each of its six results is the
  plain program's.
-/
module

public import proofs.«01_k».proof.Proof.Proj.Reference
public import proofs.«01_k».proof.Proof.Proj.Rotated
public import proofs.«01_k».proof.Proof.Proj.Blocks

@[expose] public section

noncomputable section

open scoped BigOperators
open Idealize.ShloMosaic Idealize.ShloMosaic.TcCoe Idealize.SL.Sem

namespace Cert.ProjIdeal.Val

open Cert.ProjIdeal Cert.ProjIdeal.Gen Cert.ProjRow
open Cert.ProjRefIdeal.Val (projected queries keys plainQueries values plainKeys plainValues)

/-- A modulated row depends on its values alone. -/
theorem modul_congr {x x' g g' s s' c c' : Fin 1024 → EReal} (hx : ∀ e, x e = x' e) (hg : ∀ e, g e = g' e) (hs : ∀ e, s e = s' e) (hc : ∀ e, c e = c' e)
    (d : Fin 1024) : FfnRow.modul x g s c d = FfnRow.modul x' g' s' c' d := by
  rw [funext hx, funext hg, funext hs, funext hc]

/-- A rotated lane depends on the values alone. -/
theorem rolled_congr {p p' g g' : Fin 128 → EReal} (hp : ∀ e, p e = p' e) (hg : ∀ e, g e = g' e) (x y : Fin 128 → EReal) (j : Fin 128) :
    rolled p g x y j = rolled p' g' x y j := by
  rw [funext hp, funext hg]

variable (m : (ℓ : Loc nD τ sig) → Buf (Elt Ideal) ℓ) (c : Dev nD)

/-- The plain product of the arguments device `c` holds. -/
def whole : FVec Ideal Cert.ProjRefIdeal.S4x4096x2560 .f32 :=
  projected (m ((c : Thread nD τ).loc main_arg0)) (m ((c : Thread nD τ).loc main_arg1)) (m ((c : Thread nD τ).loc main_arg2))
    (m ((c : Thread nD τ).loc main_arg3)) (m ((c : Thread nD τ).loc main_arg4))

variable (t : Fin cfg0.N)

/-- A block's product is the plain product's, the columns reordered. -/
theorem prod_eq (r : Fin 512) (k : Fin 2560) : prod (iblk m c 0 t) (iblk m c 1 t) (iblk m c 2 t) (iblk m c 3 t) (iblk m c 4 t) r k
    = whole m c (ix3 (bat t) (row t r) (source k)) := by
  unfold whole prod
  rw [ProjRefIdeal.Val.projected_apply]
  exact Finset.sum_congr rfl fun d _ => congrArg₂ (fun s w : EReal => s * w)
    (modul_congr (fun e => iblk_x m c t r e) (fun e => iblk_g m c t e) (fun e => iblk_shift m c t e) (fun e => iblk_scale m c t e) d) (iblk_w m c t d k)

/-- Outside the rotated heads the columns are not reordered. -/
theorem prod_other (r : Fin 512) (k : Fin 2560) (h : ¬(k.val < 512 ∨ (1024 ≤ k.val ∧ k.val < 1280))) :
    prod (iblk m c 0 t) (iblk m c 1 t) (iblk m c 2 t) (iblk m c 3 t) (iblk m c 4 t) r k = whole m c (ix3 (bat t) (row t r) k) := by
  rw [prod_eq, source_other k h]

/-- A block's rotated lane is the plain rotation's channel. -/
theorem lanes_eq (o : ℕ) (ho : o + 128 ≤ 2560) (hd : o % 128 = 0) (h : o < 512 ∨ (1024 ≤ o ∧ o < 1280)) (g : Vec Ideal S1x128 .f32) (g' : FVec Ideal S128 .f32)
    (hg : ∀ e, g (ix2 0 e) = g' (ix1 (held e))) (k : EReal) (r : Fin 512) (e : Fin 2) (i : Fin 64) :
    lanes (iblk m c 0 t) (iblk m c 1 t) (iblk m c 2 t) (iblk m c 3 t) (iblk m c 4 t) (iblk m c 5 t) (iblk m c 6 t) o ho g k r (lane e i)
      = turned (fun j => whole m c (ix3 (bat t) (row t r) ⟨o + j.val, by omega⟩)) (fun j => g' (ix1 j))
          (fun i => (m ((c : Thread nD τ).loc main_arg5) : FVec Ideal S4096x64 .f32) (ix2 (row t r) i))
          (fun i => (m ((c : Thread nD τ).loc main_arg6) : FVec Ideal S4096x64 .f32) (ix2 (row t r) i)) e i * k := by
  have hx : ∀ (e : Fin 2) (i : Fin 64), (iblk m c 5 t : Vec Ideal S512x128 .f32) (ix2 r (lane e i))
      = (m ((c : Thread nD τ).loc main_arg5) : FVec Ideal S4096x64 .f32) (ix2 (row t r) i) := fun e i => iblk_cos m c t r e i
  have h0 : ∀ i : Fin 64, (iblk m c 6 t : Vec Ideal S512x128 .f32) (ix2 r (lane 0 i))
      = @Neg.neg EReal _ ((m ((c : Thread nD τ).loc main_arg6) : FVec Ideal S4096x64 .f32) (ix2 (row t r) i)) := fun i => by
    rw [iblk_sin, signed_first]
  have h1 : ∀ i : Fin 64, (iblk m c 6 t : Vec Ideal S512x128 .f32) (ix2 r (lane 1 i))
      = (m ((c : Thread nD τ).loc main_arg6) : FVec Ideal S4096x64 .f32) (ix2 (row t r) i) := fun i => by
    rw [iblk_sin, signed_second]
  have hp : ∀ j : Fin 128, prod (iblk m c 0 t) (iblk m c 1 t) (iblk m c 2 t) (iblk m c 3 t) (iblk m c 4 t) r ⟨o + j.val, by omega⟩
      = whole m c (ix3 (bat t) (row t r) ⟨o + (held j).val, by omega⟩) := fun j => by
    rw [prod_eq]
    exact congrArg (fun k => whole m c (ix3 (bat t) (row t r) k)) (Fin.ext (source_head o hd h j ⟨o + j.val, by omega⟩ rfl))
  have hr := rolled_eq (fun j => whole m c (ix3 (bat t) (row t r) ⟨o + j.val, by omega⟩)) (fun j => g' (ix1 j))
    (fun i => (m ((c : Thread nD τ).loc main_arg5) : FVec Ideal S4096x64 .f32) (ix2 (row t r) i))
    (fun i => (m ((c : Thread nD τ).loc main_arg6) : FVec Ideal S4096x64 .f32) (ix2 (row t r) i))
    (fun j => (iblk m c 5 t : Vec Ideal S512x128 .f32) (ix2 r j)) (fun j => (iblk m c 6 t : Vec Ideal S512x128 .f32) (ix2 r j)) hx h0 h1 e i
  have hl := rolled_congr hp hg (fun j => (iblk m c 5 t : Vec Ideal S512x128 .f32) (ix2 r j)) (fun j => (iblk m c 6 t : Vec Ideal S512x128 .f32) (ix2 r j)) (lane e i)
  exact congrArg (fun s : EReal => s * k) (hl.trans hr)

/-- A number below 128 as a half's lane. -/
theorem lane_split (a : ℕ) (h : a < 128) : (⟨a, h⟩ : Fin 128) = lane ⟨a / 64, by omega⟩ ⟨a % 64, Nat.mod_lt _ (by omega)⟩ :=
  Fin.ext (by show a = a / 64 * 64 + a % 64; omega)

/-- The six results of the arguments device `c` holds. -/
def target9 : FVec Ideal S4x4096x512 .bf16 :=
  queries (whole m c) (m ((c : Thread nD τ).loc main_arg7)) (m ((c : Thread nD τ).loc main_arg5)) (m ((c : Thread nD τ).loc main_arg6))
def target10 : FVec Ideal S4x4096x512 .bf16 := plainQueries (whole m c)
def target11 : FVec Ideal S4x4096x256 .bf16 :=
  keys (whole m c) (m ((c : Thread nD τ).loc main_arg8)) (m ((c : Thread nD τ).loc main_arg5)) (m ((c : Thread nD τ).loc main_arg6))
def target12 : FVec Ideal S4x4096x256 .bf16 := values (whole m c)
def target13 : FVec Ideal S4x4096x512 .bf16 := plainKeys (whole m c)
def target14 : FVec Ideal S4x4096x512 .bf16 := plainValues (whole m c)

/-- The rotated queries' block. -/
theorem block9 (r : Fin 512) (k : Fin 512) : out0_9 (iblk m c 0 t) (iblk m c 1 t) (iblk m c 2 t) (iblk m c 3 t) (iblk m c 4 t) (iblk m c 5 t) (iblk m c 6 t)
    (iblk m c 7 t) (iblk m c 8 t) (ix3 0 r k) = target9 m c (ix3 (bat t) (row t r) k) := by
  have hk := k.isLt
  have e := lane_split (k.val % 128) (Nat.mod_lt _ (by omega))
  rw [out9_eq]
  refine (lanes_congr _ _ _ _ _ _ _ (o' := k.val / 128 * 128) _ (by omega) rfl _ _ (rfl : _ = r) e).trans ?_
  refine (lanes_eq m c t (k.val / 128 * 128) (by omega) (by omega) (by omega) _ _ (fun j => iblk_qg m c t j) _ r _ _).trans ?_
  unfold target9
  exact (ProjRefIdeal.Val.queries_apply (whole m c) _ _ _ (bat t) (row t r) ⟨k.val / 128, by omega⟩ _ _ k
    (by rw [← e]; show k.val = k.val / 128 * 128 + k.val % 128; omega) (fun j => ⟨k.val / 128 * 128 + j.val, by omega⟩) fun _ => rfl).symm

/-- The rotated keys' block. -/
theorem block11 (r : Fin 512) (k : Fin 256) : out0_11 (iblk m c 0 t) (iblk m c 1 t) (iblk m c 2 t) (iblk m c 3 t) (iblk m c 4 t) (iblk m c 5 t) (iblk m c 6 t)
    (iblk m c 7 t) (iblk m c 8 t) (ix3 0 r k) = target11 m c (ix3 (bat t) (row t r) k) := by
  have hk := k.isLt
  have e := lane_split (k.val % 128) (Nat.mod_lt _ (by omega))
  rw [out11_eq]
  refine (lanes_congr _ _ _ _ _ _ _ (o' := 1024 + k.val / 128 * 128) _ (by omega) rfl _ _ (rfl : _ = r) e).trans ?_
  refine (lanes_eq m c t (1024 + k.val / 128 * 128) (by omega) (by omega) (by omega) _ _ (fun j => iblk_kg m c t j) _ r _ _).trans ?_
  rw [mul_one]
  unfold target11
  exact (ProjRefIdeal.Val.keys_apply (whole m c) _ _ _ (bat t) (row t r) ⟨k.val / 128, by omega⟩ _ _ k
    (by rw [← e]; show k.val = k.val / 128 * 128 + k.val % 128; omega) (fun j => ⟨1024 + k.val / 128 * 128 + j.val, by omega⟩)
    fun j => by show 1024 + k.val / 128 * 128 + j.val = 1024 + (k.val / 128 * 128 + j.val); omega).symm

/-- The other queries' block. -/
theorem block10 (r : Fin 512) (k : Fin 512) : out0_10 (iblk m c 0 t) (iblk m c 1 t) (iblk m c 2 t) (iblk m c 3 t) (iblk m c 4 t) (iblk m c 5 t) (iblk m c 6 t)
    (iblk m c 7 t) (iblk m c 8 t) (ix3 0 r k) = target10 m c (ix3 (bat t) (row t r) k) := by
  have hk := k.isLt
  refine (out10_apply _ _ _ _ _ _ _ _ _ r k ⟨512 + k.val, by omega⟩ rfl).trans ?_
  rw [prod_other m c t r _ (by show ¬(512 + k.val < 512 ∨ (1024 ≤ 512 + k.val ∧ 512 + k.val < 1280)); omega)]
  exact (ProjRefIdeal.Val.plainQueries_apply (whole m c) (bat t) (row t r) k _ rfl).symm

/-- The rotated keys' values' block. -/
theorem block12 (r : Fin 512) (k : Fin 256) : out0_12 (iblk m c 0 t) (iblk m c 1 t) (iblk m c 2 t) (iblk m c 3 t) (iblk m c 4 t) (iblk m c 5 t) (iblk m c 6 t)
    (iblk m c 7 t) (iblk m c 8 t) (ix3 0 r k) = target12 m c (ix3 (bat t) (row t r) k) := by
  have hk := k.isLt
  refine (out12_apply _ _ _ _ _ _ _ _ _ r k ⟨1280 + k.val, by omega⟩ rfl).trans ?_
  rw [prod_other m c t r _ (by show ¬(1280 + k.val < 512 ∨ (1024 ≤ 1280 + k.val ∧ 1280 + k.val < 1280)); omega)]
  exact (ProjRefIdeal.Val.values_apply (whole m c) (bat t) (row t r) k _ rfl).symm

/-- The other keys' block. -/
theorem block13 (r : Fin 512) (k : Fin 512) : out0_13 (iblk m c 0 t) (iblk m c 1 t) (iblk m c 2 t) (iblk m c 3 t) (iblk m c 4 t) (iblk m c 5 t) (iblk m c 6 t)
    (iblk m c 7 t) (iblk m c 8 t) (ix3 0 r k) = target13 m c (ix3 (bat t) (row t r) k) := by
  have hk := k.isLt
  refine (out13_apply _ _ _ _ _ _ _ _ _ r k ⟨1536 + k.val, by omega⟩ rfl).trans ?_
  rw [prod_other m c t r _ (by show ¬(1536 + k.val < 512 ∨ (1024 ≤ 1536 + k.val ∧ 1536 + k.val < 1280)); omega)]
  exact (ProjRefIdeal.Val.plainKeys_apply (whole m c) (bat t) (row t r) k _ rfl).symm

/-- The other values' block. -/
theorem block14 (r : Fin 512) (k : Fin 512) : out0_14 (iblk m c 0 t) (iblk m c 1 t) (iblk m c 2 t) (iblk m c 3 t) (iblk m c 4 t) (iblk m c 5 t) (iblk m c 6 t)
    (iblk m c 7 t) (iblk m c 8 t) (ix3 0 r k) = target14 m c (ix3 (bat t) (row t r) k) := by
  have hk := k.isLt
  refine (out14_apply _ _ _ _ _ _ _ _ _ r k ⟨2048 + k.val, by omega⟩ rfl).trans ?_
  rw [prod_other m c t r _ (by show ¬(2048 + k.val < 512 ∨ (1024 ≤ 2048 + k.val ∧ 2048 + k.val < 1280)); omega)]
  exact (ProjRefIdeal.Val.plainValues_apply (whole m c) (bat t) (row t r) k _ rfl).symm

/-- The result arrays after the run. -/
theorem final9 : (dats m 0 c).arrAt 9 cfg0.N = target9 m c :=
  (dats m 0 c).arrAt_eq_of_cover 9 (target9 m c) (fun t _ => by
    rw [Value.flushed9]
    funext (y : S1x512x512.Idx)
    rw [eta3 y]
    exact (block9 m c t (y 1) (y 2)).trans (blk9 t (y 1) (target9 m c) (y 2)).symm) cover9

theorem final10 : (dats m 0 c).arrAt 10 cfg0.N = target10 m c :=
  (dats m 0 c).arrAt_eq_of_cover 10 (target10 m c) (fun t _ => by
    rw [Value.flushed10]
    funext (y : S1x512x512.Idx)
    rw [eta3 y]
    exact (block10 m c t (y 1) (y 2)).trans (blk10 t (y 1) (target10 m c) (y 2)).symm) cover10

theorem final11 : (dats m 0 c).arrAt 11 cfg0.N = target11 m c :=
  (dats m 0 c).arrAt_eq_of_cover 11 (target11 m c) (fun t _ => by
    rw [Value.flushed11]
    funext (y : S1x512x256.Idx)
    rw [eta3 y]
    exact (block11 m c t (y 1) (y 2)).trans (blk11 t (y 1) (target11 m c) (y 2)).symm) cover11

theorem final12 : (dats m 0 c).arrAt 12 cfg0.N = target12 m c :=
  (dats m 0 c).arrAt_eq_of_cover 12 (target12 m c) (fun t _ => by
    rw [Value.flushed12]
    funext (y : S1x512x256.Idx)
    rw [eta3 y]
    exact (block12 m c t (y 1) (y 2)).trans (blk12 t (y 1) (target12 m c) (y 2)).symm) cover12

theorem final13 : (dats m 0 c).arrAt 13 cfg0.N = target13 m c :=
  (dats m 0 c).arrAt_eq_of_cover 13 (target13 m c) (fun t _ => by
    rw [Value.flushed13]
    funext (y : S1x512x512.Idx)
    rw [eta3 y]
    exact (block13 m c t (y 1) (y 2)).trans (blk13 t (y 1) (target13 m c) (y 2)).symm) cover13

theorem final14 : (dats m 0 c).arrAt 14 cfg0.N = target14 m c :=
  (dats m 0 c).arrAt_eq_of_cover 14 (target14 m c) (fun t _ => by
    rw [Value.flushed14]
    funext (y : S1x512x512.Idx)
    rw [eta3 y]
    exact (block14 m c t (y 1) (y 2)).trans (blk14 t (y 1) (target14 m c) (y 2)).symm) cover14

end Cert.ProjIdeal.Val

end
-- ==== Proof.Proj.Claims.lean ====
module

public import proofs.«01_k».proof.Defs
public import proofs.«01_k».proof.Proof.Gen.Proj.Frame
public import proofs.«01_k».proof.Proof.Gen.ProjIdeal.Frame
public import proofs.«01_k».proof.Proof.Proj.Results
public import proofs.«01_k».proof.Proof.Proj.Equal
public import Idealize.ShloMosaic.Adequacy
public import Idealize.ShloMosaic.Init

@[expose] public section

/-!
# The latent projections: their claims
-/

noncomputable section

namespace Cert.ProjClaims

open Idealize Idealize.ShloMosaic
open Cert.ProjIdeal.Val Cert.ProjRefIdeal.Val

/-- The plain projections' program runs, keeps its arguments, and leaves every semaphore at zero. -/
theorem frame_ref : Cert.quiescent_ProjRefIdeal (hProjRefIdeal := Cert.ProjRefIdeal.Gen.facts) := fun m ρ _ =>
  (θ_run Cert.ProjRefIdeal.defs _ _).mono
    (fun r h => ⟨fun c => (h c).2.2.2.2.2.2, Idealize.ShloMosaic.sem_eq_zero_of_no_sems (by decide) r.2⟩)
    (Cert.ProjRefIdeal.Value.run (F := Ideal) m ρ)

/-- The projections' call and the plain program end with the same six results. -/
theorem equal : Cert.algebraic_ProjIdeal_ProjRefIdeal (hProjIdeal := Cert.ProjIdeal.Gen.facts)
    (hProjRefIdeal := Cert.ProjRefIdeal.Gen.facts) := by
  intro m ρ m' ρ' hpre hagree
  refine ⟨fun c => target9 m c, fun c => target10 m c, fun c => target11 m c, fun c => target12 m c, fun c => target13 m c,
    fun c => target14 m c, ?_, ?_⟩
  · exact (θ_run Cert.ProjIdeal.defs _ _).mono
      (fun _ h c => ⟨(h c).1.trans (final9 m c), (h c).2.1.trans (final10 m c), (h c).2.2.1.trans (final11 m c),
        (h c).2.2.2.1.trans (final12 m c), (h c).2.2.2.2.1.trans (final13 m c), (h c).2.2.2.2.2.1.trans (final14 m c),
        (h c).2.2.2.2.2.2⟩)
      (Cert.ProjIdeal.Value.run_blocks (F := Ideal) m ρ)
  · have hw : ∀ c, product m' c = whole m c := fun c => by
      obtain ⟨h0, h1, h2, h3, h4, -⟩ := hagree c
      unfold product whole
      rw [h0, h1, h2, h3, h4]
    refine (θ_run Cert.ProjRefIdeal.defs _ _).mono (fun _ h c => ⟨((h c).1.trans (queries_eq m' c)).trans ?_,
        (h c).2.1.trans (congrArg plainQueries (hw c)),
        ((h c).2.2.1.trans (keys_eq m' c)).trans ?_,
        (h c).2.2.2.1.trans (congrArg values (hw c)),
        (h c).2.2.2.2.1.trans (congrArg plainKeys (hw c)),
        (h c).2.2.2.2.2.1.trans (congrArg plainValues (hw c)), (h c).2.2.2.2.2.2⟩)
      (Cert.ProjRefIdeal.Value.run (F := Ideal) m' ρ')
    all_goals
      obtain ⟨-, -, -, -, -, h5, h6, h7, h8⟩ := hagree c
      rw [hw c]
    · rw [h5, h6, h7]
      rfl
    · rw [h5, h6, h8]
      rfl

end Cert.ProjClaims
-- ==== Proof.lean ====
/-
  The proof of `Cert.Claim`: the claims of each call (Proof/Gqa, Proof/Ffn, Proof/FfnFirst, Proof/OutProj, Proof/AdaLn,
  Proof/Proj), put together in the order of Defs.lean.
-/
module

public import proofs.«01_k».proof.Defs
public import proofs.«01_k».proof.Proof.Gqa.Claims
public import proofs.«01_k».proof.Proof.Ffn.Claims
public import proofs.«01_k».proof.Proof.FfnFirst.Claims
public import proofs.«01_k».proof.Proof.OutProj.Claims
public import proofs.«01_k».proof.Proof.AdaLn.Claims
public import proofs.«01_k».proof.Proof.Proj.Claims

@[expose] public section

noncomputable section

namespace Cert.Proof

open Idealize.ShloMosaic

/-- Every stated claim: the frames of the calls and of their references, and their equations. -/
theorem claim : Cert.Claim :=
  ⟨Cert.Gqa.Gen.facts, Cert.GqaIdeal.Gen.facts, Cert.GqaRefIdeal.Gen.facts,
   Cert.Ffn.Gen.facts, Cert.FfnIdeal.Gen.facts, Cert.FfnRefIdeal.Gen.facts,
   Cert.FfnFirst.Gen.facts, Cert.FfnFirstIdeal.Gen.facts, Cert.FfnFirstRefIdeal.Gen.facts,
   Cert.OutProj.Gen.facts, Cert.OutProjIdeal.Gen.facts, Cert.OutProjRefIdeal.Gen.facts,
   Cert.AdaLn.Gen.facts, Cert.AdaLnIdeal.Gen.facts, Cert.AdaLnRefIdeal.Gen.facts,
   Cert.Proj.Gen.facts, Cert.ProjIdeal.Gen.facts, Cert.ProjRefIdeal.Gen.facts, Cert.Pre_finite.facts,
   fun m ρ _ => Cert.Gqa.Gen.frame m ρ,
   fun m ρ _ => Cert.GqaIdeal.Gen.frame m ρ,
   fun m ρ _ => Cert.GqaIdeal.Gen.frame m ρ,
   Cert.GqaClaims.frame_ref,
   fun m ρ _ => Cert.GqaClaims.frame_ref m ρ trivial,
   fun m ρ _ => Cert.Ffn.Gen.frame m ρ,
   fun m ρ _ => Cert.FfnIdeal.Gen.frame m ρ,
   Cert.FfnClaims.frame_ref,
   fun m ρ _ => Cert.FfnFirst.Gen.frame m ρ,
   fun m ρ _ => Cert.FfnFirstIdeal.Gen.frame m ρ,
   Cert.FfnFirstClaims.frame_ref,
   fun m ρ _ => Cert.OutProj.Gen.frame m ρ,
   fun m ρ _ => Cert.OutProjIdeal.Gen.frame m ρ,
   Cert.OutProjClaims.frame_ref,
   fun m ρ _ => Cert.AdaLn.Gen.frame m ρ,
   fun m ρ _ => Cert.AdaLnIdeal.Gen.frame m ρ,
   Cert.AdaLnClaims.frame_ref,
   fun m ρ _ => Cert.Proj.Gen.frame m ρ,
   fun m ρ _ => Cert.ProjIdeal.Gen.frame m ρ,
   Cert.ProjClaims.frame_ref,
   trivial,
   Cert.GqaClaims.equal,
   trivial,
   Cert.FfnClaims.equal,
   trivial,
   Cert.FfnFirstClaims.equal,
   trivial,
   Cert.OutProjClaims.equal,
   trivial,
   Cert.AdaLnClaims.equal,
   trivial,
   Cert.ProjClaims.equal⟩

end Cert.Proof

end
